-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def preserves_Kernel_KernelIdeal : Prop :=
  IdealRules.named_const.Statement Cert.KernelIdeal.κ "mask" .f32 0xFF7F0000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_v34) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "mask" .f32 0xFF7F0000#32 ⊥

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v63) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v47)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v47) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v73) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  IdealRules.named_const.Statement Cert.Kernel6Ideal.κ "mean" .f32 0x3BAAAAAB#32 ((1 / 192 : ℝ) : EReal)
  ∧ IdealRules.named_const.Statement Cert.Kernel6Ideal.κ "root" .f32 0x3DD53B95#32 ((((Real.sqrt 192) * (Real.log 2))⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v35_0)) (v1 : (c : Dev Cert.Kernel6Ideal.nD) → Buf (Elt Ideal) ((c.tc : Thread Cert.Kernel6Ideal.nD Cert.Kernel6Ideal.τ).loc Cert.Kernel6Ideal.main_v35_1)) (v2 : (c : Dev Cert.Kernel6Ideal.nD) → Buf (Elt Ideal) ((c.tc : Thread Cert.Kernel6Ideal.nD Cert.Kernel6Ideal.τ).loc Cert.Kernel6Ideal.main_v35_2)) (v3 : (c : Dev Cert.Kernel6Ideal.nD) → Buf (Elt Ideal) ((c.tc : Thread Cert.Kernel6Ideal.nD Cert.Kernel6Ideal.τ).loc Cert.Kernel6Ideal.main_v35_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v35_0) = v0 c
          ∧ r.2.mem ((c.tc : Thread Cert.Kernel6Ideal.nD Cert.Kernel6Ideal.τ).loc Cert.Kernel6Ideal.main_v35_1) = v1 c
          ∧ r.2.mem ((c.tc : Thread Cert.Kernel6Ideal.nD Cert.Kernel6Ideal.τ).loc Cert.Kernel6Ideal.main_v35_2) = v2 c
          ∧ r.2.mem ((c.tc : Thread Cert.Kernel6Ideal.nD Cert.Kernel6Ideal.τ).loc Cert.Kernel6Ideal.main_v35_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v135) = v0 c
          ∧ r.2.mem ((c.tc : Thread Cert.Reference6Ideal.nD Cert.Reference6Ideal.τ).loc Cert.Reference6Ideal.main_v137) = v1 c
          ∧ r.2.mem ((c.tc : Thread Cert.Reference6Ideal.nD Cert.Reference6Ideal.τ).loc Cert.Reference6Ideal.main_v139) = v2 c
          ∧ r.2.mem ((c.tc : Thread Cert.Reference6Ideal.nD Cert.Reference6Ideal.τ).loc Cert.Reference6Ideal.main_v141) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S16x2048x8x192 : Shape := ⟨4, ![16, 2048, 8, 192]⟩
abbrev S16x2048x8x128 : Shape := ⟨4, ![16, 2048, 8, 128]⟩
abbrev S_ : Shape := ⟨0, ![]⟩

class Facts : Prop where
  bcast_S_S16x2048x8x192 : S_.BroadcastsInDim S16x2048x8x192 (![] : Fin 0 → Fin S16x2048x8x192.rank)

variable [Facts]

def fn {F : FTy → Type} [FloatOps F] (main_arg0 : FVec F S16x2048x8x192 .f32) (main_arg1 : FVec F S16x2048x8x192 .f32) (main_arg2 : FVec F S16x2048x8x128 .f32) : IVec S16x2048x8x192 1 × IVec S16x2048x8x192 1 :=
  let main_v0 : FVec F S16x2048x8x192 .f32 := Host.absf main_arg0
  let main_cst : FVec F S_ .f32 := constant S_ .f32 0x7F800000#32
  let main_v1 : FVec F S16x2048x8x192 .f32 := broadcastInDim S16x2048x8x192 ![] bcast_S_S16x2048x8x192 main_cst
  let main_v2 : IVec S16x2048x8x192 1 := cmpf .olt main_v0 main_v1
  let main_v3 : FVec F S16x2048x8x192 .f32 := Host.absf main_arg1
  let main_cst_0 : FVec F S_ .f32 := constant S_ .f32 0x7F800000#32
  let main_v4 : FVec F S16x2048x8x192 .f32 := broadcastInDim S16x2048x8x192 ![] bcast_S_S16x2048x8x192 main_cst_0
  let main_v5 : IVec S16x2048x8x192 1 := cmpf .olt main_v3 main_v4
  (main_v2, main_v5)
-- ==== Pre_finite4.lean ====
abbrev S16x2048x16x64 : Shape := ⟨4, ![16, 2048, 16, 64]⟩
abbrev S16x2048x8x128 : Shape := ⟨4, ![16, 2048, 8, 128]⟩
abbrev S4x64 : Shape := ⟨2, ![4, 64]⟩
abbrev S128 : Shape := ⟨1, ![128]⟩
abbrev S_ : Shape := ⟨0, ![]⟩

class Facts : Prop where
  bcast_S_S16x2048x16x64 : S_.BroadcastsInDim S16x2048x16x64 (![] : Fin 0 → Fin S16x2048x16x64.rank)
  bcast_S_S16x2048x8x128 : S_.BroadcastsInDim S16x2048x8x128 (![] : Fin 0 → Fin S16x2048x8x128.rank)
  bcast_S_S4x64 : S_.BroadcastsInDim S4x64 (![] : Fin 0 → Fin S4x64.rank)

variable [Facts]

def fn {F : FTy → Type} [FloatOps F] (main_arg0 : FVec F S16x2048x16x64 .f32) (main_arg1 : FVec F S16x2048x16x64 .f32) (main_arg2 : FVec F S16x2048x8x128 .f32) (main_arg3 : FVec F S4x64 .f32) (main_arg4 : FVec F S128 .f32) : IVec S16x2048x16x64 1 × IVec S16x2048x16x64 1 × IVec S16x2048x8x128 1 × IVec S4x64 1 :=
  let main_v0 : FVec F S16x2048x16x64 .f32 := Host.absf main_arg0
  let main_cst : FVec F S_ .f32 := constant S_ .f32 0x7F800000#32
  let main_v1 : FVec F S16x2048x16x64 .f32 := broadcastInDim S16x2048x16x64 ![] bcast_S_S16x2048x16x64 main_cst
  let main_v2 : IVec S16x2048x16x64 1 := cmpf .olt main_v0 main_v1
  let main_v3 : FVec F S16x2048x16x64 .f32 := Host.absf main_arg1
  let main_cst_0 : FVec F S_ .f32 := constant S_ .f32 0x7F800000#32
  let main_v4 : FVec F S16x2048x16x64 .f32 := broadcastInDim S16x2048x16x64 ![] bcast_S_S16x2048x16x64 main_cst_0
  let main_v5 : IVec S16x2048x16x64 1 := cmpf .olt main_v3 main_v4
  let main_v6 : FVec F S16x2048x8x128 .f32 := Host.absf main_arg2
  let main_cst_1 : FVec F S_ .f32 := constant S_ .f32 0x7F800000#32
  let main_v7 : FVec F S16x2048x8x128 .f32 := broadcastInDim S16x2048x8x128 ![] bcast_S_S16x2048x8x128 main_cst_1
  let main_v8 : IVec S16x2048x8x128 1 := cmpf .olt main_v6 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  (main_v2, main_v5, main_v8, main_v11)
-- ==== Kernel.lean ====
abbrev S16x2048x8x192 : Shape := ⟨4, ![16, 2048, 8, 192]⟩
abbrev S16x2048x8x128 : Shape := ⟨4, ![16, 2048, 8, 128]⟩
abbrev S_ : Shape := ⟨0, ![]⟩
abbrev S16x2048x8x64 : Shape := ⟨4, ![16, 2048, 8, 64]⟩
abbrev S16x2048x8x256 : Shape := ⟨4, ![16, 2048, 8, 256]⟩
abbrev S16x2048x2048 : Shape := ⟨3, ![16, 2048, 2048]⟩
abbrev S16x2048x1024 : Shape := ⟨3, ![16, 2048, 1024]⟩
abbrev S1x2048x256 : Shape := ⟨3, ![1, 2048, 256]⟩
abbrev S1x2048x128 : Shape := ⟨3, ![1, 2048, 128]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S1x256x128 : Shape := ⟨3, ![1, 256, 128]⟩
abbrev S256x128 : Shape := ⟨2, ![256, 128]⟩
abbrev S1x512x256 : Shape := ⟨3, ![1, 512, 256]⟩
abbrev S512x256 : Shape := ⟨2, ![512, 256]⟩
abbrev S256x512 : Shape := ⟨2, ![256, 512]⟩
abbrev S1x512x128 : Shape := ⟨3, ![1, 512, 128]⟩
abbrev S512x128 : Shape := ⟨2, ![512, 128]⟩
abbrev S1x768x256 : Shape := ⟨3, ![1, 768, 256]⟩
abbrev S768x256 : Shape := ⟨2, ![768, 256]⟩
abbrev S256x768 : Shape := ⟨2, ![256, 768]⟩
abbrev S1x768x128 : Shape := ⟨3, ![1, 768, 128]⟩
abbrev S768x128 : Shape := ⟨2, ![768, 128]⟩
abbrev S1x1024x256 : Shape := ⟨3, ![1, 1024, 256]⟩
abbrev S1024x256 : Shape := ⟨2, ![1024, 256]⟩
abbrev S256x1024 : Shape := ⟨2, ![256, 1024]⟩
abbrev S1x1024x128 : Shape := ⟨3, ![1, 1024, 128]⟩
abbrev S1024x128 : Shape := ⟨2, ![1024, 128]⟩
abbrev S1x1280x256 : Shape := ⟨3, ![1, 1280, 256]⟩
abbrev S1280x256 : Shape := ⟨2, ![1280, 256]⟩
abbrev S256x1280 : Shape := ⟨2, ![256, 1280]⟩
abbrev S1x1280x128 : Shape := ⟨3, ![1, 1280, 128]⟩
abbrev S1280x128 : Shape := ⟨2, ![1280, 128]⟩
abbrev S1x1536x256 : Shape := ⟨3, ![1, 1536, 256]⟩
abbrev S1536x256 : Shape := ⟨2, ![1536, 256]⟩
abbrev S256x1536 : Shape := ⟨2, ![256, 1536]⟩
abbrev S1x1536x128 : Shape := ⟨3, ![1, 1536, 128]⟩
abbrev S1536x128 : Shape := ⟨2, ![1536, 128]⟩
abbrev S1x1792x256 : Shape := ⟨3, ![1, 1792, 256]⟩
abbrev S1792x256 : Shape := ⟨2, ![1792, 256]⟩
abbrev S256x1792 : Shape := ⟨2, ![256, 1792]⟩
abbrev S1x1792x128 : Shape := ⟨3, ![1, 1792, 128]⟩
abbrev S1792x128 : Shape := ⟨2, ![1792, 128]⟩

abbrev nBuf : Space → Nat
  | .hbm => 23
  | .vmem => 8
  | .smem => 0
  | _ => 0

abbrev bufTy : (tb : Table) → Fin (tcTables nBuf tb) → BufTy
  | .hbm, ⟨0, _⟩ => ⟨S16x2048x8x192, .f32⟩
  | .hbm, ⟨1, _⟩ => ⟨S16x2048x8x192, .f32⟩
  | .hbm, ⟨2, _⟩ => ⟨S16x2048x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16x2048x8x192, .f32⟩
  | .hbm, ⟨9, _⟩ => ⟨S16x2048x8x192, .f32⟩
  | .hbm, ⟨10, _⟩ => ⟨S_, .f32⟩
  | .hbm, ⟨11, _⟩ => ⟨S16x2048x8x64, .f32⟩
  | .hbm, ⟨12, _⟩ => ⟨S16x2048x8x256, .f32⟩
  | .hbm, ⟨13, _⟩ => ⟨S16x2048x8x256, .bf16⟩
  | .hbm, ⟨14, _⟩ => ⟨S16x2048x2048, .bf16⟩
  | .hbm, ⟨15, _⟩ => ⟨S_, .f32⟩
  | .hbm, ⟨16, _⟩ => ⟨S16x2048x8x64, .f32⟩
  | .hbm, ⟨17, _⟩ => ⟨S16x2048x8x256, .f32⟩
  | .hbm, ⟨18, _⟩ => ⟨S16x2048x8x256, .bf16⟩
  | .hbm, ⟨19, _⟩ => ⟨S16x2048x2048, .bf16⟩
  | .hbm, ⟨20, _⟩ => ⟨S16x2048x8x128, .bf16⟩
  | .hbm, ⟨21, _⟩ => ⟨S16x2048x1024, .bf16⟩
  | .hbm, ⟨22, _⟩ => ⟨S16x2048x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | _, _ => ⟨S16x2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x2048x8x192 : Shape := ⟨4, ![16, 2048, 8, 192]⟩
abbrev S16x2048x8x128 : Shape := ⟨4, ![16, 2048, 8, 128]⟩
abbrev S16x8x2048x2048 : Shape := ⟨4, ![16, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x8x2048 : Shape := ⟨3, ![16, 8, 2048]⟩
abbrev S16x8x2048x1 : Shape := ⟨4, ![16, 8, 2048, 1]⟩
abbrev S16x8x128x2048 : Shape := ⟨4, ![16, 8, 128, 2048]⟩
abbrev S16x2048x1024 : Shape := ⟨3, ![16, 2048, 1024]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x8x192, .f32⟩
  | .hbm, ⟨1, _⟩ => ⟨S16x2048x8x192, .f32⟩
  | .hbm, ⟨2, _⟩ => ⟨S16x2048x8x128, .f32⟩
  | .hbm, ⟨3, _⟩ => ⟨S16x8x2048x2048, .f32⟩
  | .hbm, ⟨4, _⟩ => ⟨S_, .f32⟩
  | .hbm, ⟨5, _⟩ => ⟨S_, .f32⟩
  | .hbm, ⟨6, _⟩ => ⟨S16x8x2048x2048, .f32⟩
  | .hbm, ⟨7, _⟩ => ⟨S16x8x2048x2048, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S16x8x2048x2048, .i1⟩
  | .hbm, ⟨17, _⟩ => ⟨S16x8x2048x2048, .f32⟩
  | .hbm, ⟨18, _⟩ => ⟨S16x8x2048x2048, .f32⟩
  | .hbm, ⟨19, _⟩ => ⟨S_, .f32⟩
  | .hbm, ⟨20, _⟩ => ⟨S16x8x2048, .f32⟩
  | .hbm, ⟨21, _⟩ => ⟨S_, .f32⟩
  | .hbm, ⟨22, _⟩ => ⟨S16x8x2048, .f32⟩
  | .hbm, ⟨23, _⟩ => ⟨S16x8x2048, .f32⟩
  | .hbm, ⟨24, _⟩ => ⟨S16x8x2048x1, .f32⟩
  | .hbm, ⟨25, _⟩ => ⟨S16x8x2048x2048, .f32⟩
  | .hbm, ⟨26, _⟩ => ⟨S16x8x2048x2048, .f32⟩
  | .hbm, ⟨27, _⟩ => ⟨S16x8x2048x2048, .f32⟩
  | .hbm, ⟨28, _⟩ => ⟨S_, .f32⟩
  | .hbm, ⟨29, _⟩ => ⟨S16x8x2048, .f32⟩
  | .hbm, ⟨30, _⟩ => ⟨S16x8x2048x1, .f32⟩
  | .hbm, ⟨31, _⟩ => ⟨S16x8x2048x2048, .f32⟩
  | .hbm, ⟨32, _⟩ => ⟨S16x8x2048x2048, .f32⟩
  | .hbm, ⟨33, _⟩ => ⟨S16x8x128x2048, .f32⟩
  | .hbm, ⟨34, _⟩ => ⟨S16x2048x8x128, .f32⟩
  | .hbm, ⟨35, _⟩ => ⟨S16x2048x1024, .f32⟩
  | .hbm, ⟨36, _⟩ => ⟨S16x2048x1024, .bf16⟩
  | _, _ => ⟨S16x2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel2.lean ====
abbrev S16x2048x2048 : Shape := ⟨3, ![16, 2048, 2048]⟩
abbrev S16x2048x1024 : Shape := ⟨3, ![16, 2048, 1024]⟩
abbrev S2048x8256 : Shape := ⟨2, ![2048, 8256]⟩
abbrev S1024x2048 : Shape := ⟨2, ![1024, 2048]⟩
abbrev S2048x4096 : Shape := ⟨2, ![2048, 4096]⟩
abbrev S32768x2048 : Shape := ⟨2, ![32768, 2048]⟩
abbrev S32768x1024 : Shape := ⟨2, ![32768, 1024]⟩
abbrev S512x2048 : Shape := ⟨2, ![512, 2048]⟩
abbrev S512x1024 : Shape := ⟨2, ![512, 1024]⟩
abbrev S2048x1024 : Shape := ⟨2, ![2048, 1024]⟩
abbrev S1024x1024 : Shape := ⟨2, ![1024, 1024]⟩

abbrev nBuf : Space → Nat
  | .hbm => 17
  | .vmem => 16
  | .smem => 0
  | _ => 0

abbrev bufTy : (tb : Table) → Fin (tcTables nBuf tb) → BufTy
  | .hbm, ⟨0, _⟩ => ⟨S16x2048x2048, .f32⟩
  | .hbm, ⟨1, _⟩ => ⟨S16x2048x1024, .f32⟩
  | .hbm, ⟨2, _⟩ => ⟨S16x2048x1024, .f32⟩
  | .hbm, ⟨3, _⟩ => ⟨S2048x8256, .f32⟩
  | .hbm, ⟨4, _⟩ => ⟨S1024x2048, .f32⟩
  | .hbm, ⟨5, _⟩ => ⟨S1024x2048, .f32⟩
  | .hbm, ⟨6, _⟩ => ⟨S2048x8256, .bf16⟩
  | .hbm, ⟨7, _⟩ => ⟨S2048x4096, .bf16⟩
  | .hbm, ⟨8, _⟩ => ⟨S16x2048x2048, .bf16⟩
  | .hbm, ⟨9, _⟩ => ⟨S32768x2048, .bf16⟩
  | .hbm, ⟨10, _⟩ => ⟨S16x2048x1024, .bf16⟩
  | .hbm, ⟨11, _⟩ => ⟨S32768x1024, .bf16⟩
  | .hbm, ⟨12, _⟩ => ⟨S16x2048x1024, .bf16⟩
  | .hbm, ⟨13, _⟩ => ⟨S32768x1024, .bf16⟩
  | .hbm, ⟨14, _⟩ => ⟨S1024x2048, .bf16⟩
  | .hbm, ⟨15, _⟩ => ⟨S1024x2048, .bf16⟩
  | .hbm, ⟨16, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S512x1024, .bf16⟩
  | .local _ .vmem, ⟨15, _⟩ => ⟨S512x1024, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S16x2048x2048 : Shape := ⟨3, ![16, 2048, 2048]⟩
abbrev S16x2048x1024 : Shape := ⟨3, ![16, 2048, 1024]⟩
abbrev S2048x8256 : Shape := ⟨2, ![2048, 8256]⟩
abbrev S1024x2048 : Shape := ⟨2, ![1024, 2048]⟩
abbrev S16x2048x8256 : Shape := ⟨3, ![16, 2048, 8256]⟩
abbrev S_ : Shape := ⟨0, ![]⟩
abbrev S32768x2048 : Shape := ⟨2, ![32768, 2048]⟩

abbrev nBuf : Space → Nat
  | .hbm => 32
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x1024, .f32⟩
  | .hbm, ⟨2, _⟩ => ⟨S16x2048x1024, .f32⟩
  | .hbm, ⟨3, _⟩ => ⟨S2048x8256, .f32⟩
  | .hbm, ⟨4, _⟩ => ⟨S1024x2048, .f32⟩
  | .hbm, ⟨5, _⟩ => ⟨S1024x2048, .f32⟩
  | .hbm, ⟨6, _⟩ => ⟨S16x2048x8256, .f32⟩
  | .hbm, ⟨7, _⟩ => ⟨S16x2048x2048, .f32⟩
  | .hbm, ⟨8, _⟩ => ⟨S16x2048x2048, .f32⟩
  | .hbm, ⟨9, _⟩ => ⟨S16x2048x2048, .f32⟩
  | .hbm, ⟨10, _⟩ => ⟨S16x2048x2048, .f32⟩
  | .hbm, ⟨11, _⟩ => ⟨S16x2048x2048, .f32⟩
  | .hbm, ⟨12, _⟩ => ⟨S16x2048x2048, .f32⟩
  | .hbm, ⟨13, _⟩ => ⟨S_, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048x2048, .f32⟩
  | .hbm, ⟨18, _⟩ => ⟨S16x2048x2048, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S_, .f32⟩
  | .hbm, ⟨23, _⟩ => ⟨S16x2048x2048, .f32⟩
  | .hbm, ⟨24, _⟩ => ⟨S16x2048x2048, .f32⟩
  | .hbm, ⟨25, _⟩ => ⟨S_, .f32⟩
  | .hbm, ⟨26, _⟩ => ⟨S16x2048x2048, .f32⟩
  | .hbm, ⟨27, _⟩ => ⟨S16x2048x2048, .f32⟩
  | .hbm, ⟨28, _⟩ => ⟨S16x2048x2048, .f32⟩
  | .hbm, ⟨29, _⟩ => ⟨S16x2048x2048, .f32⟩
  | .hbm, ⟨30, _⟩ => ⟨S32768x2048, .f32⟩
  | .hbm, ⟨31, _⟩ => ⟨S32768x2048, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel3.lean ====
abbrev S16x2048x2048 : Shape := ⟨3, ![16, 2048, 2048]⟩
abbrev S2048x2048 : Shape := ⟨2, ![2048, 2048]⟩
abbrev S16x12288 : Shape := ⟨2, ![16, 12288]⟩
abbrev S2048 : Shape := ⟨1, ![2048]⟩
abbrev S32768x2048 : Shape := ⟨2, ![32768, 2048]⟩
abbrev S16x6x2048 : Shape := ⟨3, ![16, 6, 2048]⟩
abbrev S1x2048 : Shape := ⟨2, ![1, 2048]⟩
abbrev S512x2048 : Shape := ⟨2, ![512, 2048]⟩
abbrev S1x6x2048 : Shape := ⟨3, ![1, 6, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S16x2048x2048, .f32⟩
  | .hbm, ⟨1, _⟩ => ⟨S2048x2048, .f32⟩
  | .hbm, ⟨2, _⟩ => ⟨S16x2048x2048, .f32⟩
  | .hbm, ⟨3, _⟩ => ⟨S16x12288, .f32⟩
  | .hbm, ⟨4, _⟩ => ⟨S2048, .f32⟩
  | .hbm, ⟨5, _⟩ => ⟨S16x2048x2048, .bf16⟩
  | .hbm, ⟨6, _⟩ => ⟨S32768x2048, .bf16⟩
  | .hbm, ⟨7, _⟩ => ⟨S2048x2048, .bf16⟩
  | .hbm, ⟨8, _⟩ => ⟨S32768x2048, .f32⟩
  | .hbm, ⟨9, _⟩ => ⟨S16x6x2048, .f32⟩
  | .hbm, ⟨10, _⟩ => ⟨S1x2048, .f32⟩
  | .hbm, ⟨11, _⟩ => ⟨S32768x2048, .f32⟩
  | .hbm, ⟨12, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x6x2048, .f32⟩
  | .local _ .vmem, ⟨6, _⟩ => ⟨S1x6x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16x2048x2048 : Shape := ⟨3, ![16, 2048, 2048]⟩
abbrev S2048x2048 : Shape := ⟨2, ![2048, 2048]⟩
abbrev S16x12288 : Shape := ⟨2, ![16, 12288]⟩
abbrev S2048 : Shape := ⟨1, ![2048]⟩
abbrev S16x2048 : Shape := ⟨2, ![16, 2048]⟩
abbrev S16x1x2048 : Shape := ⟨3, ![16, 1, 2048]⟩
abbrev S_ : Shape := ⟨0, ![]⟩
abbrev S16x2048x1 : Shape := ⟨3, ![16, 2048, 1]⟩
abbrev S1x1x2048 : Shape := ⟨3, ![1, 1, 2048]⟩
abbrev S32768x2048 : Shape := ⟨2, ![32768, 2048]⟩

abbrev nBuf : Space → Nat
  | .hbm => 44
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048x2048, .f32⟩
  | .hbm, ⟨2, _⟩ => ⟨S16x2048x2048, .f32⟩
  | .hbm, ⟨3, _⟩ => ⟨S16x12288, .f32⟩
  | .hbm, ⟨4, _⟩ => ⟨S2048, .f32⟩
  | .hbm, ⟨5, _⟩ => ⟨S16x2048, .f32⟩
  | .hbm, ⟨6, _⟩ => ⟨S16x2048, .f32⟩
  | .hbm, ⟨7, _⟩ => ⟨S16x2048, .f32⟩
  | .hbm, ⟨8, _⟩ => ⟨S16x2048, .f32⟩
  | .hbm, ⟨9, _⟩ => ⟨S16x2048, .f32⟩
  | .hbm, ⟨10, _⟩ => ⟨S16x2048, .f32⟩
  | .hbm, ⟨11, _⟩ => ⟨S16x1x2048, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1, .f32⟩
  | .hbm, ⟨27, _⟩ => ⟨S16x2048x2048, .f32⟩
  | .hbm, ⟨28, _⟩ => ⟨S16x2048x2048, .f32⟩
  | .hbm, ⟨29, _⟩ => ⟨S1x1x2048, .f32⟩
  | .hbm, ⟨30, _⟩ => ⟨S16x2048x2048, .f32⟩
  | .hbm, ⟨31, _⟩ => ⟨S16x2048x2048, .f32⟩
  | .hbm, ⟨32, _⟩ => ⟨S16x1x2048, .f32⟩
  | .hbm, ⟨33, _⟩ => ⟨S_, .f32⟩
  | .hbm, ⟨34, _⟩ => ⟨S16x1x2048, .f32⟩
  | .hbm, ⟨35, _⟩ => ⟨S16x1x2048, .f32⟩
  | .hbm, ⟨36, _⟩ => ⟨S16x2048x2048, .f32⟩
  | .hbm, ⟨37, _⟩ => ⟨S16x2048x2048, .f32⟩
  | .hbm, ⟨38, _⟩ => ⟨S16x1x2048, .f32⟩
  | .hbm, ⟨39, _⟩ => ⟨S16x2048x2048, .f32⟩
  | .hbm, ⟨40, _⟩ => ⟨S16x2048x2048, .f32⟩
  | .hbm, ⟨41, _⟩ => ⟨S32768x2048, .f32⟩
  | .hbm, ⟨42, _⟩ => ⟨S32768x2048, .f32⟩
  | .hbm, ⟨43, _⟩ => ⟨S32768x2048, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Kernel4.lean ====
abbrev S16x2048x16x64 : Shape := ⟨4, ![16, 2048, 16, 64]⟩
abbrev S16x2048x8x128 : Shape := ⟨4, ![16, 2048, 8, 128]⟩
abbrev S4x64 : Shape := ⟨2, ![4, 64]⟩
abbrev S128 : Shape := ⟨1, ![128]⟩
abbrev S_ : Shape := ⟨0, ![]⟩
abbrev S16x2048x1024 : Shape := ⟨3, ![16, 2048, 1024]⟩
abbrev S16x2048x3072 : Shape := ⟨3, ![16, 2048, 3072]⟩
abbrev S1x128 : Shape := ⟨2, ![1, 128]⟩
abbrev S1x2048x128 : Shape := ⟨3, ![1, 2048, 128]⟩
abbrev S1x64 : Shape := ⟨2, ![1, 64]⟩
abbrev S1 : Shape := ⟨1, ![1]⟩
abbrev S1x1 : Shape := ⟨2, ![1, 1]⟩
abbrev S256x128 : Shape := ⟨2, ![256, 128]⟩
abbrev S1x256x128 : Shape := ⟨3, ![1, 256, 128]⟩
abbrev S256x256 : Shape := ⟨2, ![256, 256]⟩
abbrev S256 : Shape := ⟨1, ![256]⟩
abbrev S256x1 : Shape := ⟨2, ![256, 1]⟩
abbrev S1x512x128 : Shape := ⟨3, ![1, 512, 128]⟩
abbrev S512x128 : Shape := ⟨2, ![512, 128]⟩
abbrev S256x512 : Shape := ⟨2, ![256, 512]⟩
abbrev S1x768x128 : Shape := ⟨3, ![1, 768, 128]⟩
abbrev S768x128 : Shape := ⟨2, ![768, 128]⟩
abbrev S256x768 : Shape := ⟨2, ![256, 768]⟩
abbrev S1x1024x128 : Shape := ⟨3, ![1, 1024, 128]⟩
abbrev S1024x128 : Shape := ⟨2, ![1024, 128]⟩
abbrev S256x1024 : Shape := ⟨2, ![256, 1024]⟩
abbrev S1x1280x128 : Shape := ⟨3, ![1, 1280, 128]⟩
abbrev S1280x128 : Shape := ⟨2, ![1280, 128]⟩
abbrev S256x1280 : Shape := ⟨2, ![256, 1280]⟩
abbrev S1x1536x128 : Shape := ⟨3, ![1, 1536, 128]⟩
abbrev S1536x128 : Shape := ⟨2, ![1536, 128]⟩
abbrev S256x1536 : Shape := ⟨2, ![256, 1536]⟩
abbrev S1x1792x128 : Shape := ⟨3, ![1, 1792, 128]⟩
abbrev S1792x128 : Shape := ⟨2, ![1792, 128]⟩
abbrev S256x1792 : Shape := ⟨2, ![256, 1792]⟩

abbrev nBuf : Space → Nat
  | .hbm => 19
  | .vmem => 10
  | .smem => 0
  | _ => 0

abbrev bufTy : (tb : Table) → Fin (tcTables nBuf tb) → BufTy
  | .hbm, ⟨0, _⟩ => ⟨S16x2048x16x64, .f32⟩
  | .hbm, ⟨1, _⟩ => ⟨S16x2048x16x64, .f32⟩
  | .hbm, ⟨2, _⟩ => ⟨S16x2048x8x128, .f32⟩
  | .hbm, ⟨3, _⟩ => ⟨S4x64, .f32⟩
  | .hbm, ⟨4, _⟩ => ⟨S128, .f32⟩
  | .hbm, ⟨5, _⟩ => ⟨S_, .f32⟩
  | .hbm, ⟨6, _⟩ => ⟨S16x2048x16x64, .f32⟩
  | .hbm, ⟨7, _⟩ => ⟨S16x2048x16x64, .f32⟩
  | .hbm, ⟨8, _⟩ => ⟨S_, .f32⟩
  | .hbm, ⟨9, _⟩ => ⟨S_, .f32⟩
  | .hbm, ⟨10, _⟩ => ⟨S16x2048x16x64, .f32⟩
  | .hbm, ⟨11, _⟩ => ⟨S16x2048x16x64, .f32⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S16x2048x3072, .f32⟩
  | .hbm, ⟨16, _⟩ => ⟨S16x2048x3072, .bf16⟩
  | .hbm, ⟨17, _⟩ => ⟨S1x128, .f32⟩
  | .hbm, ⟨18, _⟩ => ⟨S16x2048x1024, .bf16⟩
  | .local _ .vmem, ⟨0, _⟩ => ⟨S4x64, .f32⟩
  | .local _ .vmem, ⟨1, _⟩ => ⟨S1x128, .f32⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | _, _ => ⟨S16x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel4Ideal.lean ====
variable {F : FTy → Type} [FloatOps F] [Named F]
def κ : String → Option EReal := fun
  | "mask" => some ⊥
  | _ => none
-- ==== Reference4Ideal.lean ====
abbrev S16x2048x16x64 : Shape := ⟨4, ![16, 2048, 16, 64]⟩
abbrev S16x2048x8x128 : Shape := ⟨4, ![16, 2048, 8, 128]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S16x16x2048x2048 : Shape := ⟨4, ![16, 16, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x16x2048 : Shape := ⟨3, ![16, 16, 2048]⟩
abbrev S16x16x2048x1 : Shape := ⟨4, ![16, 16, 2048, 1]⟩
abbrev S16x8x2x2048x2048 : Shape := ⟨5, ![16, 8, 2, 2048, 2048]⟩
abbrev S16x8x1x2048x2048 : Shape := ⟨5, ![16, 8, 1, 2048, 2048]⟩
abbrev S16x8x2048x2048 : Shape := ⟨4, ![16, 8, 2048, 2048]⟩
abbrev S16x8x128x2048 : Shape := ⟨4, ![16, 8, 128, 2048]⟩
abbrev S16x2048x8 : Shape := ⟨3, ![16, 2048, 8]⟩
abbrev S16x2048x8x1 : Shape := ⟨4, ![16, 2048, 8, 1]⟩
abbrev S1x1x1x128 : Shape := ⟨4, ![1, 1, 1, 128]⟩
abbrev S16x2048x1024 : Shape := ⟨3, ![16, 2048, 1024]⟩

abbrev nBuf : Space → Nat
  | .hbm => 84
  | .vmem => 0
  | .smem => 0
  | _ => 0

abbrev bufTy : (tb : Table) → Fin (tcTables nBuf tb) → BufTy
  | .hbm, ⟨0, _⟩ => ⟨S16x2048x16x64, .f32⟩
  | .hbm, ⟨1, _⟩ => ⟨S16x2048x16x64, .f32⟩
  | .hbm, ⟨2, _⟩ => ⟨S16x2048x8x128, .f32⟩
  | .hbm, ⟨3, _⟩ => ⟨S4x64, .f32⟩
  | .hbm, ⟨4, _⟩ => ⟨S128, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S16x16x2048x2048, .f32⟩
  | .hbm, ⟨25, _⟩ => ⟨S_, .f32⟩
  | .hbm, ⟨26, _⟩ => ⟨S16x16x2048x2048, .f32⟩
  | .hbm, ⟨27, _⟩ => ⟨S16x16x2048x2048, .f32⟩
  | .hbm, ⟨28, _⟩ => ⟨S2048, .i32⟩
  | .hbm, ⟨29, _⟩ => ⟨S1x2048, .i32⟩
  | .hbm, ⟨30, _⟩ => ⟨S2048x1, .i32⟩
  | .hbm, ⟨31, _⟩ => ⟨S2048x2048, .i32⟩
  | .hbm, ⟨32, _⟩ => ⟨S2048x2048, .i32⟩
  | .hbm, ⟨33, _⟩ => ⟨S2048x2048, .i1⟩
  | .hbm, ⟨34, _⟩ => ⟨S_, .f32⟩
  | .hbm, ⟨35, _⟩ => ⟨S_, .f32⟩
  | .hbm, ⟨36, _⟩ => ⟨S16x16x2048x2048, .i1⟩
  | .hbm, ⟨37, _⟩ => ⟨S16x16x2048x2048, .f32⟩
  | .hbm, ⟨38, _⟩ => ⟨S16x16x2048x2048, .f32⟩
  | .hbm, ⟨39, _⟩ => ⟨S_, .f32⟩
  | .hbm, ⟨40, _⟩ => ⟨S16x16x2048, .f32⟩
  | .hbm, ⟨41, _⟩ => ⟨S_, .f32⟩
  | .hbm, ⟨42, _⟩ => ⟨S16x16x2048, .f32⟩
  | .hbm, ⟨43, _⟩ => ⟨S16x16x2048, .f32⟩
  | .hbm, ⟨44, _⟩ => ⟨S16x16x2048x1, .f32⟩
  | .hbm, ⟨45, _⟩ => ⟨S16x16x2048x2048, .f32⟩
  | .hbm, ⟨46, _⟩ => ⟨S16x16x2048x2048, .f32⟩
  | .hbm, ⟨47, _⟩ => ⟨S16x16x2048x2048, .f32⟩
  | .hbm, ⟨48, _⟩ => ⟨S_, .f32⟩
  | .hbm, ⟨49, _⟩ => ⟨S16x16x2048, .f32⟩
  | .hbm, ⟨50, _⟩ => ⟨S16x16x2048x1, .f32⟩
  | .hbm, ⟨51, _⟩ => ⟨S16x16x2048x2048, .f32⟩
  | .hbm, ⟨52, _⟩ => ⟨S16x16x2048x2048, .f32⟩
  | .hbm, ⟨53, _⟩ => ⟨S16x8x2x2048x2048, .f32⟩
  | .hbm, ⟨54, _⟩ => ⟨S16x8x1x2048x2048, .f32⟩
  | .hbm, ⟨55, _⟩ => ⟨S16x8x2048x2048, .f32⟩
  | .hbm, ⟨56, _⟩ => ⟨S16x8x1x2048x2048, .f32⟩
  | .hbm, ⟨57, _⟩ => ⟨S16x8x2048x2048, .f32⟩
  | .hbm, ⟨58, _⟩ => ⟨S16x8x2048x2048, .f32⟩
  | .hbm, ⟨59, _⟩ => ⟨S16x8x2048x2048, .f32⟩
  | .hbm, ⟨60, _⟩ => ⟨S16x8x2048x2048, .f32⟩
  | .hbm, ⟨61, _⟩ => ⟨S16x8x128x2048, .f32⟩
  | .hbm, ⟨62, _⟩ => ⟨S16x2048x8x128, .f32⟩
  | .hbm, ⟨63, _⟩ => ⟨S16x2048x8x128, .f32⟩
  | .hbm, ⟨64, _⟩ => ⟨S_, .f32⟩
  | .hbm, ⟨65, _⟩ => ⟨S16x2048x8, .f32⟩
  | .hbm, ⟨66, _⟩ => ⟨S16x2048x8x1, .f32⟩
  | .hbm, ⟨67, _⟩ => ⟨S_, .f32⟩
  | .hbm, ⟨68, _⟩ => ⟨S16x2048x8x1, .f32⟩
  | .hbm, ⟨69, _⟩ => ⟨S16x2048x8x1, .f32⟩
  | .hbm, ⟨70, _⟩ => ⟨S_, .f32⟩
  | .hbm, ⟨71, _⟩ => ⟨S16x2048x8x1, .f32⟩
  | .hbm, ⟨72, _⟩ => ⟨S16x2048x8x1, .f32⟩
  | .hbm, ⟨73, _⟩ => ⟨S16x2048x8x1, .f32⟩
  | .hbm, ⟨74, _⟩ => ⟨S16x2048x8x128, .f32⟩
  | .hbm, ⟨75, _⟩ => ⟨S16x2048x8x128, .f32⟩
  | .hbm, ⟨76, _⟩ => ⟨S1x1x1x128, .f32⟩
  | .hbm, ⟨77, _⟩ => ⟨S16x2048x8x128, .f32⟩
  | .hbm, ⟨78, _⟩ => ⟨S16x2048x8x128, .f32⟩
  | .hbm, ⟨79, _⟩ => ⟨S_, .f32⟩
  | .hbm, ⟨80, _⟩ => ⟨S16x2048x8x128, .f32⟩
  | .hbm, ⟨81, _⟩ => ⟨S16x2048x8x128, .f32⟩
  | .hbm, ⟨82, _⟩ => ⟨S16x2048x1024, .f32⟩
  | .hbm, ⟨83, _⟩ => ⟨S16x2048x1024, .bf16⟩
  | _, _ => ⟨S16x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== Kernel5.lean ====
abbrev S16x2048x2048 : Shape := ⟨3, ![16, 2048, 2048]⟩
abbrev S2048x8256 : Shape := ⟨2, ![2048, 8256]⟩
abbrev S64 : Shape := ⟨1, ![64]⟩
abbrev S16x2048x8 : Shape := ⟨3, ![16, 2048, 8]⟩
abbrev S32768x8 : Shape := ⟨2, ![32768, 8]⟩
abbrev S_ : Shape := ⟨0, ![]⟩
abbrev S32768x48 : Shape := ⟨2, ![32768, 48]⟩
abbrev S32768x64 : Shape := ⟨2, ![32768, 64]⟩
abbrev S1x32768x1x64 : Shape := ⟨4, ![1, 32768, 1, 64]⟩
abbrev S1x32768x2x64 : Shape := ⟨4, ![1, 32768, 2, 64]⟩
abbrev S32768x128 : Shape := ⟨2, ![32768, 128]⟩
abbrev S2048x3072 : Shape := ⟨2, ![2048, 3072]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S3x128 : Shape := ⟨2, ![3, 128]⟩
abbrev S3x1x128 : Shape := ⟨3, ![3, 1, 128]⟩
abbrev S32768x2048 : Shape := ⟨2, ![32768, 2048]⟩
abbrev S1024 : Shape := ⟨1, ![1024]⟩
abbrev S1024x1 : Shape := ⟨2, ![1024, 1]⟩
abbrev S1024x128 : Shape := ⟨2, ![1024, 128]⟩
abbrev S128x1024 : Shape := ⟨2, ![128, 1024]⟩
abbrev S256x1024 : Shape := ⟨2, ![256, 1024]⟩
abbrev S32768x3072 : Shape := ⟨2, ![32768, 3072]⟩
abbrev S1024x2048 : Shape := ⟨2, ![1024, 2048]⟩
abbrev S2048x1024 : Shape := ⟨2, ![2048, 1024]⟩
abbrev S1x1x128 : Shape := ⟨3, ![1, 1, 128]⟩
abbrev S1024x1024 : Shape := ⟨2, ![1024, 1024]⟩
abbrev S1024x256 : Shape := ⟨2, ![1024, 256]⟩

abbrev nBuf : Space → Nat
  | .hbm => 76
  | .vmem => 16
  | .smem => 0
  | _ => 0

abbrev bufTy : (tb : Table) → Fin (tcTables nBuf tb) → BufTy
  | .hbm, ⟨0, _⟩ => ⟨S16x2048x2048, .f32⟩
  | .hbm, ⟨1, _⟩ => ⟨S2048x8256, .f32⟩
  | .hbm, ⟨2, _⟩ => ⟨S64, .f32⟩
  | .hbm, ⟨3, _⟩ => ⟨S64, .f32⟩
  | .hbm, ⟨4, _⟩ => ⟨S16x2048x8, .f32⟩
  | .hbm, ⟨5, _⟩ => ⟨S16x2048x8, .f32⟩
  | .hbm, ⟨6, _⟩ => ⟨S32768x8, .f32⟩
  | .hbm, ⟨7, _⟩ => ⟨S32768x8, .f32⟩
  | .hbm, ⟨8, _⟩ => ⟨S_, .f32⟩
  | .hbm, ⟨9, _⟩ => ⟨S32768x8, .f32⟩
  | .hbm, ⟨10, _⟩ => ⟨S_, .f32⟩
  | .hbm, ⟨11, _⟩ => ⟨S32768x48, .f32⟩
  | .hbm, ⟨12, _⟩ => ⟨S32768x64, .f32⟩
  | .hbm, ⟨13, _⟩ => ⟨S1x32768x1x64, .f32⟩
  | .hbm, ⟨14, _⟩ => ⟨S1x32768x2x64, .f32⟩
  | .hbm, ⟨15, _⟩ => ⟨S32768x128, .f32⟩
  | .hbm, ⟨16, _⟩ => ⟨S32768x8, .f32⟩
  | .hbm, ⟨17, _⟩ => ⟨S_, .f32⟩
  | .hbm, ⟨18, _⟩ => ⟨S32768x48, .f32⟩
  | .hbm, ⟨19, _⟩ => ⟨S32768x64, .f32⟩
  | .hbm, ⟨20, _⟩ => ⟨S1x32768x1x64, .f32⟩
  | .hbm, ⟨21, _⟩ => ⟨S1x32768x2x64, .f32⟩
  | .hbm, ⟨22, _⟩ => ⟨S32768x128, .f32⟩
  | .hbm, ⟨23, _⟩ => ⟨S_, .f32⟩
  | .hbm, ⟨24, _⟩ => ⟨S32768x48, .f32⟩
  | .hbm, ⟨25, _⟩ => ⟨S32768x64, .f32⟩
  | .hbm, ⟨26, _⟩ => ⟨S1x32768x1x64, .f32⟩
  | .hbm, ⟨27, _⟩ => ⟨S1x32768x2x64, .f32⟩
  | .hbm, ⟨28, _⟩ => ⟨S32768x128, .f32⟩
  | .hbm, ⟨29, _⟩ => ⟨S2048x8256, .bf16⟩
  | .hbm, ⟨30, _⟩ => ⟨S2048x3072, .bf16⟩
  | .hbm, ⟨31, _⟩ => ⟨S1x64, .f32⟩
  | .hbm, ⟨32, _⟩ => ⟨S2x64, .f32⟩
  | .hbm, ⟨33, _⟩ => ⟨S128, .f32⟩
  | .hbm, ⟨34, _⟩ => ⟨S1x64, .f32⟩
  | .hbm, ⟨35, _⟩ => ⟨S2x64, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S3x128, .f32⟩
  | .hbm, ⟨43, _⟩ => ⟨S3x1x128, .f32⟩
  | .hbm, ⟨44, _⟩ => ⟨S16x2048x2048, .bf16⟩
  | .hbm, ⟨45, _⟩ => ⟨S32768x2048, .bf16⟩
  | .hbm, ⟨46, _⟩ => ⟨S1024, .i32⟩
  | .hbm, ⟨47, _⟩ => ⟨S1024x1, .i32⟩
  | .hbm, ⟨48, _⟩ => ⟨S_, .i32⟩
  | .hbm, ⟨49, _⟩ => ⟨S_, .i32⟩
  | .hbm, ⟨50, _⟩ => ⟨S1024x1, .i32⟩
  | .hbm, ⟨51, _⟩ => ⟨S1024x1, .i32⟩
  | .hbm, ⟨52, _⟩ => ⟨S1024x1, .i32⟩
  | .hbm, ⟨53, _⟩ => ⟨S_, .i32⟩
  | .hbm, ⟨54, _⟩ => ⟨S1024x1, .i32⟩
  | .hbm, ⟨55, _⟩ => ⟨S1024x1, .i1⟩
  | .hbm, ⟨56, _⟩ => ⟨S1024x1, .i32⟩
  | .hbm, ⟨57, _⟩ => ⟨S1024x1, .i32⟩
  | .hbm, ⟨58, _⟩ => ⟨S_, .i32⟩
  | .hbm, ⟨59, _⟩ => ⟨S1024x1, .i32⟩
  | .hbm, ⟨60, _⟩ => ⟨S1024x1, .i1⟩
  | .hbm, ⟨61, _⟩ => ⟨S1024x1, .i1⟩
  | .hbm, ⟨62, _⟩ => ⟨S_, .i32⟩
  | .hbm, ⟨63, _⟩ => ⟨S1024x1, .i32⟩
  | .hbm, ⟨64, _⟩ => ⟨S1024x1, .i32⟩
  | .hbm, ⟨65, _⟩ => ⟨S1024x1, .i32⟩
  | .hbm, ⟨66, _⟩ => ⟨S128, .i32⟩
  | .hbm, ⟨67, _⟩ => ⟨S1x128, .i32⟩
  | .hbm, ⟨68, _⟩ => ⟨S1024x128, .i32⟩
  | .hbm, ⟨69, _⟩ => ⟨S1024x128, .i32⟩
  | .hbm, ⟨70, _⟩ => ⟨S1024x128, .i1⟩
  | .hbm, ⟨71, _⟩ => ⟨S1024x128, .bf16⟩
  | .hbm, ⟨72, _⟩ => ⟨S128x1024, .bf16⟩
  | .hbm, ⟨73, _⟩ => ⟨S128x1024, .bf16⟩
  | .hbm, ⟨74, _⟩ => ⟨S256x1024, .bf16⟩
  | .hbm, ⟨75, _⟩ => ⟨S32768x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x128, .f32⟩
  | .local _ .vmem, ⟨5, _⟩ => ⟨S1x1x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .bf16⟩
  | .local _ .vmem, ⟨13, _⟩ => ⟨S256x1024, .bf16⟩
  | .local _ .vmem, ⟨14, _⟩ => ⟨S1024x1024, .bf16⟩
  | .local _ .vmem, ⟨15, _⟩ => ⟨S1024x1024, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_c : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_0 : Ref sig .tc := ⟨.hbm, 62, rfl⟩
abbrev main_call0_v12 : Ref sig .tc := ⟨.hbm, 63, rfl⟩
abbrev main_call0_v13 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 3], ![false, false]⟩

def k0_cond1 (i : grid0.Coords) : BitVec 1 :=
  let arg1 : BitVec 32 := BitVec.ofNat 32 (i 1).val
  let c2_i32 : BitVec 32 := 2#32
  let v5 : BitVec 1 := Scalar.cmpi .eq arg1 c2_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c2_i32_3 : BitVec 32 := 2#32
  let v8 : BitVec 1 := Scalar.cmpi .slt arg1 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S16x2048x2048 : Shape := ⟨3, ![16, 2048, 2048]⟩
abbrev S2048x8256 : Shape := ⟨2, ![2048, 8256]⟩
abbrev S64 : Shape := ⟨1, ![64]⟩
abbrev S16x2048x8 : Shape := ⟨3, ![16, 2048, 8]⟩
abbrev S16x2048x8256 : Shape := ⟨3, ![16, 2048, 8256]⟩
abbrev S16x2048x3072 : Shape := ⟨3, ![16, 2048, 3072]⟩
abbrev S16x2048x1024 : Shape := ⟨3, ![16, 2048, 1024]⟩
abbrev S16x2048x16x64 : Shape := ⟨4, ![16, 2048, 16, 64]⟩
abbrev S_ : Shape := ⟨0, ![]⟩
abbrev S16x2048x16 : Shape := ⟨3, ![16, 2048, 16]⟩
abbrev S16x2048x16x1 : Shape := ⟨4, ![16, 2048, 16, 1]⟩
abbrev S1x1x1x64 : Shape := ⟨4, ![1, 1, 1, 64]⟩
abbrev S16x2048x16x16 : Shape := ⟨4, ![16, 2048, 16, 16]⟩
abbrev S16x2048x1x8 : Shape := ⟨4, ![16, 2048, 1, 8]⟩
abbrev S16x2048x16x8 : Shape := ⟨4, ![16, 2048, 16, 8]⟩
abbrev S16x2048x16x48 : Shape := ⟨4, ![16, 2048, 16, 48]⟩
abbrev S32768x1024 : Shape := ⟨2, ![32768, 1024]⟩
abbrev S32768x3072 : Shape := ⟨2, ![32768, 3072]⟩

abbrev nBuf : Space → Nat
  | .hbm => 86
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048x8256, .f32⟩
  | .hbm, ⟨2, _⟩ => ⟨S64, .f32⟩
  | .hbm, ⟨3, _⟩ => ⟨S64, .f32⟩
  | .hbm, ⟨4, _⟩ => ⟨S16x2048x8, .f32⟩
  | .hbm, ⟨5, _⟩ => ⟨S16x2048x8, .f32⟩
  | .hbm, ⟨6, _⟩ => ⟨S16x2048x8256, .f32⟩
  | .hbm, ⟨7, _⟩ => ⟨S16x2048x3072, .f32⟩
  | .hbm, ⟨8, _⟩ => ⟨S16x2048x1024, .f32⟩
  | .hbm, ⟨9, _⟩ => ⟨S16x2048x1024, .f32⟩
  | .hbm, ⟨10, _⟩ => ⟨S16x2048x1024, .f32⟩
  | .hbm, ⟨11, _⟩ => ⟨S16x2048x16x64, .f32⟩
  | .hbm, ⟨12, _⟩ => ⟨S16x2048x16x64, .f32⟩
  | .hbm, ⟨13, _⟩ => ⟨S_, .f32⟩
  | .hbm, ⟨14, _⟩ => ⟨S16x2048x16, .f32⟩
  | .hbm, ⟨15, _⟩ => ⟨S16x2048x16x1, .f32⟩
  | .hbm, ⟨16, _⟩ => ⟨S_, .f32⟩
  | .hbm, ⟨17, _⟩ => ⟨S16x2048x16x1, .f32⟩
  | .hbm, ⟨18, _⟩ => ⟨S16x2048x16x1, .f32⟩
  | .hbm, ⟨19, _⟩ => ⟨S_, .f32⟩
  | .hbm, ⟨20, _⟩ => ⟨S16x2048x16x1, .f32⟩
  | .hbm, ⟨21, _⟩ => ⟨S16x2048x16x1, .f32⟩
  | .hbm, ⟨22, _⟩ => ⟨S16x2048x16x1, .f32⟩
  | .hbm, ⟨23, _⟩ => ⟨S16x2048x16x64, .f32⟩
  | .hbm, ⟨24, _⟩ => ⟨S16x2048x16x64, .f32⟩
  | .hbm, ⟨25, _⟩ => ⟨S1x1x1x64, .f32⟩
  | .hbm, ⟨26, _⟩ => ⟨S16x2048x16x64, .f32⟩
  | .hbm, ⟨27, _⟩ => ⟨S16x2048x16x64, .f32⟩
  | .hbm, ⟨28, _⟩ => ⟨S16x2048x16x64, .f32⟩
  | .hbm, ⟨29, _⟩ => ⟨S16x2048x16x64, .f32⟩
  | .hbm, ⟨30, _⟩ => ⟨S_, .f32⟩
  | .hbm, ⟨31, _⟩ => ⟨S16x2048x16, .f32⟩
  | .hbm, ⟨32, _⟩ => ⟨S16x2048x16x1, .f32⟩
  | .hbm, ⟨33, _⟩ => ⟨S_, .f32⟩
  | .hbm, ⟨34, _⟩ => ⟨S16x2048x16x1, .f32⟩
  | .hbm, ⟨35, _⟩ => ⟨S16x2048x16x1, .f32⟩
  | .hbm, ⟨36, _⟩ => ⟨S_, .f32⟩
  | .hbm, ⟨37, _⟩ => ⟨S16x2048x16x1, .f32⟩
  | .hbm, ⟨38, _⟩ => ⟨S16x2048x16x1, .f32⟩
  | .hbm, ⟨39, _⟩ => ⟨S16x2048x16x1, .f32⟩
  | .hbm, ⟨40, _⟩ => ⟨S16x2048x16x64, .f32⟩
  | .hbm, ⟨41, _⟩ => ⟨S16x2048x16x64, .f32⟩
  | .hbm, ⟨42, _⟩ => ⟨S1x1x1x64, .f32⟩
  | .hbm, ⟨43, _⟩ => ⟨S16x2048x16x64, .f32⟩
  | .hbm, ⟨44, _⟩ => ⟨S16x2048x16x64, .f32⟩
  | .hbm, ⟨45, _⟩ => ⟨S16x2048x16x16, .f32⟩
  | .hbm, ⟨46, _⟩ => ⟨S16x2048x1x8, .f32⟩
  | .hbm, ⟨47, _⟩ => ⟨S16x2048x1x8, .f32⟩
  | .hbm, ⟨48, _⟩ => ⟨S16x2048x16x8, .f32⟩
  | .hbm, ⟨49, _⟩ => ⟨S16x2048x16x8, .f32⟩
  | .hbm, ⟨50, _⟩ => ⟨S16x2048x16x8, .f32⟩
  | .hbm, ⟨51, _⟩ => ⟨S16x2048x16x8, .f32⟩
  | .hbm, ⟨52, _⟩ => ⟨S16x2048x16x8, .f32⟩
  | .hbm, ⟨53, _⟩ => ⟨S16x2048x16x8, .f32⟩
  | .hbm, ⟨54, _⟩ => ⟨S16x2048x16x8, .f32⟩
  | .hbm, ⟨55, _⟩ => ⟨S16x2048x16x8, .f32⟩
  | .hbm, ⟨56, _⟩ => ⟨S16x2048x16x8, .f32⟩
  | .hbm, ⟨57, _⟩ => ⟨S16x2048x16x8, .f32⟩
  | .hbm, ⟨58, _⟩ => ⟨S16x2048x16x8, .f32⟩
  | .hbm, ⟨59, _⟩ => ⟨S16x2048x16x8, .f32⟩
  | .hbm, ⟨60, _⟩ => ⟨S16x2048x16x16, .f32⟩
  | .hbm, ⟨61, _⟩ => ⟨S16x2048x16x48, .f32⟩
  | .hbm, ⟨62, _⟩ => ⟨S16x2048x16x64, .f32⟩
  | .hbm, ⟨63, _⟩ => ⟨S16x2048x16x16, .f32⟩
  | .hbm, ⟨64, _⟩ => ⟨S16x2048x1x8, .f32⟩
  | .hbm, ⟨65, _⟩ => ⟨S16x2048x1x8, .f32⟩
  | .hbm, ⟨66, _⟩ => ⟨S16x2048x16x8, .f32⟩
  | .hbm, ⟨67, _⟩ => ⟨S16x2048x16x8, .f32⟩
  | .hbm, ⟨68, _⟩ => ⟨S16x2048x16x8, .f32⟩
  | .hbm, ⟨69, _⟩ => ⟨S16x2048x16x8, .f32⟩
  | .hbm, ⟨70, _⟩ => ⟨S16x2048x16x8, .f32⟩
  | .hbm, ⟨71, _⟩ => ⟨S16x2048x16x8, .f32⟩
  | .hbm, ⟨72, _⟩ => ⟨S16x2048x16x8, .f32⟩
  | .hbm, ⟨73, _⟩ => ⟨S16x2048x16x8, .f32⟩
  | .hbm, ⟨74, _⟩ => ⟨S16x2048x16x8, .f32⟩
  | .hbm, ⟨75, _⟩ => ⟨S16x2048x16x8, .f32⟩
  | .hbm, ⟨76, _⟩ => ⟨S16x2048x16x8, .f32⟩
  | .hbm, ⟨77, _⟩ => ⟨S16x2048x16x8, .f32⟩
  | .hbm, ⟨78, _⟩ => ⟨S16x2048x16x16, .f32⟩
  | .hbm, ⟨79, _⟩ => ⟨S16x2048x16x48, .f32⟩
  | .hbm, ⟨80, _⟩ => ⟨S16x2048x16x64, .f32⟩
  | .hbm, ⟨81, _⟩ => ⟨S32768x1024, .f32⟩
  | .hbm, ⟨82, _⟩ => ⟨S32768x1024, .f32⟩
  | .hbm, ⟨83, _⟩ => ⟨S32768x1024, .f32⟩
  | .hbm, ⟨84, _⟩ => ⟨S32768x3072, .f32⟩
  | .hbm, ⟨85, _⟩ => ⟨S32768x3072, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩

abbrev nD : Nat := 1
abbrev τ : Topo := Topo.v7x

variable {F : FTy → Type} [FloatOps F]
-- ==== Kernel6.lean ====
abbrev S16x2048x2048 : Shape := ⟨3, ![16, 2048, 2048]⟩
abbrev S16x12288 : Shape := ⟨2, ![16, 12288]⟩
abbrev S2048 : Shape := ⟨1, ![2048]⟩
abbrev S2048x8256 : Shape := ⟨2, ![2048, 8256]⟩
abbrev S512 : Shape := ⟨1, ![512]⟩
abbrev S512x1536 : Shape := ⟨2, ![512, 1536]⟩
abbrev S512x2048 : Shape := ⟨2, ![512, 2048]⟩
abbrev S192 : Shape := ⟨1, ![192]⟩
abbrev S16x2048x32 : Shape := ⟨3, ![16, 2048, 32]⟩
abbrev S32768x32 : Shape := ⟨2, ![32768, 32]⟩
abbrev S_ : Shape := ⟨0, ![]⟩
abbrev S32768x64 : Shape := ⟨2, ![32768, 64]⟩
abbrev S32768x128 : Shape := ⟨2, ![32768, 128]⟩
abbrev S2048x1088 : Shape := ⟨2, ![2048, 1088]⟩
abbrev S2048x64 : Shape := ⟨2, ![2048, 64]⟩
abbrev S2048x1152 : Shape := ⟨2, ![2048, 1152]⟩
abbrev S512x8x192 : Shape := ⟨3, ![512, 8, 192]⟩
abbrev S512x8x128 : Shape := ⟨3, ![512, 8, 128]⟩
abbrev S512x1024 : Shape := ⟨2, ![512, 1024]⟩
abbrev S512x8x64 : Shape := ⟨3, ![512, 8, 64]⟩
abbrev S512x8x256 : Shape := ⟨3, ![512, 8, 256]⟩
abbrev S1x192 : Shape := ⟨2, ![1, 192]⟩
abbrev S1x64 : Shape := ⟨2, ![1, 64]⟩
abbrev S1x256 : Shape := ⟨2, ![1, 256]⟩
abbrev S32768x2048 : Shape := ⟨2, ![32768, 2048]⟩
abbrev S16x6x2048 : Shape := ⟨3, ![16, 6, 2048]⟩
abbrev S1x2048 : Shape := ⟨2, ![1, 2048]⟩
abbrev S1x512 : Shape := ⟨2, ![1, 512]⟩
abbrev S32768x1024 : Shape := ⟨2, ![32768, 1024]⟩
abbrev S1x6x2048 : Shape := ⟨3, ![1, 6, 2048]⟩
abbrev S512x128 : Shape := ⟨2, ![512, 128]⟩
abbrev S512x1 : Shape := ⟨2, ![512, 1]⟩
abbrev S1x1x2048 : Shape := ⟨3, ![1, 1, 2048]⟩
abbrev S512x1152 : Shape := ⟨2, ![512, 1152]⟩
abbrev S512x512 : Shape := ⟨2, ![512, 512]⟩
abbrev S1x128 : Shape := ⟨2, ![1, 128]⟩

abbrev nBuf : Space → Nat
  | .hbm => 56
  | .vmem => 26
  | .smem => 0
  | _ => 0

abbrev bufTy : (tb : Table) → Fin (tcTables nBuf tb) → BufTy
  | .hbm, ⟨0, _⟩ => ⟨S16x2048x2048, .f32⟩
  | .hbm, ⟨1, _⟩ => ⟨S16x12288, .f32⟩
  | .hbm, ⟨2, _⟩ => ⟨S2048, .f32⟩
  | .hbm, ⟨3, _⟩ => ⟨S2048x8256, .f32⟩
  | .hbm, ⟨4, _⟩ => ⟨S512, .f32⟩
  | .hbm, ⟨5, _⟩ => ⟨S512x1536, .f32⟩
  | .hbm, ⟨6, _⟩ => ⟨S512, .f32⟩
  | .hbm, ⟨7, _⟩ => ⟨S512x2048, .f32⟩
  | .hbm, ⟨8, _⟩ => ⟨S192, .f32⟩
  | .hbm, ⟨9, _⟩ => ⟨S192, .f32⟩
  | .hbm, ⟨10, _⟩ => ⟨S16x2048x32, .f32⟩
  | .hbm, ⟨11, _⟩ => ⟨S16x2048x32, .f32⟩
  | .hbm, ⟨12, _⟩ => ⟨S32768x32, .f32⟩
  | .hbm, ⟨13, _⟩ => ⟨S32768x32, .f32⟩
  | .hbm, ⟨14, _⟩ => ⟨S_, .f32⟩
  | .hbm, ⟨15, _⟩ => ⟨S32768x64, .f32⟩
  | .hbm, ⟨16, _⟩ => ⟨S32768x128, .f32⟩
  | .hbm, ⟨17, _⟩ => ⟨S32768x32, .f32⟩
  | .hbm, ⟨18, _⟩ => ⟨S32768x128, .f32⟩
  | .hbm, ⟨19, _⟩ => ⟨S2048x8256, .bf16⟩
  | .hbm, ⟨20, _⟩ => ⟨S2048x1088, .bf16⟩
  | .hbm, ⟨21, _⟩ => ⟨S_, .bf16⟩
  | .hbm, ⟨22, _⟩ => ⟨S2048x64, .bf16⟩
  | .hbm, ⟨23, _⟩ => ⟨S2048x1152, .bf16⟩
  | .hbm, ⟨24, _⟩ => ⟨S512x1536, .bf16⟩
  | .hbm, ⟨25, _⟩ => ⟨S512x8x192, .bf16⟩
  | .hbm, ⟨26, _⟩ => ⟨S512x8x128, .bf16⟩
  | .hbm, ⟨27, _⟩ => ⟨S512x1024, .bf16⟩
  | .hbm, ⟨28, _⟩ => ⟨S512x8x64, .bf16⟩
  | .hbm, ⟨29, _⟩ => ⟨S_, .bf16⟩
  | .hbm, ⟨30, _⟩ => ⟨S512x8x64, .bf16⟩
  | .hbm, ⟨31, _⟩ => ⟨S512x8x128, .bf16⟩
  | .hbm, ⟨32, _⟩ => ⟨S512x1024, .bf16⟩
  | .hbm, ⟨33, _⟩ => ⟨S512x2048, .bf16⟩
  | .hbm, ⟨34, _⟩ => ⟨S512x8x256, .bf16⟩
  | .hbm, ⟨35, _⟩ => ⟨S512x8x128, .bf16⟩
  | .hbm, ⟨36, _⟩ => ⟨S512x1024, .bf16⟩
  | .hbm, ⟨37, _⟩ => ⟨S512x8x128, .bf16⟩
  | .hbm, ⟨38, _⟩ => ⟨S512x1024, .bf16⟩
  | .hbm, ⟨39, _⟩ => ⟨S1x192, .f32⟩
  | .hbm, ⟨40, _⟩ => ⟨S_, .f32⟩
  | .hbm, ⟨41, _⟩ => ⟨S1x64, .f32⟩
  | .hbm, ⟨42, _⟩ => ⟨S1x256, .f32⟩
  | .hbm, ⟨43, _⟩ => ⟨S1x192, .f32⟩
  | .hbm, ⟨44, _⟩ => ⟨S_, .f32⟩
  | .hbm, ⟨45, _⟩ => ⟨S1x64, .f32⟩
  | .hbm, ⟨46, _⟩ => ⟨S1x256, .f32⟩
  | .hbm, ⟨47, _⟩ => ⟨S32768x2048, .f32⟩
  | .hbm, ⟨48, _⟩ => ⟨S16x6x2048, .f32⟩
  | .hbm, ⟨49, _⟩ => ⟨S1x2048, .f32⟩
  | .hbm, ⟨50, _⟩ => ⟨S1x512, .f32⟩
  | .hbm, ⟨51, _⟩ => ⟨S1x512, .f32⟩
  | .hbm, ⟨52, _⟩ => ⟨S32768x2048, .bf16⟩
  | .hbm, ⟨53, _⟩ => ⟨S32768x2048, .bf16⟩
  | .hbm, ⟨54, _⟩ => ⟨S32768x2048, .bf16⟩
  | .hbm, ⟨55, _⟩ => ⟨S32768x1024, .bf16⟩
  | .local _ .vmem, ⟨0, _⟩ => ⟨S512x2048, .f32⟩
  | .local _ .vmem, ⟨1, _⟩ => ⟨S512x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x1152, .bf16⟩
  | .local _ .vmem, ⟨6, _⟩ => ⟨S1x512, .f32⟩
  | .local _ .vmem, ⟨7, _⟩ => ⟨S1x512, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x256, .f32⟩
  | .local _ .vmem, ⟨13, _⟩ => ⟨S1x256, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x2048, .bf16⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | .local _ .vmem, ⟨22, _⟩ => ⟨S512x2048, .bf16⟩
  | .local _ .vmem, ⟨23, _⟩ => ⟨S512x2048, .bf16⟩
  | .local _ .vmem, ⟨24, _⟩ => ⟨S512x1024, .bf16⟩
  | .local _ .vmem, ⟨25, _⟩ => ⟨S512x1024, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35_0 : Ref sig .tc := ⟨.hbm, 52, rfl⟩
abbrev main_v35_1 : Ref sig .tc := ⟨.hbm, 53, rfl⟩
abbrev main_v35_2 : Ref sig .tc := ⟨.hbm, 54, rfl⟩
abbrev main_v35_3 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Kernel6Ideal.lean ====
variable {F : FTy → Type} [FloatOps F] [Named F]
def κ : String → Option EReal := fun
  | "mean" => some ((1 / 192 : ℝ) : EReal)
  | "root" => some ((((Real.sqrt 192) * (Real.log 2))⁻¹ : ℝ) : EReal)
  | _ => none
-- ==== Reference6Ideal.lean ====
abbrev S16x2048x2048 : Shape := ⟨3, ![16, 2048, 2048]⟩
abbrev S16x12288 : Shape := ⟨2, ![16, 12288]⟩
abbrev S2048 : Shape := ⟨1, ![2048]⟩
abbrev S2048x8256 : Shape := ⟨2, ![2048, 8256]⟩
abbrev S512 : Shape := ⟨1, ![512]⟩
abbrev S512x1536 : Shape := ⟨2, ![512, 1536]⟩
abbrev S512x2048 : Shape := ⟨2, ![512, 2048]⟩
abbrev S192 : Shape := ⟨1, ![192]⟩
abbrev S16x2048x32 : Shape := ⟨3, ![16, 2048, 32]⟩
abbrev S16x2048 : Shape := ⟨2, ![16, 2048]⟩
abbrev S_ : Shape := ⟨0, ![]⟩
abbrev S16x2048x1 : Shape := ⟨3, ![16, 2048, 1]⟩
abbrev S1x1x2048 : Shape := ⟨3, ![1, 1, 2048]⟩
abbrev S16x1x2048 : Shape := ⟨3, ![16, 1, 2048]⟩
abbrev S16x2048x8256 : Shape := ⟨3, ![16, 2048, 8256]⟩
abbrev S16x2048x512 : Shape := ⟨3, ![16, 2048, 512]⟩
abbrev S16x2048x64 : Shape := ⟨3, ![16, 2048, 64]⟩
abbrev S1x1x512 : Shape := ⟨3, ![1, 1, 512]⟩
abbrev S16x2048x1536 : Shape := ⟨3, ![16, 2048, 1536]⟩
abbrev S16x2048x8x192 : Shape := ⟨4, ![16, 2048, 8, 192]⟩
abbrev S16x2048x8x256 : Shape := ⟨4, ![16, 2048, 8, 256]⟩
abbrev S16x2048x8x128 : Shape := ⟨4, ![16, 2048, 8, 128]⟩
abbrev S16x2048x1x64 : Shape := ⟨4, ![16, 2048, 1, 64]⟩
abbrev S16x2048x8x64 : Shape := ⟨4, ![16, 2048, 8, 64]⟩
abbrev S16x2048x8 : Shape := ⟨3, ![16, 2048, 8]⟩
abbrev S16x2048x8x1 : Shape := ⟨4, ![16, 2048, 8, 1]⟩
abbrev S1x1x1x192 : Shape := ⟨4, ![1, 1, 1, 192]⟩
abbrev S16x2048x1x32 : Shape := ⟨4, ![16, 2048, 1, 32]⟩
abbrev S16x2048x8x32 : Shape := ⟨4, ![16, 2048, 8, 32]⟩
abbrev S32768x2048 : Shape := ⟨2, ![32768, 2048]⟩
abbrev S32768x1024 : Shape := ⟨2, ![32768, 1024]⟩

abbrev nBuf : Space → Nat
  | .hbm => 173
  | .vmem => 0
  | .smem => 0
  | _ => 0

abbrev hbmTy0_0 (i : Nat) : BufTy := match i % 128 with
  | 0 => ⟨S16x2048x2048, .f32⟩
  | 1 => ⟨S16x12288, .f32⟩
  | 2 => ⟨S2048, .f32⟩
  | 3 => ⟨S2048x8256, .f32⟩
  | 4 => ⟨S512, .f32⟩
  | 5 => ⟨S512x1536, .f32⟩
  | 6 => ⟨S512, .f32⟩
  | 7 => ⟨S512x2048, .f32⟩
  | 8 => ⟨S192, .f32⟩
  | 9 => ⟨S192, .f32⟩
  | 10 => ⟨S16x2048x32, .f32⟩
  | 11 => ⟨S16x2048x32, .f32⟩
  | 12 => ⟨S16x2048, .f32⟩
  | 13 => ⟨S16x2048, .f32⟩
  | 14 => ⟨S16x2048, .f32⟩
  | 15 => ⟨S16x2048, .f32⟩
  | 16 => ⟨S16x2048, .f32⟩
  | 17 => ⟨S16x2048, .f32⟩
  | 18 => ⟨S16x2048x2048, .f32⟩
  | 19 => ⟨S_, .f32⟩
  | 20 => ⟨S16x2048, .f32⟩
  | 21 => ⟨S16x2048x1, .f32⟩
  | 22 => ⟨S_, .f32⟩
  | 23 => ⟨S16x2048x1, .f32⟩
  | 24 => ⟨S16x2048x1, .f32⟩
  | 25 => ⟨S_, .f32⟩
  | 26 => ⟨S16x2048x1, .f32⟩
  | 27 => ⟨S16x2048x1, .f32⟩
  | 28 => ⟨S16x2048x1, .f32⟩
  | 29 => ⟨S16x2048x2048, .f32⟩
  | 30 => ⟨S16x2048x2048, .f32⟩
  | 31 => ⟨S1x1x2048, .f32⟩
  | 32 => ⟨S16x2048x2048, .f32⟩
  | 33 => ⟨S16x2048x2048, .f32⟩
  | 34 => ⟨S16x1x2048, .f32⟩
  | 35 => ⟨S_, .f32⟩
  | 36 => ⟨S16x1x2048, .f32⟩
  | 37 => ⟨S16x1x2048, .f32⟩
  | 38 => ⟨S16x2048x2048, .f32⟩
  | 39 => ⟨S16x2048x2048, .f32⟩
  | 40 => ⟨S16x1x2048, .f32⟩
  | 41 => ⟨S16x2048x2048, .f32⟩
  | 42 => ⟨S16x2048x2048, .f32⟩
  | 43 => ⟨S16x2048x8256, .f32⟩
  | 44 => ⟨S16x2048x512, .f32⟩
  | 45 => ⟨S16x2048x512, .f32⟩
  | 46 => ⟨S16x2048x64, .f32⟩
  | 47 => ⟨S16x2048x512, .f32⟩
  | 48 => ⟨S_, .f32⟩
  | 49 => ⟨S16x2048, .f32⟩
  | 50 => ⟨S16x2048x1, .f32⟩
  | 51 => ⟨S_, .f32⟩
  | 52 => ⟨S16x2048x1, .f32⟩
  | 53 => ⟨S16x2048x1, .f32⟩
  | 54 => ⟨S_, .f32⟩
  | 55 => ⟨S16x2048x1, .f32⟩
  | 56 => ⟨S16x2048x1, .f32⟩
  | 57 => ⟨S16x2048x1, .f32⟩
  | 58 => ⟨S16x2048x512, .f32⟩
  | 59 => ⟨S16x2048x512, .f32⟩
  | 60 => ⟨S1x1x512, .f32⟩
  | 61 => ⟨S16x2048x512, .f32⟩
  | 62 => ⟨S16x2048x512, .f32⟩
  | 63 => ⟨S16x2048x1536, .f32⟩
  | 64 => ⟨S16x2048x8x192, .f32⟩
  | 65 => ⟨S16x2048x512, .f32⟩
  | 66 => ⟨S_, .f32⟩
  | 67 => ⟨S16x2048, .f32⟩
  | 68 => ⟨S16x2048x1, .f32⟩
  | 69 => ⟨S_, .f32⟩
  | 70 => ⟨S16x2048x1, .f32⟩
  | 71 => ⟨S16x2048x1, .f32⟩
  | 72 => ⟨S_, .f32⟩
  | 73 => ⟨S16x2048x1, .f32⟩
  | 74 => ⟨S16x2048x1, .f32⟩
  | 75 => ⟨S16x2048x1, .f32⟩
  | 76 => ⟨S16x2048x512, .f32⟩
  | 77 => ⟨S16x2048x512, .f32⟩
  | 78 => ⟨S1x1x512, .f32⟩
  | 79 => ⟨S16x2048x512, .f32⟩
  | 80 => ⟨S16x2048x512, .f32⟩
  | 81 => ⟨S16x2048x2048, .f32⟩
  | 82 => ⟨S16x2048x8x256, .f32⟩
  | 83 => ⟨S16x2048x8x128, .f32⟩
  | 84 => ⟨S16x2048x8x128, .f32⟩
  | 85 => ⟨S16x2048x1x64, .f32⟩
  | 86 => ⟨S16x2048x8x64, .f32⟩
  | 87 => ⟨S16x2048x8x192, .f32⟩
  | 88 => ⟨S16x2048x8x192, .f32⟩
  | 89 => ⟨S_, .f32⟩
  | 90 => ⟨S16x2048x8, .f32⟩
  | 91 => ⟨S16x2048x8x1, .f32⟩
  | 92 => ⟨S_, .f32⟩
  | 93 => ⟨S16x2048x8x1, .f32⟩
  | 94 => ⟨S16x2048x8x1, .f32⟩
  | 95 => ⟨S_, .f32⟩
  | 96 => ⟨S16x2048x8x1, .f32⟩
  | 97 => ⟨S16x2048x8x1, .f32⟩
  | 98 => ⟨S16x2048x8x1, .f32⟩
  | 99 => ⟨S16x2048x8x192, .f32⟩
  | 100 => ⟨S16x2048x8x192, .f32⟩
  | 101 => ⟨S1x1x1x192, .f32⟩
  | 102 => ⟨S16x2048x8x192, .f32⟩
  | 103 => ⟨S16x2048x8x192, .f32⟩
  | 104 => ⟨S16x2048x8x192, .f32⟩
  | 105 => ⟨S_, .f32⟩
  | 106 => ⟨S16x2048x8, .f32⟩
  | 107 => ⟨S16x2048x8x1, .f32⟩
  | 108 => ⟨S_, .f32⟩
  | 109 => ⟨S16x2048x8x1, .f32⟩
  | 110 => ⟨S16x2048x8x1, .f32⟩
  | 111 => ⟨S_, .f32⟩
  | 112 => ⟨S16x2048x8x1, .f32⟩
  | 113 => ⟨S16x2048x8x1, .f32⟩
  | 114 => ⟨S16x2048x8x1, .f32⟩
  | 115 => ⟨S16x2048x8x192, .f32⟩
  | 116 => ⟨S16x2048x8x192, .f32⟩
  | 117 => ⟨S1x1x1x192, .f32⟩
  | 118 => ⟨S16x2048x8x192, .f32⟩
  | 119 => ⟨S16x2048x8x192, .f32⟩
  | 120 => ⟨S_, .f32⟩
  | 121 => ⟨S16x2048x8x64, .f32⟩
  | 122 => ⟨S16x2048x8x128, .f32⟩
  | 123 => ⟨S16x2048x8x64, .f32⟩
  | 124 => ⟨S16x2048x1x32, .f32⟩
  | 125 => ⟨S16x2048x1x32, .f32⟩
  | 126 => ⟨S16x2048x8x32, .f32⟩
  | 127 => ⟨S16x2048x8x32, .f32⟩
  | _ => ⟨S16x2048x2048, .f32⟩

abbrev hbmTy0_1 (i : Nat) : BufTy := match i % 128 with
  | 0 => ⟨S16x2048x8x32, .f32⟩
  | 1 => ⟨S16x2048x8x32, .f32⟩
  | 2 => ⟨S16x2048x8x32, .f32⟩
  | 3 => ⟨S16x2048x8x32, .f32⟩
  | 4 => ⟨S16x2048x8x32, .f32⟩
  | 5 => ⟨S16x2048x8x32, .f32⟩
  | 6 => ⟨S16x2048x8x32, .f32⟩
  | 7 => ⟨S16x2048x8x32, .f32⟩
  | 8 => ⟨S16x2048x8x32, .f32⟩
  | 9 => ⟨S16x2048x8x32, .f32⟩
  | 10 => ⟨S16x2048x8x64, .f32⟩
  | 11 => ⟨S16x2048x8x256, .f32⟩
  | 12 => ⟨S16x2048x8x128, .f32⟩
  | 13 => ⟨S16x2048x8x64, .f32⟩
  | 14 => ⟨S16x2048x1x32, .f32⟩
  | 15 => ⟨S16x2048x1x32, .f32⟩
  | 16 => ⟨S16x2048x8x32, .f32⟩
  | 17 => ⟨S16x2048x8x32, .f32⟩
  | 18 => ⟨S16x2048x8x32, .f32⟩
  | 19 => ⟨S16x2048x8x32, .f32⟩
  | 20 => ⟨S16x2048x8x32, .f32⟩
  | 21 => ⟨S16x2048x8x32, .f32⟩
  | 22 => ⟨S16x2048x8x32, .f32⟩
  | 23 => ⟨S16x2048x8x32, .f32⟩
  | 24 => ⟨S16x2048x8x32, .f32⟩
  | 25 => ⟨S16x2048x8x32, .f32⟩
  | 26 => ⟨S16x2048x8x32, .f32⟩
  | 27 => ⟨S16x2048x8x32, .f32⟩
  | 28 => ⟨S16x2048x8x64, .f32⟩
  | 29 => ⟨S16x2048x8x256, .f32⟩
  | 30 => ⟨S_, .f32⟩
  | 31 => ⟨S_, .f32⟩
  | 32 => ⟨S_, .f32⟩
  | 33 => ⟨S_, .f32⟩
  | 34 => ⟨S_, .f32⟩
  | 35 => ⟨S16x2048x8x256, .f32⟩
  | 36 => ⟨S16x2048x8x256, .f32⟩
  | 37 => ⟨S32768x2048, .f32⟩
  | 38 => ⟨S32768x2048, .bf16⟩
  | 39 => ⟨S32768x2048, .f32⟩
  | 40 => ⟨S32768x2048, .bf16⟩
  | 41 => ⟨S32768x2048, .f32⟩
  | 42 => ⟨S32768x2048, .bf16⟩
  | 43 => ⟨S32768x1024, .f32⟩
  | 44 => ⟨S32768x1024, .bf16⟩
  | _ => ⟨S16x2048x2048, .f32⟩

abbrev hbmTy (i : Nat) : BufTy := match i / 128 with
  | 0 => hbmTy0_0 i
  | 1 => hbmTy0_1 i
  | _ => ⟨S16x2048x2048, .f32⟩

abbrev bufTy : (tb : Table) → Fin (tcTables nBuf tb) → BufTy
  | .hbm, ⟨i, _⟩ => hbmTy i
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_9 : Ref sig .tc := ⟨.hbm, 89, rfl⟩
abbrev main_v67 : Ref sig .tc := ⟨.hbm, 90, rfl⟩
abbrev main_v68 : Ref sig .tc := ⟨.hbm, 91, rfl⟩
abbrev main_cst_10 : Ref sig .tc := ⟨.hbm, 92, rfl⟩
abbrev main_v69 : Ref sig .tc := ⟨.hbm, 93, rfl⟩
abbrev main_v70 : Ref sig .tc := ⟨.hbm, 94, rfl⟩
abbrev main_cst_11 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_12 : Ref sig .tc := ⟨.hbm, 105, rfl⟩
abbrev main_v80 : Ref sig .tc := ⟨.hbm, 106, rfl⟩
abbrev main_v81 : Ref sig .tc := ⟨.hbm, 107, rfl⟩
abbrev main_cst_13 : Ref sig .tc := ⟨.hbm, 108, rfl⟩
abbrev main_v82 : Ref sig .tc := ⟨.hbm, 109, rfl⟩
abbrev main_v83 : Ref sig .tc := ⟨.hbm, 110, rfl⟩
abbrev main_cst_14 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_15 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_cst_16 : Ref sig .tc := ⟨.hbm, 158, rfl⟩
abbrev main_v129 : Ref sig .tc := ⟨.hbm, 159, rfl⟩
abbrev main_cst_17 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩

abbrev nD : Nat := 1
abbrev τ : Topo := Topo.v7x

variable {F : FTy → Type} [FloatOps F]
-- ==== Proof.Softmax.lean ====
/-
  A row of causal attention over extended reals. For a query at position `q` with finite scores `s`, the weight of key `k` is
  `exp (s k)` when `k ≤ q` and `0` otherwise, and the row's result is the weighted sum of the values over the sum of the weights
  (`att`). A softmax that first subtracts any finite number from its scores computes `att`, and so does one that takes its
  exponentials to the base 2 of scores divided by `log 2`, over the keys cut in two ranges (`row`, `row_first`); the plain softmax
  over all the keys computes it as well (`plain_row`).
-/
module

public import Idealize.ShloMosaic.Lib.Pipeline.ValueKit
public import Idealize.ShloMosaic.Lib.Pointwise
public import Idealize.ShloMosaic.Lib.WordCmp
public import Mathlib.Data.Finset.Fold
public import Mathlib.Data.EReal.Operations
public import Mathlib.Analysis.SpecialFunctions.Pow.Real

@[expose] public section

noncomputable section

namespace Cert.Softmax

open Idealize.ShloMosaic

/-! ## Sums of extended reals -/

/-- A finite nonnegative factor goes through a sum, on the right. -/
theorem sum_mul {ι : Type*} (t : Finset ι) (f : ι → EReal) (c : ℝ) (hc : 0 ≤ c) :
    (∑ k ∈ t, f k) * (c : EReal) = ∑ k ∈ t, f k * (c : EReal) := by
  classical
  induction t using Finset.induction_on with
  | empty => simp
  | insert a t ha ih =>
    rw [Finset.sum_insert ha, Finset.sum_insert ha,
      EReal.right_distrib_of_nonneg_of_ne_top (EReal.coe_nonneg.mpr hc) (EReal.coe_ne_top c), ih]

/-- The sum of reals, taken in the extended reals. -/
theorem coe_sum {ι : Type*} (t : Finset ι) (f : ι → ℝ) : ∑ k ∈ t, (f k : EReal) = ((∑ k ∈ t, f k : ℝ) : EReal) := by
  classical
  induction t using Finset.induction_on with
  | empty => simp
  | insert a t ha ih => rw [Finset.sum_insert ha, Finset.sum_insert ha, ih, EReal.coe_add]

/-- A sum over 2048 terms that vanish from `n + 256` on, as the 256 terms from `n` on and the `n` terms before. -/
theorem sum_split {M : Type*} [AddCommMonoid M] (n : ℕ) (hn : n + 256 ≤ 2048) (g : Fin 2048 → M) (hg : ∀ k : Fin 2048, n + 256 ≤ (k : ℕ) → g k = 0) :
    ∑ k, g k = (∑ j : Fin 256, g ⟨n + j, by omega⟩) + ∑ j : Fin n, g ⟨j, by omega⟩ := by
  set G : ℕ → M := fun k => if h : k < 2048 then g ⟨k, h⟩ else 0 with hG
  have e1 : ∑ k, g k = ∑ k ∈ Finset.range 2048, G k := by
    rw [Finset.sum_range]; exact Finset.sum_congr rfl fun k _ => by simp [hG]
  have e2 : ∑ j : Fin 256, g ⟨n + j, by omega⟩ = ∑ j ∈ Finset.range 256, G (n + j) := by
    rw [Finset.sum_range]
    exact Finset.sum_congr rfl fun j _ => by rw [hG]; dsimp only; rw [dif_pos]
  have e3 : ∑ j : Fin n, g ⟨j, by omega⟩ = ∑ j ∈ Finset.range n, G j := by
    rw [Finset.sum_range]
    exact Finset.sum_congr rfl fun j _ => by rw [hG]; dsimp only; rw [dif_pos]
  have e4 : ∑ k ∈ Finset.range 2048, G k = ∑ k ∈ Finset.range (n + 256), G k := by
    refine (Finset.sum_subset (Finset.range_subset_range.mpr hn) fun k hk hk' => ?_).symm
    have h1 := Finset.mem_range.mp hk
    have h2 : n + 256 ≤ k := by simpa using hk'
    simp only [hG, dif_pos h1]; exact hg _ h2
  rw [e1, e2, e3, e4, Finset.sum_range_add, add_comm]

/-! ## The constants -/

theorem negInf : Ideal.ofBits FTy.f32 0xFF800000#32 = (⊥ : EReal) := by
  simp [Ideal.ofBits, Ideal.ieee]

theorem log2_pos : 0 < Real.log 2 := Real.log_pos (by norm_num)

/-- `2` to a score divided by `log 2` less a number `m` is the score's exponential times a positive factor. -/
theorem exp2_sub (s m : ℝ) :
    Ideal.exp2 (((s * (Real.log 2)⁻¹ : ℝ) : EReal) - (m : EReal)) = ((Real.exp s * Real.exp (-(m * Real.log 2)) : ℝ) : EReal) := by
  rw [← EReal.coe_sub, Ideal.exp2_coe]
  have h : Real.rpow 2 (s * (Real.log 2)⁻¹ - m) = Real.exp s * Real.exp (-(m * Real.log 2)) := by
    rw [Real.rpow_eq_pow, Real.rpow_def_of_pos (by norm_num), ← Real.exp_add]
    congr 1
    have := log2_pos.ne'
    field_simp
    ring
  rw [h]

theorem exp_sub (s m : ℝ) : Ideal.exp ((s : EReal) - (m : EReal)) = ((Real.exp s * Real.exp (-m) : ℝ) : EReal) := by
  rw [← EReal.coe_sub, Ideal.exp_coe, sub_eq_add_neg, Real.exp_add]

/-! ## Maxima -/

theorem max_ne_top {ι : Type*} [Fintype ι] (f : ι → EReal) (h : ∀ x, f x ≠ ⊤) :
    Finset.univ.fold max (Ideal.ofBits FTy.f32 0xFF800000#32) f ≠ ⊤ := by
  rw [negInf]
  exact ((Finset.fold_max_lt _).mpr ⟨bot_lt_top, fun x _ => (h x).lt_top⟩).ne

theorem max_ne_bot {ι : Type*} [Fintype ι] (f : ι → EReal) (x : ι) (h : f x ≠ ⊥) :
    Finset.univ.fold max (Ideal.ofBits FTy.f32 0xFF800000#32) f ≠ ⊥ :=
  ((Finset.lt_fold_max _).mpr (Or.inr ⟨x, Finset.mem_univ x, h.bot_lt⟩)).ne'

theorem real_of {x : EReal} (h : x ≠ ⊤) (h' : x ≠ ⊥) : ∃ r : ℝ, x = r := ⟨x.toReal, (EReal.coe_toReal h h').symm⟩

/-! ## The row -/

/-- Key `k`'s weight for the query at `q`. -/
def kept (q : ℕ) (s : Fin 2048 → ℝ) (k : Fin 2048) : ℝ := if (k : ℕ) ≤ q then Real.exp (s k) else 0

theorem kept_nonneg (q : ℕ) (s : Fin 2048 → ℝ) (k : Fin 2048) : 0 ≤ kept q s k := by
  unfold kept; split_ifs <;> [exact (Real.exp_pos _).le; exact le_rfl]

theorem kept_sum_pos (q : ℕ) (hq : q < 2048) (s : Fin 2048 → ℝ) : 0 < ∑ k, kept q s k :=
  Finset.sum_pos' (fun k _ => kept_nonneg q s k) ⟨⟨q, hq⟩, Finset.mem_univ _, by simp [kept, Real.exp_pos]⟩

/-- The row: the weighted sum of the values over the sum of the weights. -/
def att (q : ℕ) (s : Fin 2048 → ℝ) (v : Fin 2048 → EReal) : EReal :=
  (∑ k, ((kept q s k : ℝ) : EReal) * v k) * (((∑ k, kept q s k)⁻¹ : ℝ) : EReal)

/-- The weights may all be scaled by one positive factor. -/
theorem scaled_row (q : ℕ) (hq : q < 2048) (s : Fin 2048 → ℝ) (v : Fin 2048 → EReal) (c : ℝ) (hc : 0 < c) :
    (∑ k, ((kept q s k * c : ℝ) : EReal) * v k) * Ideal.div 1 (((∑ k, kept q s k * c : ℝ)) : EReal) = att q s v := by
  have hL := kept_sum_pos q hq s
  have e : ∀ k, ((kept q s k * c : ℝ) : EReal) * v k = (((kept q s k : ℝ) : EReal) * v k) * (c : EReal) := fun k => by
    rw [EReal.coe_mul, mul_assoc, mul_assoc, mul_comm (c : EReal)]
  rw [Finset.sum_congr rfl fun k _ => e k, ← sum_mul _ _ c hc.le, ← Finset.sum_mul,
    Ideal.div_coe (mul_pos hL hc).ne', one_mul, mul_assoc, ← EReal.coe_mul, att]
  congr 3
  field_simp

section Kernel
/-- The scores of the 256 keys from `n` on, those after the query masked, divided by `log 2`. -/
def Diag (n : ℕ) (hn : n + 256 ≤ 2048) (s : Fin 2048 → ℝ) (r : Fin 256) (Z : Fin 256 → EReal) : Prop :=
  ∀ j : Fin 256, Z j = if (j : ℕ) ≤ r then ((s ⟨n + j, by omega⟩ * (Real.log 2)⁻¹ : ℝ) : EReal) else ⊥

/-- The scores of the `n` keys before, divided by `log 2`. -/
def Past (n : ℕ) (hn : n + 256 ≤ 2048) (s : Fin 2048 → ℝ) (Y : Fin n → EReal) : Prop :=
  ∀ j : Fin n, Y j = ((s ⟨j, by omega⟩ * (Real.log 2)⁻¹ : ℝ) : EReal)

variable {n : ℕ} {hn : n + 256 ≤ 2048} {s : Fin 2048 → ℝ} {r : Fin 256} {Z : Fin 256 → EReal} {Y : Fin n → EReal}

theorem Diag.max_real (hZ : Diag n hn s r Z) :
    ∃ μ : ℝ, Finset.univ.fold max (Ideal.ofBits FTy.f32 0xFF800000#32) Z = μ := by
  refine real_of (max_ne_top _ fun j => ?_) (max_ne_bot _ r ?_)
  · rw [hZ]; split_ifs
    · exact EReal.coe_ne_top _
    · exact bot_ne_top
  · rw [hZ, if_pos le_rfl]; exact EReal.coe_ne_bot _

theorem both_max_real (hZ : Diag n hn s r Z) (hY : Past n hn s Y) :
    ∃ μ : ℝ, max (Finset.univ.fold max (Ideal.ofBits FTy.f32 0xFF800000#32) Z)
      (Finset.univ.fold max (Ideal.ofBits FTy.f32 0xFF800000#32) Y) = μ := by
  obtain ⟨a, ha⟩ := hZ.max_real
  have h2 : Finset.univ.fold max (Ideal.ofBits FTy.f32 0xFF800000#32) Y ≠ ⊤ :=
    max_ne_top _ fun j => by rw [hY]; exact EReal.coe_ne_top _
  refine real_of ?_ ?_
  · exact (max_lt (ha ▸ EReal.coe_lt_top a) h2.lt_top).ne
  · exact (lt_max_of_lt_left (ha ▸ EReal.bot_lt_coe a)).ne'

/-- The factor that subtracting `μ` leaves. -/
def factor (μ : ℝ) : ℝ := Real.exp (-(μ * Real.log 2))

theorem factor_pos (μ : ℝ) : 0 < factor μ := Real.exp_pos _

theorem Diag.weight (hZ : Diag n hn s r Z) (μ : ℝ) (j : Fin 256) :
    Ideal.exp2 (Z j - (μ : EReal)) = ((kept (n + r) s ⟨n + j, by omega⟩ * factor μ : ℝ) : EReal) := by
  rw [hZ]
  by_cases h : (j : ℕ) ≤ r
  · rw [if_pos h, exp2_sub, kept, if_pos (by simpa using h), factor]
  · rw [if_neg h, EReal.bot_sub, Ideal.exp2_bot, kept, if_neg (by simpa using h)]; simp

theorem Past.weight (hY : Past n hn s Y) (μ : ℝ) (j : Fin n) :
    Ideal.exp2 (Y j - (μ : EReal)) = ((kept (n + r) s ⟨j, by omega⟩ * factor μ : ℝ) : EReal) := by
  rw [hY, exp2_sub, kept, if_pos (by simp only; omega), factor]

theorem kept_zero (k : Fin 2048) (hk : n + 256 ≤ (k : ℕ)) : kept (n + r) s k = 0 := by
  rw [kept, if_neg (by omega)]

/-- The weighted sum over the two ranges of keys. -/
theorem top_eq (hZ : Diag n hn s r Z) (hY : Past n hn s Y) (μ : ℝ) (v : Fin 2048 → EReal) :
    (∑ j : Fin 256, Ideal.exp2 (Z j - (μ : EReal)) * v ⟨n + j, by omega⟩)
      + ∑ j : Fin n, Ideal.exp2 (Y j - (μ : EReal)) * v ⟨j, by omega⟩
    = ∑ k, ((kept (n + r) s k * factor μ : ℝ) : EReal) * v k := by
  rw [sum_split n hn (fun k => ((kept (n + r) s k * factor μ : ℝ) : EReal) * v k)
    fun k hk => by rw [kept_zero k hk]; simp]
  simp only [hZ.weight, hY.weight (r := r)]

/-- The sum of the weights over the two ranges. -/
theorem bottom_eq (hZ : Diag n hn s r Z) (hY : Past n hn s Y) (μ : ℝ) :
    (∑ j : Fin 256, Ideal.exp2 (Z j - (μ : EReal))) + ∑ j : Fin n, Ideal.exp2 (Y j - (μ : EReal))
    = ((∑ k, kept (n + r) s k * factor μ : ℝ) : EReal) := by
  have h := top_eq hZ hY μ fun _ => 1
  simp only [mul_one] at h
  rw [h, coe_sum]

/-- A row whose keys come in two ranges. -/
theorem row (hZ : Diag n hn s r Z) (hY : Past n hn s Y) (v : Fin 2048 → EReal) (M : EReal)
    (hM : M = max (Finset.univ.fold max (Ideal.ofBits FTy.f32 0xFF800000#32) Z)
      (Finset.univ.fold max (Ideal.ofBits FTy.f32 0xFF800000#32) Y)) :
    ((∑ j : Fin 256, Ideal.exp2 (Z j - M) * v ⟨n + j, by omega⟩) + ∑ j : Fin n, Ideal.exp2 (Y j - M) * v ⟨j, by omega⟩)
      * Ideal.div 1 ((∑ j : Fin 256, Ideal.exp2 (Z j - M)) + ∑ j : Fin n, Ideal.exp2 (Y j - M))
    = att (n + r) s v := by
  obtain ⟨μ, hμ⟩ := both_max_real hZ hY
  rw [hM, hμ, top_eq hZ hY, bottom_eq hZ hY]
  exact scaled_row _ (by omega) s v _ (factor_pos μ)

end Kernel

/-- A row of the first block: there are no keys before. -/
theorem row_first {hn : 0 + 256 ≤ 2048} {s : Fin 2048 → ℝ} {r : Fin 256} {Z : Fin 256 → EReal} (hZ : Diag 0 hn s r Z) (v : Fin 2048 → EReal) (M : EReal)
    (hM : M = Finset.univ.fold max (Ideal.ofBits FTy.f32 0xFF800000#32) Z) :
    (∑ j : Fin 256, Ideal.exp2 (Z j - M) * v ⟨j, by omega⟩) * Ideal.div 1 (∑ j : Fin 256, Ideal.exp2 (Z j - M))
    = att r s v := by
  obtain ⟨μ, hμ⟩ := hZ.max_real
  have hY : Past 0 hn s (fun j : Fin 0 => j.elim0) := fun j => j.elim0
  have h1 := top_eq hZ hY μ v
  have h2 := bottom_eq hZ hY μ
  simp only [Finset.univ_eq_empty, Finset.sum_empty, add_zero, zero_add] at h1 h2
  rw [hM, hμ, h1, h2]
  exact scaled_row _ (by omega) s v _ (factor_pos μ)

/-! ## The plain softmax -/

/-- A key's weight over the sum of the weights, and the sum of the values by these. -/
theorem plain_row (q : Fin 2048) (s : Fin 2048 → ℝ) (v : Fin 2048 → EReal) (X : Fin 2048 → EReal)
    (hX : ∀ k, X k = if (k : ℕ) ≤ q then ((s k : ℝ) : EReal) else ⊥) (M : EReal)
    (hM : M = Finset.univ.fold max (Ideal.ofBits FTy.f32 0xFF800000#32) X) :
    ∑ k, v k * Ideal.div (Ideal.exp (X k - M)) (∑ j, Ideal.exp (X j - M)) = att q s v := by
  obtain ⟨μ, hμ⟩ : ∃ μ : ℝ, Finset.univ.fold max (Ideal.ofBits FTy.f32 0xFF800000#32) X = μ := by
    refine real_of (max_ne_top _ fun j => ?_) (max_ne_bot _ q ?_)
    · rw [hX]; split_ifs
      · exact EReal.coe_ne_top _
      · exact bot_ne_top
    · rw [hX, if_pos le_rfl]; exact EReal.coe_ne_bot _
  have hw : ∀ k, Ideal.exp (X k - M) = ((kept q s k * Real.exp (-μ) : ℝ) : EReal) := fun k => by
    rw [hM, hμ, hX]
    by_cases h : (k : ℕ) ≤ q
    · rw [if_pos h, exp_sub, kept, if_pos h]
    · rw [if_neg h, EReal.bot_sub, Ideal.exp_bot, kept, if_neg h]; simp
  have hL : 0 < ∑ k, kept q s k * Real.exp (-μ) := by
    rw [← Finset.sum_mul]; exact mul_pos (kept_sum_pos q q.2 s) (Real.exp_pos _)
  simp only [hw]
  rw [coe_sum, ← scaled_row q q.2 s v _ (Real.exp_pos (-μ)), Ideal.div_coe hL.ne', one_mul,
    sum_mul _ _ _ (one_div_pos.mpr hL).le]
  refine Finset.sum_congr rfl fun k _ => ?_
  rw [Ideal.div_coe hL.ne', ← mul_assoc, mul_comm (v k)]

/-- The mask's comparison of two positions. -/
theorem select_le {a b : ℕ} (ha : a < 2048) (hb : b < 2048) (x y : EReal) :
    Scalar.select (IntOp.cmpi .sle (BitVec.ofNat 32 a) (BitVec.ofNat 32 b)) x y = if a ≤ b then x else y := by
  rw [WordCmp.cmpi_sle_ofNat (by omega) (by omega), Scalar.select_ofBool]; simp

end Cert.Softmax

end
-- ==== Proof.Mla.Block.lean ====
/-
  What one grid point of the attention kernel stores: its eight query blocks of 256 rows, each over the keys before the block and,
  masked, the keys of the block, are the rows of causal attention (Proof/Softmax.lean `att`), given the scores of the point's queries
  and keys (`Scores`: the kernel's scores are the true ones divided by `log 2`).
-/
module

public import proofs.«01_k».proof.Proof.Gen.KernelIdeal.Value
public import proofs.«01_k».proof.Proof.Softmax

@[expose] public section

set_option maxRecDepth 16384

noncomputable section

namespace Cert.Mla

open Cert.KernelIdeal Cert.KernelIdeal.Gen Cert.Softmax Idealize.ShloMosaic Idealize.ShloMosaic.TcCoe Idealize.SL.Sem

/-- The mask's named value. -/
theorem mask_val : Named.named (F := Ideal) κ "mask" (φ := .f32) 0xFF7F0000#32 = (⊥ : EReal) :=
  IdealRules.named_const.ideal_named_scalar _ _ _ _ rfl

theorem select_le256 (a b : Fin 256) (x y : EReal) :
    Scalar.select (IntOp.cmpi .sle (BitVec.ofNat 32 (a : ℕ)) (BitVec.ofNat 32 (b : ℕ))) x y = if (a : ℕ) ≤ b then x else y :=
  select_le (by omega) (by omega) x y

theorem exp2_def (x : EReal) : FloatOps.exp2 (F := Ideal) (φ := .f32) x = Ideal.exp2 x := rfl

variable {x0 x1 : Vec Ideal S1x2048x256 .bf16} {x2 : Vec Ideal S1x2048x128 .bf16} {s : Fin 2048 → Fin 2048 → ℝ}

/-- The products of queries and keys are the scores `s` divided by `log 2`. -/
def Scores (x0 x1 : Vec Ideal S1x2048x256 .bf16) (s : Fin 2048 → Fin 2048 → ℝ) : Prop :=
  ∀ i k : Fin 2048, ∑ l : Fin 256, x0 (ix3 0 i l) * x1 (ix3 0 k l) = ((s i k * (Real.log 2)⁻¹ : ℝ) : EReal)

theorem Scores.diag (hS : Scores x0 x1 s) (n : ℕ) (hn : n + 256 ≤ 2048) (r : Fin 256) :
    Diag n hn (s ⟨n + r, by omega⟩) r
      fun j => if (j : ℕ) ≤ r then ∑ l, x0 (ix3 0 ⟨n + r, by omega⟩ l) * x1 (ix3 0 ⟨n + j, by omega⟩ l) else ⊥ :=
  fun j => by dsimp only; rw [hS]

theorem Scores.past (hS : Scores x0 x1 s) (n : ℕ) (hn : n + 256 ≤ 2048) (r : Fin 256) :
    Past n hn (s ⟨n + r, by omega⟩) fun j => ∑ l, x0 (ix3 0 ⟨n + r, by omega⟩ l) * x1 (ix3 0 ⟨j, by omega⟩ l) :=
  fun j => by dsimp only; rw [hS]

theorem Scores.first (hS : Scores x0 x1 s) (r : Fin 256) :
    Diag 0 (by omega) (s ⟨r, by omega⟩) r
      fun j => if (j : ℕ) ≤ r then ∑ l, x0 (ix3 0 ⟨r, by omega⟩ l) * x1 (ix3 0 ⟨j, by omega⟩ l) else ⊥ :=
  fun j => by simp only [Nat.zero_add]; rw [hS]

theorem piece0 (hS : Scores x0 x1 s) (r : Fin 256) (d : Fin 128) :
    k0_pay2 (View.ld x0 r0_0) (View.ld x1 r0_0) (View.ld x2 r0_1) (ix3 0 r d)
      = att r (s ⟨r, by omega⟩) (fun k => x2 (ix3 0 k d)) := by
  unfold_payloads
  pointwise
  simp only [select_le256, mask_val, exp2_def]
  exact row_first (hn := by omega) (Z := fun j => if (j : ℕ) ≤ r then ∑ l, x0 (ix3 0 ⟨r, by omega⟩ l) * x1 (ix3 0 ⟨j, by omega⟩ l) else ⊥)
    (hS.first r) (fun k => x2 (ix3 0 k d)) _ rfl

theorem piece1 (hS : Scores x0 x1 s) (r : Fin 256) (d : Fin 128) :
    k0_pay6 (k0_pay5 (k0_pay3 (View.ld x0 r0_2)) (k0_pay4 (View.ld x1 r0_2)) (View.ld x1 r0_0) (View.ld x2 r0_3) (View.ld x2 r0_1)) (ix3 0 r d)
      = att (256 + r) (s ⟨256 + r, by omega⟩) (fun k => x2 (ix3 0 k d)) := by
  unfold_payloads
  pointwise
  simp only [select_le256, mask_val, exp2_def]
  exact row (n := 256) (hn := by omega) (Z := fun j => if (j : ℕ) ≤ r then ∑ l, x0 (ix3 0 ⟨256 + r, by omega⟩ l) * x1 (ix3 0 ⟨256 + j, by omega⟩ l) else ⊥)
    (Y := fun j => ∑ l, x0 (ix3 0 ⟨256 + r, by omega⟩ l) * x1 (ix3 0 ⟨j, by omega⟩ l))
    (hS.diag 256 (by omega) r) (hS.past 256 (by omega) r) (fun k => x2 (ix3 0 k d)) _ rfl

theorem piece2 (hS : Scores x0 x1 s) (r : Fin 256) (d : Fin 128) :
    k0_pay16 (k0_pay13 (View.ld x0 r0_4) (View.ld x1 r0_4) (View.ld x1 r0_5)) (k0_pay14 (View.ld x0 r0_4) (View.ld x1 r0_4) (View.ld x1 r0_5) (View.ld x2 r0_6)) (k0_pay15 (View.ld x0 r0_4) (View.ld x1 r0_4) (View.ld x1 r0_5)) (View.ld x2 r0_7) (ix3 0 r d)
      = att (512 + r) (s ⟨512 + r, by omega⟩) (fun k => x2 (ix3 0 k d)) := by
  unfold_payloads
  pointwise
  simp only [select_le256, mask_val, exp2_def]
  exact row (n := 512) (hn := by omega) (Z := fun j => if (j : ℕ) ≤ r then ∑ l, x0 (ix3 0 ⟨512 + r, by omega⟩ l) * x1 (ix3 0 ⟨512 + j, by omega⟩ l) else ⊥)
    (Y := fun j => ∑ l, x0 (ix3 0 ⟨512 + r, by omega⟩ l) * x1 (ix3 0 ⟨j, by omega⟩ l))
    (hS.diag 512 (by omega) r) (hS.past 512 (by omega) r) (fun k => x2 (ix3 0 k d)) _ rfl

theorem piece3 (hS : Scores x0 x1 s) (r : Fin 256) (d : Fin 128) :
    k0_pay24 (k0_pay21 (View.ld x0 r0_8) (View.ld x1 r0_8) (View.ld x1 r0_9)) (k0_pay22 (View.ld x0 r0_8) (View.ld x1 r0_8) (View.ld x1 r0_9)) (k0_pay23 (View.ld x0 r0_8) (View.ld x1 r0_8) (View.ld x1 r0_9)) (View.ld x2 r0_10) (View.ld x2 r0_11) (ix3 0 r d)
      = att (768 + r) (s ⟨768 + r, by omega⟩) (fun k => x2 (ix3 0 k d)) := by
  unfold_payloads
  pointwise
  simp only [select_le256, mask_val, exp2_def]
  exact row (n := 768) (hn := by omega) (Z := fun j => if (j : ℕ) ≤ r then ∑ l, x0 (ix3 0 ⟨768 + r, by omega⟩ l) * x1 (ix3 0 ⟨768 + j, by omega⟩ l) else ⊥)
    (Y := fun j => ∑ l, x0 (ix3 0 ⟨768 + r, by omega⟩ l) * x1 (ix3 0 ⟨j, by omega⟩ l))
    (hS.diag 768 (by omega) r) (hS.past 768 (by omega) r) (fun k => x2 (ix3 0 k d)) _ rfl

theorem piece4 (hS : Scores x0 x1 s) (r : Fin 256) (d : Fin 128) :
    k0_pay28 (k0_pay25 (View.ld x0 r0_12)) (k0_pay26 (View.ld x0 r0_12) (View.ld x1 r0_12)) (k0_pay27 (View.ld x0 r0_12) (View.ld x1 r0_12)) (View.ld x1 r0_13) (View.ld x2 r0_14) (View.ld x2 r0_15) (ix3 0 r d)
      = att (1024 + r) (s ⟨1024 + r, by omega⟩) (fun k => x2 (ix3 0 k d)) := by
  unfold_payloads
  pointwise
  simp only [select_le256, mask_val, exp2_def]
  exact row (n := 1024) (hn := by omega) (Z := fun j => if (j : ℕ) ≤ r then ∑ l, x0 (ix3 0 ⟨1024 + r, by omega⟩ l) * x1 (ix3 0 ⟨1024 + j, by omega⟩ l) else ⊥)
    (Y := fun j => ∑ l, x0 (ix3 0 ⟨1024 + r, by omega⟩ l) * x1 (ix3 0 ⟨j, by omega⟩ l))
    (hS.diag 1024 (by omega) r) (hS.past 1024 (by omega) r) (fun k => x2 (ix3 0 k d)) _ rfl

theorem piece5 (hS : Scores x0 x1 s) (r : Fin 256) (d : Fin 128) :
    k0_pay32 (k0_pay31 (k0_pay29 (View.ld x0 r0_16)) (k0_pay30 (View.ld x1 r0_16)) (View.ld x1 r0_17) (View.ld x2 r0_18) (View.ld x2 r0_19)) (ix3 0 r d)
      = att (1280 + r) (s ⟨1280 + r, by omega⟩) (fun k => x2 (ix3 0 k d)) := by
  unfold_payloads
  pointwise
  simp only [select_le256, mask_val, exp2_def]
  exact row (n := 1280) (hn := by omega) (Z := fun j => if (j : ℕ) ≤ r then ∑ l, x0 (ix3 0 ⟨1280 + r, by omega⟩ l) * x1 (ix3 0 ⟨1280 + j, by omega⟩ l) else ⊥)
    (Y := fun j => ∑ l, x0 (ix3 0 ⟨1280 + r, by omega⟩ l) * x1 (ix3 0 ⟨j, by omega⟩ l))
    (hS.diag 1280 (by omega) r) (hS.past 1280 (by omega) r) (fun k => x2 (ix3 0 k d)) _ rfl

theorem piece6 (hS : Scores x0 x1 s) (r : Fin 256) (d : Fin 128) :
    k0_pay42 (k0_pay39 (View.ld x0 r0_20) (View.ld x1 r0_20) (View.ld x1 r0_21)) (k0_pay40 (View.ld x0 r0_20) (View.ld x1 r0_20) (View.ld x1 r0_21) (View.ld x2 r0_22)) (k0_pay41 (View.ld x0 r0_20) (View.ld x1 r0_20) (View.ld x1 r0_21)) (View.ld x2 r0_23) (ix3 0 r d)
      = att (1536 + r) (s ⟨1536 + r, by omega⟩) (fun k => x2 (ix3 0 k d)) := by
  unfold_payloads
  pointwise
  simp only [select_le256, mask_val, exp2_def]
  exact row (n := 1536) (hn := by omega) (Z := fun j => if (j : ℕ) ≤ r then ∑ l, x0 (ix3 0 ⟨1536 + r, by omega⟩ l) * x1 (ix3 0 ⟨1536 + j, by omega⟩ l) else ⊥)
    (Y := fun j => ∑ l, x0 (ix3 0 ⟨1536 + r, by omega⟩ l) * x1 (ix3 0 ⟨j, by omega⟩ l))
    (hS.diag 1536 (by omega) r) (hS.past 1536 (by omega) r) (fun k => x2 (ix3 0 k d)) _ rfl

theorem piece7 (hS : Scores x0 x1 s) (r : Fin 256) (d : Fin 128) :
    k0_pay1 (k0_pay47 (View.ld x0 r0_24) (View.ld x1 r0_24) (View.ld x1 r0_25)) (k0_pay48 (View.ld x0 r0_24) (View.ld x1 r0_24) (View.ld x1 r0_25)) (k0_pay49 (View.ld x0 r0_24) (View.ld x1 r0_24) (View.ld x1 r0_25)) (View.ld x2 r0_26) (View.ld x2 r0_27) (ix3 0 r d)
      = att (1792 + r) (s ⟨1792 + r, by omega⟩) (fun k => x2 (ix3 0 k d)) := by
  unfold_payloads
  pointwise
  simp only [select_le256, mask_val, exp2_def]
  exact row (n := 1792) (hn := by omega) (Z := fun j => if (j : ℕ) ≤ r then ∑ l, x0 (ix3 0 ⟨1792 + r, by omega⟩ l) * x1 (ix3 0 ⟨1792 + j, by omega⟩ l) else ⊥)
    (Y := fun j => ∑ l, x0 (ix3 0 ⟨1792 + r, by omega⟩ l) * x1 (ix3 0 ⟨j, by omega⟩ l))
    (hS.diag 1792 (by omega) r) (hS.past 1792 (by omega) r) (fun k => x2 (ix3 0 k d)) _ rfl

/-- A query block's rows, at an index of the point's whole block. -/
theorem at_offset (n : ℕ) (hn : n + 256 ≤ 2048) (p : Vec Ideal S1x256x128 .bf16)
    (hp : ∀ (r : Fin 256) (d : Fin 128), p (ix3 0 r d) = att (n + r) (s ⟨n + r, by omega⟩) fun k => x2 (ix3 0 k d))
    (x : S1x256x128.Idx) (y : S1x2048x128.Idx) (h1 : (y 1 : ℕ) = n + (x 1 : ℕ)) (h2 : (y 2 : ℕ) = (x 2 : ℕ)) :
    p x = att (y 1) (s (y 1)) fun k => x2 (ix3 0 k (y 2)) := by
  have e1 : y 1 = (⟨n + (x 1 : ℕ), by have : (x 1 : ℕ) < 256 := (x 1).isLt; omega⟩ : Fin 2048) := Fin.ext h1
  have e2 : y 2 = x 2 := Fin.ext h2
  have ex : x = ix3 0 (x 1) (x 2) := (eq_ix3 x).trans (by congr 1; exact Subsingleton.elim _ _)
  exact (congrArg p ex).trans ((hp (x 1) (x 2)).trans (by rw [e1, e2]))

/-- One grid point's stored block. -/
theorem block_at (hS : Scores x0 x1 s) (y : S1x2048x128.Idx) :
    out0_3 x0 x1 x2 y = att (y 1) (s (y 1)) (fun k => x2 (ix3 0 k (y 2))) := by
  unfold out0_3
  canon_tiles x h
  case piece0 => exact at_offset 1792 (by omega) _ (piece7 hS) x y h1 h2
  case piece1 => exact at_offset 1536 (by omega) _ (piece6 hS) x y h1 h2
  case piece2 => exact at_offset 1280 (by omega) _ (piece5 hS) x y h1 h2
  case piece3 => exact at_offset 1024 (by omega) _ (piece4 hS) x y h1 h2
  case piece4 => exact at_offset 768 (by omega) _ (piece3 hS) x y h1 h2
  case piece5 => exact at_offset 512 (by omega) _ (piece2 hS) x y h1 h2
  case piece6 => exact at_offset 256 (by omega) _ (piece1 hS) x y h1 h2
  case piece7 => exact at_offset 0 (by omega) _ (by simpa only [Nat.zero_add] using piece0 hS) x y (by omega) h2

end Cert.Mla

end
-- ==== Proof.Mla.KernelValue.lean ====
module

public import proofs.«01_k».proof.Proof.Mla.Block
public import Idealize.ShloMosaic.Lib.Claim

@[expose] public section

set_option maxRecDepth 16384

noncomputable section

namespace Cert.Mla

open Cert.KernelIdeal Cert.KernelIdeal.Gen Cert.Softmax Idealize.ShloMosaic Idealize.ShloMosaic.TcCoe Idealize.SL.Sem
open Idealize.ShloMosaic.Pipeline (Dat)

variable (m : (ℓ : Loc nD τ sig) → Buf (Elt Ideal) ℓ) (c : Dev nD)

/-- The queries as the kernel takes them: over `√192 · log 2`, each head's 192 lanes padded to 256, heads side by side. -/
def padQ (q : FVec Ideal S16x2048x8x192 .f32) : FVec Ideal S16x2048x2048 .bf16 :=
  shapeCast S16x2048x2048
    (truncf FTy.bf16
      (concatenate S16x2048x8x256 3
        [⟨S16x2048x8x192,
            Host.divf q
              (broadcastInDim S16x2048x8x192 ![] bcast_S_S16x2048x8x192
                (mulf (Host.sqrt (constant S_ FTy.f32 0x43400000#32))
                  (Host.log (constant S_ FTy.f32 0x40000000#32))))⟩,
          ⟨S16x2048x8x64, broadcastInDim S16x2048x8x64 ![] bcast_S_S16x2048x8x64 (constant S_ FTy.f32 0#32)⟩]
        concatenates_S16x2048x8x192_S16x2048x8x64_S16x2048x8x256_d3)
      bitsLt_bf16_f32)
    shapeCasts_S16x2048x8x256_S16x2048x2048

/-- The keys as the kernel takes them, padded likewise. -/
def padK (k : FVec Ideal S16x2048x8x192 .f32) : FVec Ideal S16x2048x2048 .bf16 :=
  shapeCast S16x2048x2048
    (truncf FTy.bf16
      (concatenate S16x2048x8x256 3
        [⟨S16x2048x8x192, k⟩,
          ⟨S16x2048x8x64, broadcastInDim S16x2048x8x64 ![] bcast_S_S16x2048x8x64 (constant S_ FTy.f32 0#32)⟩]
        concatenates_S16x2048x8x192_S16x2048x8x64_S16x2048x8x256_d3)
      bitsLt_bf16_f32)
    shapeCasts_S16x2048x8x256_S16x2048x2048

/-- The values, heads side by side. -/
def flatV (v : FVec Ideal S16x2048x8x128 .f32) : FVec Ideal S16x2048x1024 .bf16 :=
  shapeCast S16x2048x1024 (truncf FTy.bf16 v bitsLt_bf16_f32) shapeCasts_S16x2048x8x128_S16x2048x1024

theorem V_q : V m c main_v8 = padQ (m ((c : Thread nD τ).loc main_arg0)) := by
  entry_read; rfl

theorem V_k : V m c main_v12 = padK (m ((c : Thread nD τ).loc main_arg1)) := by
  entry_read; rfl

theorem V_v : V m c main_v14 = flatV (m ((c : Thread nD τ).loc main_arg2)) := by
  entry_read; rfl

theorem padQ_at (q : FVec Ideal S16x2048x8x192 .f32) (b : Fin 16) (i : Fin 2048) (h : Fin 8) (l : Fin 256) :
    padQ q (ix3 b i ⟨256 * h + l, by omega⟩) = if hl : (l : ℕ) < 192
      then Ideal.div (q (ix4 b i h ⟨l, hl⟩)) (Ideal.sqrt (Ideal.ofBits .f32 0x43400000#32) * Ideal.log (Ideal.ofBits .f32 0x40000000#32))
      else 0 := by
  pointwise [padQ]

theorem padK_at (k : FVec Ideal S16x2048x8x192 .f32) (b : Fin 16) (i : Fin 2048) (h : Fin 8) (l : Fin 256) :
    padK k (ix3 b i ⟨256 * h + l, by omega⟩) = if hl : (l : ℕ) < 192 then k (ix4 b i h ⟨l, hl⟩) else 0 := by
  pointwise [padK]

theorem flatV_at (v : FVec Ideal S16x2048x8x128 .f32) (b : Fin 16) (i : Fin 2048) (h : Fin 8) (d : Fin 128) :
    flatV v (ix3 b i ⟨128 * h + d, by omega⟩) = v (ix4 b i h d) := by
  pointwise [flatV]

end Cert.Mla

end
-- ==== Proof.Rows.lean ====
/-
  Causal attention over 2048 positions, entry by entry (`mla`), and the two ways its scores are computed: the product of the scaled
  and padded rows, divided by `log 2`, and the product divided by the scale.
-/
module

public import proofs.«01_k».proof.Proof.Softmax

@[expose] public section

noncomputable section

namespace Cert.Softmax

open Idealize.ShloMosaic

/-- A sum over padded lanes is the sum over the lanes kept. -/
theorem sum_pad {n p : ℕ} (hnp : n ≤ p) (f : Fin p → EReal) (g : Fin n → EReal)
    (h : ∀ l : Fin p, f l = if hl : (l : ℕ) < n then g ⟨l, hl⟩ else 0) : ∑ l, f l = ∑ l, g l := by
  obtain ⟨r, rfl⟩ := Nat.exists_eq_add_of_le hnp
  rw [Fin.sum_univ_add]
  simp [h]

/-- Neither infinity. -/
def Finite (x : EReal) : Prop := x ≠ ⊤ ∧ x ≠ ⊥

theorem Finite.eq {x : EReal} (h : Finite x) : x = ((x.toReal : ℝ) : EReal) := (EReal.coe_toReal h.1 h.2).symm

/-- The product of two rows, of real numbers. -/
def dotRow {n : ℕ} (a b : Fin n → EReal) : ℝ := ∑ l, (a l).toReal * (b l).toReal

theorem dotRow_eq {n : ℕ} {a b : Fin n → EReal} (ha : ∀ l, Finite (a l)) (hb : ∀ l, Finite (b l)) :
    ∑ l, a l * b l = ((dotRow a b : ℝ) : EReal) := by
  rw [dotRow, ← coe_sum]
  exact Finset.sum_congr rfl fun l _ => by rw [EReal.coe_mul, ← (ha l).eq, ← (hb l).eq]

/-- The scaled rows' product. -/
theorem scaled_dot {n : ℕ} {a b : Fin n → EReal} (ha : ∀ l, Finite (a l)) (hb : ∀ l, Finite (b l)) (c : ℝ) (hc : c ≠ 0) :
    ∑ l, Ideal.div (a l) (c : EReal) * b l = ((dotRow a b / c : ℝ) : EReal) := by
  have e : ∀ l, Ideal.div (a l) (c : EReal) * b l = (((a l).toReal * (b l).toReal / c : ℝ) : EReal) := fun l => by
    rw [Ideal.div_coe hc, (ha l).eq, (hb l).eq, ← EReal.coe_mul, ← EReal.coe_mul]
    simp only [EReal.toReal_coe]
    congr 1; ring
  rw [Finset.sum_congr rfl fun l _ => e l, coe_sum, dotRow, Finset.sum_div]

theorem sqrt192 : Ideal.sqrt (Ideal.ofBits .f32 0x43400000#32) = ((Real.sqrt 192 : ℝ) : EReal) := by
  have e : Ideal.ofBits .f32 0x43400000#32 = ((192 : ℝ) : EReal) := by
    simp [Ideal.ofBits, Ideal.ieee, ← EReal.coe_mul]; norm_num
  rw [e, Ideal.sqrt_coe, if_neg (by norm_num)]

theorem log2_lit : Ideal.log (Ideal.ofBits .f32 0x40000000#32) = ((Real.log 2 : ℝ) : EReal) := by
  have e : Ideal.ofBits .f32 0x40000000#32 = ((2 : ℝ) : EReal) := by
    simp [Ideal.ofBits, Ideal.ieee, ← EReal.coe_mul]; norm_num
  rw [e, Ideal.log_coe, if_neg (by norm_num)]

theorem sqrt192_ne : Real.sqrt 192 ≠ 0 := (Real.sqrt_pos.mpr (by norm_num)).ne'

/-- Finite queries and keys have absolute value below the infinity. -/
theorem finite_of_abs {x : EReal} (h : FloatOps.cmpf (F := Ideal) (φ := .f32) .olt (FloatOps.absf (F := Ideal) (φ := .f32) x) (Ideal.ofBits .f32 0x7F800000#32) = 1#1) : Finite x := by
  have e : Ideal.ofBits .f32 0x7F800000#32 = (⊤ : EReal) := by simp [Ideal.ofBits, Ideal.ieee]
  rw [e] at h
  have h2 : Ideal.cmp .olt (max x (-x)) ⊤ = 1#1 := h
  constructor
  · rintro rfl
    simp [Ideal.cmp] at h2
  · rintro rfl
    simp [Ideal.cmp] at h2

/-- The score of query `i` and key `j` of batch `b`, head `h`. -/
def score (q k : FVec Ideal ⟨4, ![16, 2048, 8, 192]⟩ .f32) (b : Fin 16) (h : Fin 8) (i j : Fin 2048) : ℝ :=
  dotRow (fun l : Fin 192 => q (ix4 b i h l)) (fun l => k (ix4 b j h l)) / Real.sqrt 192

/-- Causal attention: the entry at batch `b`, head `h`, query `i`, lane `d`. -/
def mla (q k : FVec Ideal ⟨4, ![16, 2048, 8, 192]⟩ .f32) (v : FVec Ideal ⟨4, ![16, 2048, 8, 128]⟩ .f32)
    (b : Fin 16) (h : Fin 8) (i : Fin 2048) (d : Fin 128) : EReal :=
  att i (score q k b h i) fun j => v (ix4 b j h d)

end Cert.Softmax

end
-- ==== Proof.Mla.Point.lean ====
/-
  The attention kernel's result, entry by entry: grid point `8 b + h` holds batch `b`, head `h`; its three input blocks are the padded
  queries, the padded keys and the values of that head, its scores are the true ones over `log 2`, and its stored block is the head's
  block of the result.
-/
module

public import proofs.«01_k».proof.Proof.Mla.KernelValue
public import proofs.«01_k».proof.Proof.Rows

@[expose] public section

set_option maxRecDepth 16384

noncomputable section

namespace Cert.Mla

open Cert.KernelIdeal Cert.KernelIdeal.Gen Cert.Softmax Idealize.ShloMosaic Idealize.ShloMosaic.TcCoe Idealize.SL.Sem
open Idealize.ShloMosaic.Pipeline (Dat)

variable (m : (ℓ : Loc nD τ sig) → Buf (Elt Ideal) ℓ) (c : Dev nD)

/-- Every window's block at grid point `t` is batch `t / 8`, head `t % 8`. -/
theorem idx : ∀ t : Fin cfg0.N,
    win0_0.index t = ![t.val / 8, 0, t.val % 8] ∧ win0_1.index t = ![t.val / 8, 0, t.val % 8]
    ∧ win0_2.index t = ![t.val / 8, 0, t.val % 8] ∧ win0_3.index t = ![t.val / 8, 0, t.val % 8] :=
  (by decide +kernel : ∀ t : Fin grid0.N, _)

/-- The grid point of batch `b`, head `h`. -/
def pt (b : Fin 16) (h : Fin 8) : Fin cfg0.N := ⟨8 * b + h, by show _ < 128; omega⟩

theorem pt_div (b : Fin 16) (h : Fin 8) : (pt b h).val / 8 = b := by simp only [pt]; omega
theorem pt_mod (b : Fin 16) (h : Fin 8) : (pt b h).val % 8 = h := by simp only [pt]; omega

theorem emb_q (b : Fin 16) (h : Fin 8) (i : Fin 2048) (l : Fin 256) :
    (((cfg0.win 0).blk (pt b h)).view.emb (ix3 0 i l) : S16x2048x2048.Idx) = ix3 b i ⟨256 * h + l, by omega⟩ := by
  have hb := pt_div b h
  have hh := pt_mod b h
  generalize pt b h = t at hb hh ⊢
  blk_simp
  blk_ext [idx t, hb, hh]

/-- Window 0's block of an array, at an index. -/
theorem read_q (A : Buf (Elt Ideal) ((c : Thread nD τ).loc (Pipeline.arrRef spec0 0))) (b : Fin 16) (h : Fin 8) (i : Fin 2048) (l : Fin 256) :
    (((cfg0.win 0).blk (pt b h)).view.read (Elt Ideal) A : Vec Ideal S1x2048x256 .bf16) (ix3 0 i l)
      = (A : FVec Ideal S16x2048x2048 .bf16) (ix3 b i ⟨256 * h + l, by omega⟩) :=
  congrArg A (emb_q b h i l)

theorem emb_k (b : Fin 16) (h : Fin 8) (i : Fin 2048) (l : Fin 256) :
    (((cfg0.win 1).blk (pt b h)).view.emb (ix3 0 i l) : S16x2048x2048.Idx) = ix3 b i ⟨256 * h + l, by omega⟩ := by
  have hb := pt_div b h
  have hh := pt_mod b h
  generalize pt b h = t at hb hh ⊢
  blk_simp
  blk_ext [idx t, hb, hh]

/-- Window 1's block of an array, at an index. -/
theorem read_k (A : Buf (Elt Ideal) ((c : Thread nD τ).loc (Pipeline.arrRef spec0 1))) (b : Fin 16) (h : Fin 8) (i : Fin 2048) (l : Fin 256) :
    (((cfg0.win 1).blk (pt b h)).view.read (Elt Ideal) A : Vec Ideal S1x2048x256 .bf16) (ix3 0 i l)
      = (A : FVec Ideal S16x2048x2048 .bf16) (ix3 b i ⟨256 * h + l, by omega⟩) :=
  congrArg A (emb_k b h i l)

theorem emb_v (b : Fin 16) (h : Fin 8) (i : Fin 2048) (l : Fin 128) :
    (((cfg0.win 2).blk (pt b h)).view.emb (ix3 0 i l) : S16x2048x1024.Idx) = ix3 b i ⟨128 * h + l, by omega⟩ := by
  have hb := pt_div b h
  have hh := pt_mod b h
  generalize pt b h = t at hb hh ⊢
  blk_simp
  blk_ext [idx t, hb, hh]

/-- Window 2's block of an array, at an index. -/
theorem read_v (A : Buf (Elt Ideal) ((c : Thread nD τ).loc (Pipeline.arrRef spec0 2))) (b : Fin 16) (h : Fin 8) (i : Fin 2048) (l : Fin 128) :
    (((cfg0.win 2).blk (pt b h)).view.read (Elt Ideal) A : Vec Ideal S1x2048x128 .bf16) (ix3 0 i l)
      = (A : FVec Ideal S16x2048x1024 .bf16) (ix3 b i ⟨128 * h + l, by omega⟩) :=
  congrArg A (emb_v b h i l)

theorem emb_o (b : Fin 16) (h : Fin 8) (i : Fin 2048) (l : Fin 128) :
    (((cfg0.win 3).blk (pt b h)).view.emb (ix3 0 i l) : S16x2048x1024.Idx) = ix3 b i ⟨128 * h + l, by omega⟩ := by
  have hb := pt_div b h
  have hh := pt_mod b h
  generalize pt b h = t at hb hh ⊢
  blk_simp
  blk_ext [idx t, hb, hh]

/-- Window 3's block of an array, at an index. -/
theorem read_o (A : Buf (Elt Ideal) ((c : Thread nD τ).loc (Pipeline.arrRef spec0 3))) (b : Fin 16) (h : Fin 8) (i : Fin 2048) (l : Fin 128) :
    (((cfg0.win 3).blk (pt b h)).view.read (Elt Ideal) A : Vec Ideal S1x2048x128 .bf16) (ix3 0 i l)
      = (A : FVec Ideal S16x2048x1024 .bf16) (ix3 b i ⟨128 * h + l, by omega⟩) :=
  congrArg A (emb_o b h i l)

theorem entry_q : V m c (Pipeline.arrRef spec0 0) = padQ (m ((c : Thread nD τ).loc main_arg0)) := V_q m c

theorem block_q (b : Fin 16) (h : Fin 8) (i : Fin 2048) (l : Fin 256) :
    (iblk m c 0 (pt b h) : Vec Ideal S1x2048x256 .bf16) (ix3 0 i l) = padQ (m ((c : Thread nD τ).loc main_arg0)) (ix3 b i ⟨256 * h + l, by omega⟩) := by
  have e : iblk m c 0 (pt b h) = ((cfg0.win 0).blk (pt b h)).view.read (Elt Ideal) (padQ (m ((c : Thread nD τ).loc main_arg0))) := by
    unfold iblk; rw [entry_q]
  rw [e]
  exact read_q c _ b h i l

theorem entry_k : V m c (Pipeline.arrRef spec0 1) = padK (m ((c : Thread nD τ).loc main_arg1)) := V_k m c

theorem block_k (b : Fin 16) (h : Fin 8) (i : Fin 2048) (l : Fin 256) :
    (iblk m c 1 (pt b h) : Vec Ideal S1x2048x256 .bf16) (ix3 0 i l) = padK (m ((c : Thread nD τ).loc main_arg1)) (ix3 b i ⟨256 * h + l, by omega⟩) := by
  have e : iblk m c 1 (pt b h) = ((cfg0.win 1).blk (pt b h)).view.read (Elt Ideal) (padK (m ((c : Thread nD τ).loc main_arg1))) := by
    unfold iblk; rw [entry_k]
  rw [e]
  exact read_k c _ b h i l

theorem entry_v : V m c (Pipeline.arrRef spec0 2) = flatV (m ((c : Thread nD τ).loc main_arg2)) := V_v m c

theorem block_v (b : Fin 16) (h : Fin 8) (i : Fin 2048) (l : Fin 128) :
    (iblk m c 2 (pt b h) : Vec Ideal S1x2048x128 .bf16) (ix3 0 i l) = flatV (m ((c : Thread nD τ).loc main_arg2)) (ix3 b i ⟨128 * h + l, by omega⟩) := by
  have e : iblk m c 2 (pt b h) = ((cfg0.win 2).blk (pt b h)).view.read (Elt Ideal) (flatV (m ((c : Thread nD τ).loc main_arg2))) := by
    unfold iblk; rw [entry_v]
  rw [e]
  exact read_v c _ b h i l

/-- The scores of a head's padded queries and keys. -/
theorem scores (q k : FVec Ideal S16x2048x8x192 .f32) (hq : ∀ y, Finite (q y)) (hk : ∀ y, Finite (k y)) (b : Fin 16) (h : Fin 8) (i j : Fin 2048) :
    ∑ l : Fin 256, padQ q (ix3 b i ⟨256 * h + l, by omega⟩) * padK k (ix3 b j ⟨256 * h + l, by omega⟩)
      = ((score q k b h i j * (Real.log 2)⁻¹ : ℝ) : EReal) := by
  refine (sum_pad (n := 192) (by norm_num) _
    (fun l => Ideal.div (q (ix4 b i h l)) ((Real.sqrt 192 * Real.log 2 : ℝ) : EReal) * k (ix4 b j h l)) fun l => ?_).trans ?_
  · rw [padQ_at, padK_at, sqrt192, log2_lit, ← EReal.coe_mul]
    by_cases hl : (l : ℕ) < 192 <;> simp [hl]
  · rw [scaled_dot (a := fun l => q (ix4 b i h l)) (b := fun l => k (ix4 b j h l)) (fun _ => hq _) (fun _ => hk _) _
      (mul_ne_zero sqrt192_ne log2_pos.ne')]
    congr 1
    rw [score, div_mul_eq_div_div, div_eq_mul_inv _ (Real.log 2)]

theorem scores_at (hq : ∀ y, Finite (m ((c : Thread nD τ).loc main_arg0) y)) (hk : ∀ y, Finite (m ((c : Thread nD τ).loc main_arg1) y))
    (b : Fin 16) (h : Fin 8) :
    Scores (iblk m c 0 (pt b h)) (iblk m c 1 (pt b h)) (score (m ((c : Thread nD τ).loc main_arg0)) (m ((c : Thread nD τ).loc main_arg1)) b h) := by
  intro i j
  refine (Finset.sum_congr rfl fun l _ => ?_).trans (scores _ _ hq hk b h i j)
  rw [block_q, block_k]

/-- Every grid point writes its block back. -/
theorem flush : ∀ t : Fin cfg0.N, (cfg0.win 3).flush t = true := (by decide +kernel : ∀ t : Fin grid0.N, win0_3.flush t = true)

/-- The result, at an entry. -/
theorem result_at (hq : ∀ y, Finite (m ((c : Thread nD τ).loc main_arg0) y)) (hk : ∀ y, Finite (m ((c : Thread nD τ).loc main_arg1) y))
    (b : Fin 16) (h : Fin 8) (i : Fin 2048) (d : Fin 128) :
    ((dats m 0 c).arrAt 3 cfg0.N : FVec Ideal S16x2048x1024 .bf16) (ix3 b i ⟨128 * h + d, by omega⟩)
      = mla (m ((c : Thread nD τ).loc main_arg0)) (m ((c : Thread nD τ).loc main_arg1)) (m ((c : Thread nD τ).loc main_arg2)) b h i d := by
  refine (read_o c ((dats m 0 c).arrAt 3 cfg0.N) b h i d).symm.trans ?_
  rw [Value.blocks3 m c (pt b h) (flush _), Value.flushed3]
  refine (block_at (scores_at m c hq hk b h) (ix3 0 i d)).trans ?_
  unfold mla
  congr 1
  funext j
  exact (block_v m c b h j d).trans (flatV_at _ b j h d)

end Cert.Mla

end
-- ==== Proof.Mla.RefValue.lean ====
/-
  The reference, operation by operation: the masked scores, their row maxima, the exponentials, the weights and the weighted sums, each read
  at an entry; composed, they are causal attention (Proof/Rows.lean `mla`).
-/
module

public import proofs.«01_k».proof.Proof.Gen.ReferenceIdeal.Run
public import Idealize.ShloMosaic.Lib.Pipeline.ValueKit
public import Idealize.ShloMosaic.Lib.Pointwise
public import Idealize.ShloMosaic.Lib.Tactic.CleanTypes
public import proofs.«01_k».proof.Proof.Rows

@[expose] public section

set_option maxRecDepth 16384

noncomputable section

namespace Cert.Mla.Ref

open Cert.Softmax Cert.ReferenceIdeal Cert.ReferenceIdeal.Gen Cert.ReferenceIdeal.Value Idealize.ShloMosaic Idealize.ShloMosaic.TcCoe Idealize.SL.Sem Idealize.ShloMosaic.StableHlo

/-- The scores divided by `√192`, keys after the query masked. -/
def masked (q k : FVec Ideal S16x2048x8x192 .f32) : FVec Ideal S16x8x2048x2048 .f32 :=
  select (broadcastInDim S16x8x2048x2048 ![2, 3] bcast_S2048x2048_S16x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))
    (Host.divf (Host.dotGeneral dot_S16x2048x8x192_S16x2048x8x192_S16x8x2048x2048_3_3_1_1_02_02 none q k) (broadcastInDim S16x8x2048x2048 ![] bcast_S_S16x8x2048x2048 (Host.sqrt (constant S_ .f32 0x43400000#32))))
    (broadcastInDim S16x8x2048x2048 ![] bcast_S_S16x8x2048x2048 (constant S_ .f32 0xFF800000#32))

/-- A row's maximum. -/
def rowMax (x : FVec Ideal S16x8x2048x2048 .f32) : FVec Ideal S16x8x2048 .f32 :=
  Host.reduce FloatOps.maximumf x (constant S_ .f32 0xFF800000#32) reducesTo_S16x8x2048x2048_S16x8x2048_d3 h_S_

/-- The exponentials of a row less its maximum `y`. -/
def weights (x : FVec Ideal S16x8x2048x2048 .f32) (y : FVec Ideal S16x8x2048 .f32) : FVec Ideal S16x8x2048x2048 .f32 :=
  Host.exp (subf x (broadcastInDim S16x8x2048x2048 ![0, 1, 2, 3] bcast_S16x8x2048x1_S16x8x2048x2048_0_1_2_3 (broadcastInDim S16x8x2048x1 ![0, 1, 2] bcast_S16x8x2048_S16x8x2048x1_0_1_2 (maximumf (broadcastInDim S16x8x2048 ![] bcast_S_S16x8x2048 (constant S_ .f32 0xFF800000#32)) y))))

/-- A row over its sum. -/
def normed (e : FVec Ideal S16x8x2048x2048 .f32) : FVec Ideal S16x8x2048x2048 .f32 :=
  Host.divf e (broadcastInDim S16x8x2048x2048 ![0, 1, 2, 3] bcast_S16x8x2048x1_S16x8x2048x2048_0_1_2_3 (broadcastInDim S16x8x2048x1 ![0, 1, 2] bcast_S16x8x2048_S16x8x2048x1_0_1_2 (Host.reduceAdd e (constant S_ .f32 0x00000000#32) reducesTo_S16x8x2048x2048_S16x8x2048_d3 h_S_)))

/-- The weighted sums of the values, heads side by side. -/
def mixed (v : FVec Ideal S16x2048x8x128 .f32) (p : FVec Ideal S16x8x2048x2048 .f32) : FVec Ideal S16x2048x1024 .bf16 :=
  truncf .bf16 (shapeCast _ (transpose S16x2048x8x128 [0, 3, 1, 2] (Host.dotGeneral dot_S16x2048x8x128_S16x8x2048x2048_S16x8x128x2048_1_3_3_2_02_01 none v p) transposes_S16x8x128x2048_S16x2048x8x128_0_3_1_2) shapeCasts_S16x2048x8x128_S16x2048x1024) bitsLt_bf16_f32

theorem out_eq (m : (ℓ : Loc nD τ sig) → Buf (Elt Ideal) ℓ) (c : Dev nD) :
    res_out0 m c = mixed (m ((c.tc : Thread nD τ).loc main_arg2))
      (normed (weights (masked (m ((c.tc : Thread nD τ).loc main_arg0)) (m ((c.tc : Thread nD τ).loc main_arg1)))
        (rowMax (masked (m ((c.tc : Thread nD τ).loc main_arg0)) (m ((c.tc : Thread nD τ).loc main_arg1)))))) := rfl

theorem reduceMax_at {n0 n1 n2 n3 : ℕ} {u : Shape} (x : FVec Ideal ⟨4, ![n0, n1, n2, n3]⟩ .f32) (init : u.Idx → EReal)
    (h : (⟨4, ![n0, n1, n2, n3]⟩ : Shape).ReducesTo [3] ⟨3, ![n0, n1, n2]⟩) (hu : 0 < u.numel) (b : Fin n0) (c : Fin n1) (i : Fin n2) :
    Host.reduce (FloatOps.maximumf (F := Ideal) (φ := .f32)) x init h hu (ix3 b c i) = Finset.univ.fold max (init (Shape.Idx.first hu)) (fun k => x (ix4 b c i k)) :=
  (Host.reduce_eq_fold _ x init h hu _).trans (h.fold_fiber_r4_a3 _ _ _ _)

theorem rowMax_at (x : FVec Ideal S16x8x2048x2048 .f32) (b : Fin 16) (h : Fin 8) (i : Fin 2048) :
    rowMax x (ix3 b h i) = Finset.univ.fold max (Ideal.ofBits FTy.f32 0xFF800000#32) (fun k => x (ix4 b h i k)) :=
  reduceMax_at x _ _ _ b h i

theorem masked_at (q k : FVec Ideal S16x2048x8x192 .f32) (b : Fin 16) (h : Fin 8) (i j : Fin 2048) :
    masked q k (ix4 b h i j) = Scalar.select (IntOp.cmpi .sle (BitVec.ofNat 32 (j : ℕ)) (BitVec.ofNat 32 (i : ℕ)))
      (Ideal.div (∑ x, q (ix4 b i h x) * k (ix4 b j h x)) (Ideal.sqrt (Ideal.ofBits .f32 0x43400000#32))) (Ideal.ofBits .f32 0xFF800000#32) := by
  pointwise [masked]

theorem weights_at (x : FVec Ideal S16x8x2048x2048 .f32) (y : FVec Ideal S16x8x2048 .f32) (b : Fin 16) (h : Fin 8) (i j : Fin 2048) :
    weights x y (ix4 b h i j) = Ideal.exp (x (ix4 b h i j) - max (Ideal.ofBits .f32 0xFF800000#32) (y (ix3 b h i))) := by
  pointwise [weights]

theorem normed_at (x : FVec Ideal S16x8x2048x2048 .f32) (b : Fin 16) (h : Fin 8) (i j : Fin 2048) :
    normed x (ix4 b h i j) = Ideal.div (x (ix4 b h i j)) (∑ k, x (ix4 b h i k)) := by
  pointwise [normed]

theorem mixed_at (v : FVec Ideal S16x2048x8x128 .f32) (p : FVec Ideal S16x8x2048x2048 .f32) (b : Fin 16) (h : Fin 8) (i : Fin 2048) (d : Fin 128) :
    mixed v p (ix3 b i ⟨128 * h + d, by omega⟩) = ∑ k, v (ix4 b k h d) * p (ix4 b h i k) := by
  pointwise [mixed]

/-- A score, masked. -/
theorem score_at {q k : FVec Ideal S16x2048x8x192 .f32} (hq : ∀ y, Finite (q y)) (hk : ∀ y, Finite (k y)) (b : Fin 16) (h : Fin 8) (i j : Fin 2048) :
    masked q k (ix4 b h i j) = if (j : ℕ) ≤ i then ((score q k b h i j : ℝ) : EReal) else ⊥ := by
  rw [masked_at, select_le j.isLt i.isLt, negInf, sqrt192]
  congr 1
  rw [dotRow_eq (a := fun l => q (ix4 b i h l)) (b := fun l => k (ix4 b j h l)) (fun _ => hq _) (fun _ => hk _), Ideal.div_coe sqrt192_ne,
    ← EReal.coe_mul, score, mul_one_div]

/-- The composed operations, at an entry. -/
theorem composed_at (q k : FVec Ideal S16x2048x8x192 .f32) (v : FVec Ideal S16x2048x8x128 .f32)
    (hq : ∀ y, Finite (q y)) (hk : ∀ y, Finite (k y)) (b : Fin 16) (h : Fin 8) (i : Fin 2048) (d : Fin 128) :
    mixed v (normed (weights (masked q k) (rowMax (masked q k)))) (ix3 b i ⟨128 * h + d, by omega⟩) = mla q k v b h i d := by
  have hX : ∀ j : Fin 2048, masked q k (ix4 b h i j) = if (j : ℕ) ≤ i then ((score q k b h i j : ℝ) : EReal) else ⊥ :=
    fun j => score_at hq hk b h i j
  generalize masked q k = X at hX
  rw [mixed_at]
  refine (Finset.sum_congr rfl fun j _ => ?_).trans (plain_row i _ (fun j => v (ix4 b j h d)) (fun j => X (ix4 b h i j)) hX _ rfl)
  have hm : ∀ y : EReal, max (Ideal.ofBits .f32 0xFF800000#32) y = y := fun y => by rw [max_eq_right]; exact negInf ▸ bot_le
  rw [normed_at]
  simp only [weights_at, rowMax_at, hm]

/-- The reference's result, at an entry. -/
theorem result_at (m : (ℓ : Loc nD τ sig) → Buf (Elt Ideal) ℓ) (c : Dev nD)
    (hq : ∀ y, Finite (m ((c.tc : Thread nD τ).loc main_arg0) y)) (hk : ∀ y, Finite (m ((c.tc : Thread nD τ).loc main_arg1) y))
    (b : Fin 16) (h : Fin 8) (i : Fin 2048) (d : Fin 128) :
    (res_out0 m c : FVec Ideal S16x2048x1024 .bf16) (ix3 b i ⟨128 * h + d, by omega⟩)
      = mla (m ((c.tc : Thread nD τ).loc main_arg0)) (m ((c.tc : Thread nD τ).loc main_arg1)) (m ((c.tc : Thread nD τ).loc main_arg2)) b h i d := by
  rw [out_eq]
  exact composed_at _ _ _ hq hk b h i d

end Cert.Mla.Ref

end
-- ==== Proof.Mla.Claims.lean ====
/-
  The claims about the attention kernel: the frames, the mask's named value, and the equality with the reference on finite queries and keys.
-/
module

public import proofs.«01_k».proof.Defs
public import proofs.«01_k».proof.Proof.Gen.Kernel.Frame
public import proofs.«01_k».proof.Proof.Mla.Point
public import proofs.«01_k».proof.Proof.Mla.RefValue
public import Idealize.ShloMosaic.Lib.Quiescent

@[expose] public section

noncomputable section

namespace Cert.Mla.Claims

open Cert.Softmax Idealize.ShloMosaic Idealize.ShloMosaic.TcCoe Idealize.SL.Sem

instance facts_pre : Cert.Pre_finite.Facts := ⟨by decide⟩

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frame_ri_pre : Cert.quiescent_ReferenceIdeal_pre_finite := fun m ρ _ => frame_ri m ρ trivial

theorem preserves : Cert.preserves_Kernel_KernelIdeal :=
  IdealRules.named_const.statement Cert.KernelIdeal.κ "mask" .f32 0xFF7F0000#32 ⊥ rfl

/-- The precondition: finite queries, finite keys. -/
theorem finite_of_pre {q k : FVec Ideal Cert.Pre_finite.S16x2048x8x192 .f32} {v : FVec Ideal Cert.Pre_finite.S16x2048x8x128 .f32}
    (h : (Cert.Pre_finite.fn (F := Ideal) q k v).1 = (fun _ => 1#1) ∧ (Cert.Pre_finite.fn (F := Ideal) q k v).2 = (fun _ => 1#1)) :
    (∀ y, Finite (q y)) ∧ ∀ y, Finite (k y) :=
  ⟨fun y => finite_of_abs (congrFun h.1 y), fun y => finite_of_abs (congrFun h.2 y)⟩

/-- Two arrays that agree at every batch, position, head and lane are equal. -/
theorem ext_heads {x y : FVec Ideal Cert.KernelIdeal.S16x2048x1024 .bf16}
    (h : ∀ (b : Fin 16) (h : Fin 8) (i : Fin 2048) (d : Fin 128), x (ix3 b i ⟨128 * h + d, by omega⟩) = y (ix3 b i ⟨128 * h + d, by omega⟩)) : x = y := by
  funext j
  have h2 : (j 2 : ℕ) < 1024 := (j 2).isLt
  have e : j = ix3 (j 0) (j 1) ⟨128 * ((⟨(j 2 : ℕ) / 128, by omega⟩ : Fin 8) : ℕ) + ((⟨(j 2 : ℕ) % 128, by omega⟩ : Fin 128) : ℕ), by simp only; omega⟩ := by
    refine (eq_ix3 j).trans ?_
    congr 1
    exact Fin.ext (by simp only; omega)
  exact (congrArg x e).trans ((h _ _ _ _).trans (congrArg y e).symm)

theorem algebraic : Cert.algebraic_KernelIdeal_ReferenceIdeal_pre_finite := by
  intro m g m' g' hpre hagree
  refine ⟨_, Cert.KernelIdeal.Value.run_blocks (F := Ideal) m g, ?_⟩
  refine (θ_run Cert.ReferenceIdeal.defs _ _).mono (fun _ h c => ⟨(h c).1.trans ?_, (h c).2⟩) (Cert.ReferenceIdeal.Value.run (F := Ideal) m' g')
  obtain ⟨hq, hk⟩ := finite_of_pre (hpre c)
  obtain ⟨e0, e1, e2⟩ := hagree c
  refine ext_heads fun b h i d => ?_
  refine (Ref.result_at m' c (by rw [e0]; exact hq) (by rw [e1]; exact hk) b h i d).trans ?_
  rw [e0, e1, e2]
  exact (result_at m c hq hk b h i d).symm

end Cert.Mla.Claims

end
-- ==== Proof.Merge.Point.lean ====
/-
  The gated merge: what one grid point stores (`stored`), its windows' blocks, and the kernel's result, entry by entry (`result_at`): the
  two branches' projections, each times the logistic of its gate.
-/
module

public import proofs.«01_k».proof.Proof.Gen.Kernel2Ideal.Value
public import Idealize.ShloMosaic.Lib.Claim
public import Idealize.ShloMosaic.Lib.Pointwise
public import Idealize.ShloMosaic.Lib.Pipeline.ValueKit
public import Idealize.ShloMosaic.Lib.Tactic.CleanTypes

@[expose] public section

set_option maxRecDepth 16384

noncomputable section

namespace Cert.Merge

open Cert.Kernel2Ideal Cert.Kernel2Ideal.Gen Idealize.ShloMosaic Idealize.ShloMosaic.TcCoe Idealize.SL.Sem
open Idealize.ShloMosaic.Pipeline (Dat)

/-- The columns of the input projection that gate channel `n` of the two branches. -/
def gateA (n : Fin 2048) : Fin 8256 := ⟨4160 + n, by omega⟩
@[inherit_doc gateA] def gateB (n : Fin 2048) : Fin 8256 := ⟨6208 + n, by omega⟩

/-- The merged branches at batch `b`, position `i`, channel `n`. -/
def merged (h : FVec Ideal S16x2048x2048 .f32) (oa ob : FVec Ideal S16x2048x1024 .f32) (w : FVec Ideal S2048x8256 .f32)
    (wa wb : FVec Ideal S1024x2048 .f32) (b : Fin 16) (i n : Fin 2048) : EReal :=
  Ideal.logistic (∑ l, h (ix3 b i l) * w (ix2 l (gateA n))) * (∑ l, oa (ix3 b i l) * wa (ix2 l n))
    + Ideal.logistic (∑ l, h (ix3 b i l) * w (ix2 l (gateB n))) * (∑ l, ob (ix3 b i l) * wb (ix2 l n))

/-- What a grid point stores. -/
theorem stored (x0 : Vec Ideal S512x2048 .bf16) (x1 x2 : Vec Ideal S512x1024 .bf16) (x3 x4 : Vec Ideal S2048x1024 .bf16)
    (x5 x6 : Vec Ideal S1024x1024 .bf16) (r : Fin 512) (n : Fin 1024) :
    k0_pay1 x0 x1 x5 x2 x6 x3 x4 (ix2 r n)
      = Ideal.logistic (∑ l, x0 (ix2 r l) * x3 (ix2 l n)) * (∑ l, x1 (ix2 r l) * x5 (ix2 l n))
        + Ideal.logistic (∑ l, x0 (ix2 r l) * x4 (ix2 l n)) * (∑ l, x2 (ix2 r l) * x6 (ix2 l n)) := by
  unfold_payloads
  pointwise

theorem block_at (x0 : Vec Ideal S512x2048 .bf16) (x1 x2 : Vec Ideal S512x1024 .bf16) (x3 x4 : Vec Ideal S2048x1024 .bf16)
    (x5 x6 : Vec Ideal S1024x1024 .bf16) (r : Fin 512) (n : Fin 1024) :
    out0_7 x0 x1 x2 x3 x4 x5 x6 (ix2 r n)
      = Ideal.logistic (∑ l, x0 (ix2 r l) * x3 (ix2 l n)) * (∑ l, x1 (ix2 r l) * x5 (ix2 l n))
        + Ideal.logistic (∑ l, x0 (ix2 r l) * x4 (ix2 l n)) * (∑ l, x2 (ix2 r l) * x6 (ix2 l n)) := by
  refine Eq.trans ?_ (stored x0 x1 x2 x3 x4 x5 x6 r n)
  unfold out0_7
  frame_out

/-! ## The operands on the host -/

/-- The modulated input, its batches one under the other. -/
def rows (x : FVec Ideal S16x2048x2048 .f32) : FVec Ideal S32768x2048 .bf16 :=
  shapeCast S32768x2048 (truncf FTy.bf16 x bitsLt_bf16_f32) shapeCasts_S16x2048x2048_S32768x2048

/-- A mixer's result, its batches one under the other. -/
def mixer (x : FVec Ideal S16x2048x1024 .f32) : FVec Ideal S32768x1024 .bf16 :=
  shapeCast S32768x1024 (truncf FTy.bf16 x bitsLt_bf16_f32) shapeCasts_S16x2048x1024_S32768x1024

/-- The gates' columns of the input projection. -/
def gates (x : FVec Ideal S2048x8256 .f32) : FVec Ideal S2048x4096 .bf16 :=
  extractStridedSlice S2048x4096 ![0, 4160] (truncf FTy.bf16 x bitsLt_bf16_f32) slices_S2048x8256_S2048x4096_0_4160

/-- A mixer's output weights. -/
def weights (x : FVec Ideal S1024x2048 .f32) : FVec Ideal S1024x2048 .bf16 := truncf FTy.bf16 x bitsLt_bf16_f32

theorem rows_at (x : FVec Ideal S16x2048x2048 .f32) (b : Fin 16) (i l : Fin 2048) (R : Fin 32768) (hR : (R : ℕ) = 2048 * b + i) :
    rows x (ix2 R l) = x (ix3 b i l) := by
  rw [show R = (⟨2048 * b + i, by omega⟩ : Fin 32768) from Fin.ext hR]
  pointwise [rows]

theorem mixer_at (x : FVec Ideal S16x2048x1024 .f32) (b : Fin 16) (i : Fin 2048) (l : Fin 1024) (R : Fin 32768) (hR : (R : ℕ) = 2048 * b + i) :
    mixer x (ix2 R l) = x (ix3 b i l) := by
  rw [show R = (⟨2048 * b + i, by omega⟩ : Fin 32768) from Fin.ext hR]
  pointwise [mixer]

theorem gates_at (x : FVec Ideal S2048x8256 .f32) (l : Fin 2048) (n : Fin 4096) : gates x (ix2 l n) = x (ix2 l ⟨4160 + n, by omega⟩) := by
  pointwise [gates]

section Entry
variable (m : (ℓ : Loc nD τ sig) → Buf (Elt Ideal) ℓ) (c : Dev nD)

theorem entry_0 : V m c (Pipeline.arrRef spec0 0) = rows (m ((c : Thread nD τ).loc main_arg0)) := by
  show V m c main_v3 = _
  entry_read; rfl

theorem entry_1 : V m c (Pipeline.arrRef spec0 1) = mixer (m ((c : Thread nD τ).loc main_arg1)) := by
  show V m c main_v5 = _
  entry_read; rfl

theorem entry_2 : V m c (Pipeline.arrRef spec0 2) = mixer (m ((c : Thread nD τ).loc main_arg2)) := by
  show V m c main_v7 = _
  entry_read; rfl

theorem entry_3 : V m c (Pipeline.arrRef spec0 3) = gates (m ((c : Thread nD τ).loc main_arg3)) := by
  show V m c main_v1 = _
  entry_read; rfl

theorem entry_4 : V m c (Pipeline.arrRef spec0 4) = gates (m ((c : Thread nD τ).loc main_arg3)) := by
  show V m c main_v1 = _
  entry_read; rfl

theorem entry_5 : V m c (Pipeline.arrRef spec0 5) = weights (m ((c : Thread nD τ).loc main_arg4)) := by
  show V m c main_v8 = _
  entry_read; rfl

theorem entry_6 : V m c (Pipeline.arrRef spec0 6) = weights (m ((c : Thread nD τ).loc main_arg5)) := by
  show V m c main_v9 = _
  entry_read; rfl

end Entry

/-! ## The windows' blocks -/

/-- Grid point `t` holds rows `512 (t / 2) …` and channels `1024 (t % 2) …`. -/
theorem idx : ∀ t : Fin cfg0.N,
    win0_0.index t = ![t.val / 2, 0] ∧ win0_1.index t = ![t.val / 2, 0] ∧ win0_2.index t = ![t.val / 2, 0]
    ∧ win0_3.index t = ![0, t.val % 2] ∧ win0_4.index t = ![0, 2 + t.val % 2] ∧ win0_5.index t = ![0, t.val % 2]
    ∧ win0_6.index t = ![0, t.val % 2] ∧ win0_7.index t = ![t.val / 2, t.val % 2] :=
  (by decide +kernel : ∀ t : Fin grid0.N, _)

section Blocks
variable (c : Dev nD) (t : Fin cfg0.N)

theorem read_0 (A : Buf (Elt Ideal) ((c : Thread nD τ).loc (Pipeline.arrRef spec0 0))) (r : Fin 512) (l : Fin 2048) (R : Fin 32768) (hR : (R : ℕ) = 512 * (t.val / 2) + r) :
    (((cfg0.win 0).blk t).view.read (Elt Ideal) A : Vec Ideal S512x2048 .bf16) (ix2 r l) = (A : FVec Ideal S32768x2048 .bf16) (ix2 R l) := by
  have e : (((cfg0.win 0).blk t).view.emb (ix2 r l) : S32768x2048.Idx) = ix2 R l := by
    blk_simp
    blk_ext [idx t, hR]
  exact congrArg A e

theorem read_1 (A : Buf (Elt Ideal) ((c : Thread nD τ).loc (Pipeline.arrRef spec0 1))) (r : Fin 512) (l : Fin 1024) (R : Fin 32768) (hR : (R : ℕ) = 512 * (t.val / 2) + r) :
    (((cfg0.win 1).blk t).view.read (Elt Ideal) A : Vec Ideal S512x1024 .bf16) (ix2 r l) = (A : FVec Ideal S32768x1024 .bf16) (ix2 R l) := by
  have e : (((cfg0.win 1).blk t).view.emb (ix2 r l) : S32768x1024.Idx) = ix2 R l := by
    blk_simp
    blk_ext [idx t, hR]
  exact congrArg A e

theorem read_2 (A : Buf (Elt Ideal) ((c : Thread nD τ).loc (Pipeline.arrRef spec0 2))) (r : Fin 512) (l : Fin 1024) (R : Fin 32768) (hR : (R : ℕ) = 512 * (t.val / 2) + r) :
    (((cfg0.win 2).blk t).view.read (Elt Ideal) A : Vec Ideal S512x1024 .bf16) (ix2 r l) = (A : FVec Ideal S32768x1024 .bf16) (ix2 R l) := by
  have e : (((cfg0.win 2).blk t).view.emb (ix2 r l) : S32768x1024.Idx) = ix2 R l := by
    blk_simp
    blk_ext [idx t, hR]
  exact congrArg A e

theorem read_3 (A : Buf (Elt Ideal) ((c : Thread nD τ).loc (Pipeline.arrRef spec0 3))) (l : Fin 2048) (n : Fin 1024) (N : Fin 4096) (hN : (N : ℕ) = 1024 * (t.val % 2) + n) :
    (((cfg0.win 3).blk t).view.read (Elt Ideal) A : Vec Ideal S2048x1024 .bf16) (ix2 l n) = (A : FVec Ideal S2048x4096 .bf16) (ix2 l N) := by
  have e : (((cfg0.win 3).blk t).view.emb (ix2 l n) : S2048x4096.Idx) = ix2 l N := by
    blk_simp
    blk_ext [idx t, hN]
  exact congrArg A e

theorem read_4 (A : Buf (Elt Ideal) ((c : Thread nD τ).loc (Pipeline.arrRef spec0 4))) (l : Fin 2048) (n : Fin 1024) (N : Fin 4096) (hN : (N : ℕ) = 1024 * (2 + t.val % 2) + n) :
    (((cfg0.win 4).blk t).view.read (Elt Ideal) A : Vec Ideal S2048x1024 .bf16) (ix2 l n) = (A : FVec Ideal S2048x4096 .bf16) (ix2 l N) := by
  have e : (((cfg0.win 4).blk t).view.emb (ix2 l n) : S2048x4096.Idx) = ix2 l N := by
    blk_simp
    blk_ext [idx t, hN]
  exact congrArg A e

theorem read_5 (A : Buf (Elt Ideal) ((c : Thread nD τ).loc (Pipeline.arrRef spec0 5))) (l : Fin 1024) (n : Fin 1024) (N : Fin 2048) (hN : (N : ℕ) = 1024 * (t.val % 2) + n) :
    (((cfg0.win 5).blk t).view.read (Elt Ideal) A : Vec Ideal S1024x1024 .bf16) (ix2 l n) = (A : FVec Ideal S1024x2048 .bf16) (ix2 l N) := by
  have e : (((cfg0.win 5).blk t).view.emb (ix2 l n) : S1024x2048.Idx) = ix2 l N := by
    blk_simp
    blk_ext [idx t, hN]
  exact congrArg A e

theorem read_6 (A : Buf (Elt Ideal) ((c : Thread nD τ).loc (Pipeline.arrRef spec0 6))) (l : Fin 1024) (n : Fin 1024) (N : Fin 2048) (hN : (N : ℕ) = 1024 * (t.val % 2) + n) :
    (((cfg0.win 6).blk t).view.read (Elt Ideal) A : Vec Ideal S1024x1024 .bf16) (ix2 l n) = (A : FVec Ideal S1024x2048 .bf16) (ix2 l N) := by
  have e : (((cfg0.win 6).blk t).view.emb (ix2 l n) : S1024x2048.Idx) = ix2 l N := by
    blk_simp
    blk_ext [idx t, hN]
  exact congrArg A e

theorem read_7 (A : Buf (Elt Ideal) ((c : Thread nD τ).loc (Pipeline.arrRef spec0 7))) (r : Fin 512) (n : Fin 1024) (R : Fin 32768) (hR : (R : ℕ) = 512 * (t.val / 2) + r) (N : Fin 2048) (hN : (N : ℕ) = 1024 * (t.val % 2) + n) :
    (((cfg0.win 7).blk t).view.read (Elt Ideal) A : Vec Ideal S512x1024 .bf16) (ix2 r n) = (A : FVec Ideal S32768x2048 .bf16) (ix2 R N) := by
  have e : (((cfg0.win 7).blk t).view.emb (ix2 r n) : S32768x2048.Idx) = ix2 R N := by
    blk_simp
    blk_ext [idx t, hR, hN]
  exact congrArg A e

end Blocks

section Result
variable (m : (ℓ : Loc nD τ sig) → Buf (Elt Ideal) ℓ) (c : Dev nD) (t : Fin cfg0.N)

theorem iblk_0 : iblk m c 0 t = ((cfg0.win 0).blk t).view.read (Elt Ideal) (rows (m ((c : Thread nD τ).loc main_arg0))) := by
  unfold iblk; rw [entry_0]

theorem iblk_1 : iblk m c 1 t = ((cfg0.win 1).blk t).view.read (Elt Ideal) (mixer (m ((c : Thread nD τ).loc main_arg1))) := by
  unfold iblk; rw [entry_1]

theorem iblk_2 : iblk m c 2 t = ((cfg0.win 2).blk t).view.read (Elt Ideal) (mixer (m ((c : Thread nD τ).loc main_arg2))) := by
  unfold iblk; rw [entry_2]

theorem iblk_3 : iblk m c 3 t = ((cfg0.win 3).blk t).view.read (Elt Ideal) (gates (m ((c : Thread nD τ).loc main_arg3))) := by
  unfold iblk; rw [entry_3]

theorem iblk_4 : iblk m c 4 t = ((cfg0.win 4).blk t).view.read (Elt Ideal) (gates (m ((c : Thread nD τ).loc main_arg3))) := by
  unfold iblk; rw [entry_4]

theorem iblk_5 : iblk m c 5 t = ((cfg0.win 5).blk t).view.read (Elt Ideal) (weights (m ((c : Thread nD τ).loc main_arg4))) := by
  unfold iblk; rw [entry_5]

theorem iblk_6 : iblk m c 6 t = ((cfg0.win 6).blk t).view.read (Elt Ideal) (weights (m ((c : Thread nD τ).loc main_arg5))) := by
  unfold iblk; rw [entry_6]

/-- Every grid point writes its block back. -/
theorem flush : ∀ t : Fin cfg0.N, (cfg0.win 7).flush t = true := (by decide +kernel : ∀ t : Fin grid0.N, win0_7.flush t = true)

section At
variable (b : Fin 16) (i : Fin 2048) (R : Fin 32768) (hR : (R : ℕ) = 2048 * b + i) (r : Fin 512) (hr : (R : ℕ) = 512 * (t.val / 2) + r)
  (n : Fin 2048) (k : Fin 1024) (hk : (n : ℕ) = 1024 * (t.val % 2) + k)
include hR hr

theorem blk_0 (l : Fin 2048) : (iblk m c 0 t : Vec Ideal S512x2048 .bf16) (ix2 r l)
    = (m ((c : Thread nD τ).loc main_arg0) : FVec Ideal S16x2048x2048 .f32) (ix3 b i l) := by
  rw [iblk_0]; exact (read_0 c t _ r l R hr).trans (rows_at _ b i l R hR)

theorem blk_1 (l : Fin 1024) : (iblk m c 1 t : Vec Ideal S512x1024 .bf16) (ix2 r l)
    = (m ((c : Thread nD τ).loc main_arg1) : FVec Ideal S16x2048x1024 .f32) (ix3 b i l) := by
  rw [iblk_1]; exact (read_1 c t _ r l R hr).trans (mixer_at _ b i l R hR)

theorem blk_2 (l : Fin 1024) : (iblk m c 2 t : Vec Ideal S512x1024 .bf16) (ix2 r l)
    = (m ((c : Thread nD τ).loc main_arg2) : FVec Ideal S16x2048x1024 .f32) (ix3 b i l) := by
  rw [iblk_2]; exact (read_2 c t _ r l R hr).trans (mixer_at _ b i l R hR)

omit hR hr
include hk

theorem blk_3 (l : Fin 2048) : (iblk m c 3 t : Vec Ideal S2048x1024 .bf16) (ix2 l k)
    = (m ((c : Thread nD τ).loc main_arg3) : FVec Ideal S2048x8256 .f32) (ix2 l (gateA n)) := by
  rw [iblk_3]; exact (read_3 c t _ l k ⟨n, by omega⟩ hk).trans (gates_at _ l _)

theorem blk_4 (l : Fin 2048) : (iblk m c 4 t : Vec Ideal S2048x1024 .bf16) (ix2 l k)
    = (m ((c : Thread nD τ).loc main_arg3) : FVec Ideal S2048x8256 .f32) (ix2 l (gateB n)) := by
  rw [iblk_4]
  refine (read_4 c t _ l k ⟨2048 + n, by omega⟩ (by simp only; omega)).trans ((gates_at _ l _).trans ?_)
  refine congrArg (fun N : Fin 8256 => (m ((c : Thread nD τ).loc main_arg3) : FVec Ideal S2048x8256 .f32) (ix2 l N)) (Fin.ext ?_)
  simp only [gateB]; omega

theorem blk_5 (l : Fin 1024) : (iblk m c 5 t : Vec Ideal S1024x1024 .bf16) (ix2 l k)
    = (m ((c : Thread nD τ).loc main_arg4) : FVec Ideal S1024x2048 .f32) (ix2 l n) := by
  rw [iblk_5]; exact read_5 c t _ l k n hk

theorem blk_6 (l : Fin 1024) : (iblk m c 6 t : Vec Ideal S1024x1024 .bf16) (ix2 l k)
    = (m ((c : Thread nD τ).loc main_arg5) : FVec Ideal S1024x2048 .f32) (ix2 l n) := by
  rw [iblk_6]; exact read_6 c t _ l k n hk

include hR hr
/-- A grid point's stored block, at an entry. -/
theorem point_at : out0_7 (iblk m c 0 t) (iblk m c 1 t) (iblk m c 2 t) (iblk m c 3 t) (iblk m c 4 t) (iblk m c 5 t) (iblk m c 6 t) (ix2 r k)
    = merged (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) b i n := by
  refine (block_at _ _ _ _ _ _ _ r k).trans ?_
  unfold merged
  refine congrArg₂ (· + ·) (congrArg₂ (· * ·) (congrArg Ideal.logistic ?_) ?_) (congrArg₂ (· * ·) (congrArg Ideal.logistic ?_) ?_)
  · exact Finset.sum_congr rfl fun l _ => congrArg₂ (· * ·) (blk_0 m c t b i R hR r hr l) (blk_3 m c t n k hk l)
  · exact Finset.sum_congr rfl fun l _ => congrArg₂ (· * ·) (blk_1 m c t b i R hR r hr l) (blk_5 m c t n k hk l)
  · exact Finset.sum_congr rfl fun l _ => congrArg₂ (· * ·) (blk_0 m c t b i R hR r hr l) (blk_4 m c t n k hk l)
  · exact Finset.sum_congr rfl fun l _ => congrArg₂ (· * ·) (blk_2 m c t b i R hR r hr l) (blk_6 m c t n k hk l)

end At

/-- The result, at an entry. -/
theorem result_at (b : Fin 16) (i n : Fin 2048) (R : Fin 32768) (hR : (R : ℕ) = 2048 * b + i) :
    ((dats m 0 c).arrAt 7 cfg0.N : FVec Ideal S32768x2048 .bf16) (ix2 R n)
      = merged (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b i n := by
  obtain ⟨t, hI, hJ⟩ : ∃ t : Fin cfg0.N, t.val / 2 = (R : ℕ) / 512 ∧ t.val % 2 = (n : ℕ) / 1024 :=
    ⟨⟨2 * ((R : ℕ) / 512) + (n : ℕ) / 1024, by show _ < 128; omega⟩, by simp only; omega, by simp only; omega⟩
  have hr : (R : ℕ) = 512 * (t.val / 2) + ((⟨(R : ℕ) % 512, by omega⟩ : Fin 512) : ℕ) := by simp only; omega
  have hk : (n : ℕ) = 1024 * (t.val % 2) + ((⟨(n : ℕ) % 1024, by omega⟩ : Fin 1024) : ℕ) := by simp only; omega
  refine (read_7 c t ((dats m 0 c).arrAt 7 cfg0.N) _ _ R hr n hk).symm.trans ?_
  rw [Value.blocks7 m c t (flush t), Value.flushed7]
  exact point_at m c t b i R hR _ hr n _ hk

end Result

end Cert.Merge

end
-- ==== Proof.Merge.RefValue.lean ====
/-
  The reference's gated merge, entry by entry.
-/
module

public import proofs.«01_k».proof.Proof.Gen.Reference2Ideal.Run
public import proofs.«01_k».proof.Proof.Merge.Point

@[expose] public section

set_option maxRecDepth 16384

noncomputable section

namespace Cert.Merge.Ref

open Cert.Reference2Ideal Cert.Reference2Ideal.Gen Idealize.ShloMosaic Idealize.ShloMosaic.TcCoe Idealize.SL.Sem

/-- The ones of a gate's logistic. -/
def ones : FVec Ideal S16x2048x2048 .f32 := broadcastInDim S16x2048x2048 ![] bcast_S_S16x2048x2048 (constant S_ .f32 0x3F800000#32)

/-- A projection times the logistic of its gate. -/
def branch (g y : FVec Ideal S16x2048x2048 .f32) : FVec Ideal S16x2048x2048 .f32 :=
  mulf (Host.divf ones (addf ones (Host.exp (Host.negf g)))) y

/-- The product with all of the input projection. -/
def proj (h : FVec Ideal S16x2048x2048 .f32) (w : FVec Ideal S2048x8256 .f32) : FVec Ideal S16x2048x8256 .f32 :=
  Host.dotGeneral dot_S16x2048x2048_S2048x8256_S16x2048x8256_2_0_01_1_n_n none h w

/-- A mixer's output projection. -/
def out (o : FVec Ideal S16x2048x1024 .f32) (w : FVec Ideal S1024x2048 .f32) : FVec Ideal S16x2048x2048 .f32 :=
  Host.dotGeneral dot_S16x2048x1024_S1024x2048_S16x2048x2048_2_0_01_1_n_n none o w

/-- The reference's operations, composed. -/
def composed (h : FVec Ideal S16x2048x2048 .f32) (oa ob : FVec Ideal S16x2048x1024 .f32) (w : FVec Ideal S2048x8256 .f32)
    (wa wb : FVec Ideal S1024x2048 .f32) : FVec Ideal S32768x2048 .bf16 :=
  truncf .bf16 (shapeCast S32768x2048
    (addf (branch (extractStridedSlice S16x2048x2048 ![0, 0, 4160] (proj h w) slices_S16x2048x8256_S16x2048x2048_0_0_4160) (out oa wa))
      (branch (extractStridedSlice S16x2048x2048 ![0, 0, 6208] (proj h w) slices_S16x2048x8256_S16x2048x2048_0_0_6208) (out ob wb)))
    shapeCasts_S16x2048x2048_S32768x2048) bitsLt_bf16_f32

theorem branch_at (g y : FVec Ideal S16x2048x2048 .f32) (b : Fin 16) (i n : Fin 2048) :
    branch g y (ix3 b i n) = Ideal.logistic (g (ix3 b i n)) * y (ix3 b i n) := by
  pointwise [branch, ones]
  rfl

theorem proj_at (h : FVec Ideal S16x2048x2048 .f32) (w : FVec Ideal S2048x8256 .f32) (b : Fin 16) (i : Fin 2048) (n : Fin 8256) :
    proj h w (ix3 b i n) = ∑ l, h (ix3 b i l) * w (ix2 l n) := by
  pointwise [proj]

theorem out_at (o : FVec Ideal S16x2048x1024 .f32) (w : FVec Ideal S1024x2048 .f32) (b : Fin 16) (i n : Fin 2048) :
    out o w (ix3 b i n) = ∑ l, o (ix3 b i l) * w (ix2 l n) := by
  pointwise [out]

/-- The reference's result, at an entry. -/
theorem composed_at (h : FVec Ideal S16x2048x2048 .f32) (oa ob : FVec Ideal S16x2048x1024 .f32) (w : FVec Ideal S2048x8256 .f32)
    (wa wb : FVec Ideal S1024x2048 .f32) (b : Fin 16) (i n : Fin 2048) (R : Fin 32768) (hR : (R : ℕ) = 2048 * b + i) :
    composed h oa ob w wa wb (ix2 R n) = merged h oa ob w wa wb b i n := by
  unfold merged
  simp only [← proj_at, ← out_at]
  rw [show R = (⟨2048 * b + i, by omega⟩ : Fin 32768) from Fin.ext hR, composed]
  generalize proj h w = p
  generalize out oa wa = ya
  generalize out ob wb = yb
  pointwise
  rw [branch_at, branch_at]
  have ea : extractStridedSlice S16x2048x2048 ![0, 0, 4160] p slices_S16x2048x8256_S16x2048x2048_0_0_4160 (ix3 b i n) = p (ix3 b i (gateA n)) := by
    pointwise [gateA]
  have eb : extractStridedSlice S16x2048x2048 ![0, 0, 6208] p slices_S16x2048x8256_S16x2048x2048_0_0_6208 (ix3 b i n) = p (ix3 b i (gateB n)) := by
    pointwise [gateB]
  rw [ea, eb]

end Cert.Merge.Ref

end
-- ==== Proof.Merge.Claims.lean ====
/-
  The claims about the gated merge: the frames, and the equality with the reference.
-/
module

public import proofs.«01_k».proof.Defs
public import proofs.«01_k».proof.Proof.Gen.Kernel2.Frame
public import proofs.«01_k».proof.Proof.Merge.RefValue
public import Idealize.ShloMosaic.Lib.Quiescent

@[expose] public section

noncomputable section

namespace Cert.Merge.Claims

open Idealize.ShloMosaic Idealize.ShloMosaic.TcCoe Idealize.SL.Sem

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem preserves : Cert.preserves_Kernel2_Kernel2Ideal := trivial

/-- Two arrays that agree at every batch, position and channel are equal. -/
theorem ext_rows {φ : FTy} {x y : FVec Ideal ⟨2, ![32768, 2048]⟩ φ}
    (h : ∀ (b : Fin 16) (i n : Fin 2048) (R : Fin 32768), (R : ℕ) = 2048 * b + i → x (ix2 R n) = y (ix2 R n)) : x = y := by
  funext j
  have h0 : (j 0 : ℕ) < 32768 := (j 0).isLt
  rw [eq_ix2 j]
  exact h ⟨(j 0 : ℕ) / 2048, by omega⟩ ⟨(j 0 : ℕ) % 2048, by omega⟩ (j 1) (j 0) (by simp only; omega)

theorem algebraic : Cert.algebraic_Kernel2Ideal_Reference2Ideal := by
  intro m g m' g' _ hagree
  refine ⟨_, Cert.Kernel2Ideal.Value.run_blocks (F := Ideal) m g, ?_⟩
  refine (θ_run Cert.Reference2Ideal.defs _ _).mono (fun _ h c => ⟨(h c).1.trans ?_, (h c).2⟩) (Cert.Reference2Ideal.Value.run (F := Ideal) m' g')
  obtain ⟨e0, e1, e2, e3, e4, e5⟩ := hagree c
  rw [e0, e1, e2, e3, e4, e5]
  refine ext_rows fun b i n R hR => ?_
  exact (Ref.composed_at _ _ _ _ _ _ b i n R hR).trans (result_at m c b i n R hR).symm

end Cert.Merge.Claims

end
-- ==== Proof.Outproj.Point.lean ====
/-
  The output projection, the gated residual and the modulated norm: what one grid point stores (`stored_5`, `stored_6`), its windows'
  blocks, and the kernel's two results, entry by entry (`first_at`, `second_at`).
-/
module

public import proofs.«01_k».proof.Proof.Gen.Kernel3Ideal.Value
public import Idealize.ShloMosaic.Lib.Claim
public import Idealize.ShloMosaic.Lib.Pointwise
public import Idealize.ShloMosaic.Lib.Pipeline.ValueKit
public import Idealize.ShloMosaic.Lib.Tactic.CleanTypes

@[expose] public section

set_option maxRecDepth 16384

noncomputable section

namespace Cert.Outproj

open Cert.Kernel3Ideal Cert.Kernel3Ideal.Gen Idealize.ShloMosaic Idealize.ShloMosaic.TcCoe Idealize.SL.Sem
open Idealize.ShloMosaic.Pipeline (Dat)

/-- Column `n` of the `k`-th of the modulation's six parts. -/
def part (k : Fin 6) (n : Fin 2048) : Fin 12288 := ⟨k * 2048 + n, by omega⟩

/-- The residual stream after the gated output projection, at batch `b`, position `i`, channel `n`. -/
def stream (a : FVec Ideal S16x2048x2048 .f32) (w : FVec Ideal S2048x2048 .f32) (x : FVec Ideal S16x2048x2048 .f32)
    (mod : FVec Ideal S16x12288 .f32) (b : Fin 16) (i n : Fin 2048) : EReal :=
  x (ix3 b i n) + mod (ix2 b (part 2 n)) * ∑ l, a (ix3 b i l) * w (ix2 l n)

/-- A row over the root of its mean square, times its weight and one plus its scale, shifted: at channel `n`. -/
def normed (y v s h : Fin 2048 → EReal) (n : Fin 2048) : EReal :=
  y n * Ideal.rsqrt (Ideal.div (∑ l, y l * y l) (Ideal.ofBits .f32 0x45000000#32) + Ideal.ofBits .f32 0x358637BD#32) * v n * (1 + s n) + h n

/-! ## What a grid point stores -/

theorem stored_5 (x : Vec Ideal S512x2048 .f32) (g : Vec Ideal S1x1x2048 .f32) (a : Vec Ideal S512x2048 .bf16) (w : Vec Ideal S2048x2048 .bf16)
    (r : Fin 512) (n : Fin 2048) :
    k0_pay2 x g a w (ix2 r n) = x (ix2 r n) + g (ix3 0 0 n) * ∑ l, a (ix2 r l) * w (ix2 l n) := by
  unfold_payloads
  pointwise

theorem stored_6 (x : Vec Ideal S512x2048 .f32) (g s h : Vec Ideal S1x1x2048 .f32) (a : Vec Ideal S512x2048 .bf16) (w : Vec Ideal S2048x2048 .bf16)
    (v : Vec Ideal S1x2048 .f32) (r : Fin 512) (n : Fin 2048) :
    k0_pay1 (k0_pay3 x g a w v s) h (ix2 r n)
      = normed (fun l => k0_pay2 x g a w (ix2 r l)) (fun l => v (ix2 0 l)) (fun l => s (ix3 0 0 l)) (fun l => h (ix3 0 0 l)) n := by
  simp only [k0_pay1, k0_pay3]
  generalize k0_pay2 x g a w = y
  pointwise
  rfl

theorem ld_gate (x : Vec Ideal S1x6x2048 .f32) (n : Fin 2048) : (View.ld x r0_1 : Vec Ideal S1x1x2048 .f32) (ix3 0 0 n) = x (ix3 0 2 n) := by
  pointwise

theorem ld_scale (x : Vec Ideal S1x6x2048 .f32) (n : Fin 2048) : (View.ld x r0_4 : Vec Ideal S1x1x2048 .f32) (ix3 0 0 n) = x (ix3 0 4 n) := by
  pointwise

theorem ld_shift (x : Vec Ideal S1x6x2048 .f32) (n : Fin 2048) : (View.ld x r0_5 : Vec Ideal S1x1x2048 .f32) (ix3 0 0 n) = x (ix3 0 3 n) := by
  pointwise

section Block
variable (x0 : Vec Ideal S512x2048 .bf16) (x1 : Vec Ideal S2048x2048 .bf16) (x2 : Vec Ideal S512x2048 .f32)
  (x3 : Vec Ideal S1x6x2048 .f32) (x4 : Vec Ideal S1x2048 .f32) (r : Fin 512) (n : Fin 2048)

theorem block_5 : out0_5 x0 x1 x2 x3 x4 = k0_pay2 x2 (View.ld x3 r0_1) x0 x1 := by
  unfold out0_5
  frame_out

theorem block_6 : out0_6 x0 x1 x2 x3 x4 = k0_pay1 (k0_pay3 x2 (View.ld x3 r0_1) x0 x1 x4 (View.ld x3 r0_4)) (View.ld x3 r0_5) := by
  unfold out0_6
  frame_out

theorem block_5_at : out0_5 x0 x1 x2 x3 x4 (ix2 r n) = x2 (ix2 r n) + x3 (ix3 0 2 n) * ∑ l, x0 (ix2 r l) * x1 (ix2 l n) := by
  rw [block_5, stored_5, ld_gate]

theorem block_6_at : out0_6 x0 x1 x2 x3 x4 (ix2 r n)
    = normed (fun l => out0_5 x0 x1 x2 x3 x4 (ix2 r l)) (fun l => x4 (ix2 0 l)) (fun l => x3 (ix3 0 4 l)) (fun l => x3 (ix3 0 3 l)) n := by
  rw [block_6, stored_6, block_5]
  exact congrArg₂ (fun s h => normed _ _ s h n) (funext fun l => ld_scale x3 l) (funext fun l => ld_shift x3 l)

end Block

/-! ## The operands on the host -/

/-- The merged branches, their batches one under the other. -/
def rows (x : FVec Ideal S16x2048x2048 .f32) : FVec Ideal S32768x2048 .bf16 :=
  shapeCast S32768x2048 (truncf FTy.bf16 x bitsLt_bf16_f32) shapeCasts_S16x2048x2048_S32768x2048

/-- The projection's weights. -/
def weights (x : FVec Ideal S2048x2048 .f32) : FVec Ideal S2048x2048 .bf16 := truncf FTy.bf16 x bitsLt_bf16_f32

/-- The residual stream, its batches one under the other. -/
def residual (x : FVec Ideal S16x2048x2048 .f32) : FVec Ideal S32768x2048 .f32 := shapeCast S32768x2048 x shapeCasts_S16x2048x2048_S32768x2048

/-- The modulation by its six parts. -/
def parts (x : FVec Ideal S16x12288 .f32) : FVec Ideal S16x6x2048 .f32 := shapeCast S16x6x2048 x shapeCasts_S16x12288_S16x6x2048

/-- The norm's weights, as a row. -/
def norm (x : FVec Ideal S2048 .f32) : FVec Ideal S1x2048 .f32 := shapeCast S1x2048 x shapeCasts_S2048_S1x2048

theorem rows_at (x : FVec Ideal S16x2048x2048 .f32) (b : Fin 16) (i l : Fin 2048) (R : Fin 32768) (hR : (R : ℕ) = 2048 * b + i) :
    rows x (ix2 R l) = x (ix3 b i l) := by
  rw [show R = (⟨2048 * b + i, by omega⟩ : Fin 32768) from Fin.ext hR]
  pointwise [rows]

theorem residual_at (x : FVec Ideal S16x2048x2048 .f32) (b : Fin 16) (i l : Fin 2048) (R : Fin 32768) (hR : (R : ℕ) = 2048 * b + i) :
    residual x (ix2 R l) = x (ix3 b i l) := by
  rw [show R = (⟨2048 * b + i, by omega⟩ : Fin 32768) from Fin.ext hR]
  pointwise [residual]

theorem parts_at (x : FVec Ideal S16x12288 .f32) (b : Fin 16) (k : Fin 6) (n : Fin 2048) : parts x (ix3 b k n) = x (ix2 b (part k n)) := by
  pointwise [parts, part]

theorem norm_at (x : FVec Ideal S2048 .f32) (n : Fin 2048) : norm x (ix2 0 n) = x (ix1 n) := by
  pointwise [norm]

section Entry
variable (m : (ℓ : Loc nD τ sig) → Buf (Elt Ideal) ℓ) (c : Dev nD)

theorem entry_0 : V m c (Pipeline.arrRef spec0 0) = rows (m ((c : Thread nD τ).loc main_arg0)) := by
  show V m c main_v1 = _
  entry_read; rfl

theorem entry_1 : V m c (Pipeline.arrRef spec0 1) = weights (m ((c : Thread nD τ).loc main_arg1)) := by
  show V m c main_v2 = _
  entry_read; rfl

theorem entry_2 : V m c (Pipeline.arrRef spec0 2) = residual (m ((c : Thread nD τ).loc main_arg2)) := by
  show V m c main_v3 = _
  entry_read; rfl

theorem entry_3 : V m c (Pipeline.arrRef spec0 3) = parts (m ((c : Thread nD τ).loc main_arg3)) := by
  show V m c main_v4 = _
  entry_read; rfl

theorem entry_4 : V m c (Pipeline.arrRef spec0 4) = norm (m ((c : Thread nD τ).loc main_arg4)) := by
  show V m c main_v5 = _
  entry_read; rfl

end Entry

/-! ## The windows' blocks -/

/-- Grid point `t` holds rows `512 t …`, which are of batch `t / 4`. -/
theorem idx : ∀ t : Fin cfg0.N,
    win0_0.index t = ![t.val, 0] ∧ win0_1.index t = ![0, 0] ∧ win0_2.index t = ![t.val, 0]
    ∧ win0_3.index t = ![t.val / 4, 0, 0] ∧ win0_4.index t = ![0, 0] ∧ win0_5.index t = ![t.val, 0] ∧ win0_6.index t = ![t.val, 0] :=
  (by decide +kernel : ∀ t : Fin grid0.N, _)

section Blocks
variable (c : Dev nD) (t : Fin cfg0.N)

theorem read_0 (A : Buf (Elt Ideal) ((c : Thread nD τ).loc (Pipeline.arrRef spec0 0))) (r : Fin 512) (l : Fin 2048) (R : Fin 32768) (hR : (R : ℕ) = 512 * t.val + r) :
    (((cfg0.win 0).blk t).view.read (Elt Ideal) A : Vec Ideal S512x2048 .bf16) (ix2 r l) = (A : FVec Ideal S32768x2048 .bf16) (ix2 R l) := by
  have e : (((cfg0.win 0).blk t).view.emb (ix2 r l) : S32768x2048.Idx) = ix2 R l := by
    blk_simp
    blk_ext [idx t, hR]
  exact congrArg A e

theorem read_2 (A : Buf (Elt Ideal) ((c : Thread nD τ).loc (Pipeline.arrRef spec0 2))) (r : Fin 512) (l : Fin 2048) (R : Fin 32768) (hR : (R : ℕ) = 512 * t.val + r) :
    (((cfg0.win 2).blk t).view.read (Elt Ideal) A : Vec Ideal S512x2048 .f32) (ix2 r l) = (A : FVec Ideal S32768x2048 .f32) (ix2 R l) := by
  have e : (((cfg0.win 2).blk t).view.emb (ix2 r l) : S32768x2048.Idx) = ix2 R l := by
    blk_simp
    blk_ext [idx t, hR]
  exact congrArg A e

theorem read_5 (A : Buf (Elt Ideal) ((c : Thread nD τ).loc (Pipeline.arrRef spec0 5))) (r : Fin 512) (l : Fin 2048) (R : Fin 32768) (hR : (R : ℕ) = 512 * t.val + r) :
    (((cfg0.win 5).blk t).view.read (Elt Ideal) A : Vec Ideal S512x2048 .f32) (ix2 r l) = (A : FVec Ideal S32768x2048 .f32) (ix2 R l) := by
  have e : (((cfg0.win 5).blk t).view.emb (ix2 r l) : S32768x2048.Idx) = ix2 R l := by
    blk_simp
    blk_ext [idx t, hR]
  exact congrArg A e

theorem read_6 (A : Buf (Elt Ideal) ((c : Thread nD τ).loc (Pipeline.arrRef spec0 6))) (r : Fin 512) (l : Fin 2048) (R : Fin 32768) (hR : (R : ℕ) = 512 * t.val + r) :
    (((cfg0.win 6).blk t).view.read (Elt Ideal) A : Vec Ideal S512x2048 .bf16) (ix2 r l) = (A : FVec Ideal S32768x2048 .bf16) (ix2 R l) := by
  have e : (((cfg0.win 6).blk t).view.emb (ix2 r l) : S32768x2048.Idx) = ix2 R l := by
    blk_simp
    blk_ext [idx t, hR]
  exact congrArg A e

theorem read_1 (A : Buf (Elt Ideal) ((c : Thread nD τ).loc (Pipeline.arrRef spec0 1))) (l n : Fin 2048) :
    (((cfg0.win 1).blk t).view.read (Elt Ideal) A : Vec Ideal S2048x2048 .bf16) (ix2 l n) = (A : FVec Ideal S2048x2048 .bf16) (ix2 l n) := by
  have e : (((cfg0.win 1).blk t).view.emb (ix2 l n) : S2048x2048.Idx) = ix2 l n := by
    blk_simp
    blk_ext [idx t]
  exact congrArg A e

theorem read_3 (A : Buf (Elt Ideal) ((c : Thread nD τ).loc (Pipeline.arrRef spec0 3))) (k : Fin 6) (n : Fin 2048) (b : Fin 16) (hb : (b : ℕ) = t.val / 4) :
    (((cfg0.win 3).blk t).view.read (Elt Ideal) A : Vec Ideal S1x6x2048 .f32) (ix3 0 k n) = (A : FVec Ideal S16x6x2048 .f32) (ix3 b k n) := by
  have e : (((cfg0.win 3).blk t).view.emb (ix3 0 k n) : S16x6x2048.Idx) = ix3 b k n := by
    blk_simp
    blk_ext [idx t, hb]
  exact congrArg A e

theorem read_4 (A : Buf (Elt Ideal) ((c : Thread nD τ).loc (Pipeline.arrRef spec0 4))) (n : Fin 2048) :
    (((cfg0.win 4).blk t).view.read (Elt Ideal) A : Vec Ideal S1x2048 .f32) (ix2 0 n) = (A : FVec Ideal S1x2048 .f32) (ix2 0 n) := by
  have e : (((cfg0.win 4).blk t).view.emb (ix2 0 n) : S1x2048.Idx) = ix2 0 n := by
    blk_simp
    blk_ext [idx t]
  exact congrArg A e

end Blocks

section Result
variable (m : (ℓ : Loc nD τ sig) → Buf (Elt Ideal) ℓ) (c : Dev nD) (t : Fin cfg0.N)

theorem iblk_0 : iblk m c 0 t = ((cfg0.win 0).blk t).view.read (Elt Ideal) (rows (m ((c : Thread nD τ).loc main_arg0))) := by
  unfold iblk; rw [entry_0]

theorem iblk_1 : iblk m c 1 t = ((cfg0.win 1).blk t).view.read (Elt Ideal) (weights (m ((c : Thread nD τ).loc main_arg1))) := by
  unfold iblk; rw [entry_1]

theorem iblk_2 : iblk m c 2 t = ((cfg0.win 2).blk t).view.read (Elt Ideal) (residual (m ((c : Thread nD τ).loc main_arg2))) := by
  unfold iblk; rw [entry_2]

theorem iblk_3 : iblk m c 3 t = ((cfg0.win 3).blk t).view.read (Elt Ideal) (parts (m ((c : Thread nD τ).loc main_arg3))) := by
  unfold iblk; rw [entry_3]

theorem iblk_4 : iblk m c 4 t = ((cfg0.win 4).blk t).view.read (Elt Ideal) (norm (m ((c : Thread nD τ).loc main_arg4))) := by
  unfold iblk; rw [entry_4]

/-- Every grid point writes its blocks back. -/
theorem flush_5 : ∀ t : Fin cfg0.N, (cfg0.win 5).flush t = true := (by decide +kernel : ∀ t : Fin grid0.N, win0_5.flush t = true)
@[inherit_doc flush_5] theorem flush_6 : ∀ t : Fin cfg0.N, (cfg0.win 6).flush t = true := (by decide +kernel : ∀ t : Fin grid0.N, win0_6.flush t = true)

section At
variable (b : Fin 16) (i : Fin 2048) (R : Fin 32768) (hR : (R : ℕ) = 2048 * b + i) (r : Fin 512) (hr : (R : ℕ) = 512 * t.val + r)
include hR hr

theorem blk_0 (l : Fin 2048) : (iblk m c 0 t : Vec Ideal S512x2048 .bf16) (ix2 r l)
    = (m ((c : Thread nD τ).loc main_arg0) : FVec Ideal S16x2048x2048 .f32) (ix3 b i l) := by
  rw [iblk_0]; exact (read_0 c t _ r l R hr).trans (rows_at _ b i l R hR)

theorem blk_2 (l : Fin 2048) : (iblk m c 2 t : Vec Ideal S512x2048 .f32) (ix2 r l)
    = (m ((c : Thread nD τ).loc main_arg2) : FVec Ideal S16x2048x2048 .f32) (ix3 b i l) := by
  rw [iblk_2]; exact (read_2 c t _ r l R hr).trans (residual_at _ b i l R hR)

theorem blk_3 (k : Fin 6) (n : Fin 2048) : (iblk m c 3 t : Vec Ideal S1x6x2048 .f32) (ix3 0 k n)
    = (m ((c : Thread nD τ).loc main_arg3) : FVec Ideal S16x12288 .f32) (ix2 b (part k n)) := by
  rw [iblk_3]; exact (read_3 c t _ k n b (by omega)).trans (parts_at _ b k n)

omit hR hr

theorem blk_1 (l n : Fin 2048) : (iblk m c 1 t : Vec Ideal S2048x2048 .bf16) (ix2 l n)
    = (m ((c : Thread nD τ).loc main_arg1) : FVec Ideal S2048x2048 .f32) (ix2 l n) := by
  rw [iblk_1]; exact read_1 c t _ l n

theorem blk_4 (n : Fin 2048) : (iblk m c 4 t : Vec Ideal S1x2048 .f32) (ix2 0 n)
    = (m ((c : Thread nD τ).loc main_arg4) : FVec Ideal S2048 .f32) (ix1 n) := by
  rw [iblk_4]; exact (read_4 c t _ n).trans (norm_at _ n)

include hR hr

/-- A grid point's stored block of the stream, at an entry. -/
theorem point_5 (n : Fin 2048) : out0_5 (iblk m c 0 t) (iblk m c 1 t) (iblk m c 2 t) (iblk m c 3 t) (iblk m c 4 t) (ix2 r n)
    = stream (m ((c : Thread nD τ).loc main_arg0)) (m ((c : Thread nD τ).loc main_arg1)) (m ((c : Thread nD τ).loc main_arg2))
        (m ((c : Thread nD τ).loc main_arg3)) b i n := by
  refine (block_5_at _ _ _ _ _ r n).trans ?_
  unfold stream
  refine congrArg₂ (· + ·) (blk_2 m c t b i R hR r hr n) (congrArg₂ (· * ·) (blk_3 m c t b i R hR r hr 2 n) ?_)
  exact Finset.sum_congr rfl fun l _ => congrArg₂ (· * ·) (blk_0 m c t b i R hR r hr l) (blk_1 m c t l n)

/-- A grid point's stored block of the normed stream, at an entry. -/
theorem point_6 (n : Fin 2048) : out0_6 (iblk m c 0 t) (iblk m c 1 t) (iblk m c 2 t) (iblk m c 3 t) (iblk m c 4 t) (ix2 r n)
    = normed (stream (m ((c : Thread nD τ).loc main_arg0)) (m ((c : Thread nD τ).loc main_arg1)) (m ((c : Thread nD τ).loc main_arg2))
        (m ((c : Thread nD τ).loc main_arg3)) b i)
        (fun l => (m ((c : Thread nD τ).loc main_arg4) : FVec Ideal S2048 .f32) (ix1 l))
        (fun l => (m ((c : Thread nD τ).loc main_arg3) : FVec Ideal S16x12288 .f32) (ix2 b (part 4 l)))
        (fun l => (m ((c : Thread nD τ).loc main_arg3) : FVec Ideal S16x12288 .f32) (ix2 b (part 3 l))) n := by
  refine (block_6_at _ _ _ _ _ r n).trans ?_
  rw [funext fun l => point_5 m c t b i R hR r hr l, funext fun l => blk_4 m c t l, funext fun l => blk_3 m c t b i R hR r hr 4 l,
    funext fun l => blk_3 m c t b i R hR r hr 3 l]

end At

section Final
variable (b : Fin 16) (i n : Fin 2048) (R : Fin 32768) (hR : (R : ℕ) = 2048 * b + i)
include hR

/-- The first result, at an entry. -/
theorem first_at : ((dats m 0 c).arrAt 5 cfg0.N : FVec Ideal S32768x2048 .f32) (ix2 R n)
    = stream (m ((c : Thread nD τ).loc main_arg0)) (m ((c : Thread nD τ).loc main_arg1)) (m ((c : Thread nD τ).loc main_arg2))
        (m ((c : Thread nD τ).loc main_arg3)) b i n := by
  obtain ⟨t, ht⟩ : ∃ t : Fin cfg0.N, t.val = (R : ℕ) / 512 := ⟨⟨(R : ℕ) / 512, by show _ < 64; omega⟩, rfl⟩
  have hr : (R : ℕ) = 512 * t.val + ((⟨(R : ℕ) % 512, by omega⟩ : Fin 512) : ℕ) := by simp only; omega
  refine (read_5 c t ((dats m 0 c).arrAt 5 cfg0.N) _ _ R hr).symm.trans ?_
  rw [Value.blocks5 m c t (flush_5 t), Value.flushed5]
  exact point_5 m c t b i R hR _ hr n

/-- The second result, at an entry. -/
theorem second_at : ((dats m 0 c).arrAt 6 cfg0.N : FVec Ideal S32768x2048 .bf16) (ix2 R n)
    = normed (stream (m ((c : Thread nD τ).loc main_arg0)) (m ((c : Thread nD τ).loc main_arg1)) (m ((c : Thread nD τ).loc main_arg2))
        (m ((c : Thread nD τ).loc main_arg3)) b i)
        (fun l => (m ((c : Thread nD τ).loc main_arg4) : FVec Ideal S2048 .f32) (ix1 l))
        (fun l => (m ((c : Thread nD τ).loc main_arg3) : FVec Ideal S16x12288 .f32) (ix2 b (part 4 l)))
        (fun l => (m ((c : Thread nD τ).loc main_arg3) : FVec Ideal S16x12288 .f32) (ix2 b (part 3 l))) n := by
  obtain ⟨t, ht⟩ : ∃ t : Fin cfg0.N, t.val = (R : ℕ) / 512 := ⟨⟨(R : ℕ) / 512, by show _ < 64; omega⟩, rfl⟩
  have hr : (R : ℕ) = 512 * t.val + ((⟨(R : ℕ) % 512, by omega⟩ : Fin 512) : ℕ) := by simp only; omega
  refine (read_6 c t ((dats m 0 c).arrAt 6 cfg0.N) _ _ R hr).symm.trans ?_
  rw [Value.blocks6 m c t (flush_6 t), Value.flushed6]
  exact point_6 m c t b i R hR _ hr n

end Final

end Result

end Cert.Outproj

end
-- ==== Proof.Outproj.RefValue.lean ====
/-
  The reference's output projection, gated residual and modulated norm, entry by entry.
-/
module

public import proofs.«01_k».proof.Proof.Gen.Reference3Ideal.Run
public import proofs.«01_k».proof.Proof.Outproj.Point

@[expose] public section

set_option maxRecDepth 16384

noncomputable section

namespace Cert.Outproj.Ref

open Cert.Reference3Ideal Cert.Reference3Ideal.Gen Idealize.ShloMosaic Idealize.ShloMosaic.TcCoe Idealize.SL.Sem

/-- A part of the modulation, for every position. -/
def spread (x : FVec Ideal S16x1x2048 .f32) : FVec Ideal S16x2048x2048 .f32 :=
  broadcastInDim S16x2048x2048 ![0, 1, 2] bcast_S16x1x2048_S16x2048x2048_0_1_2 x

/-- A part of the modulation, with an axis for the positions. -/
def lift (x : FVec Ideal S16x2048 .f32) : FVec Ideal S16x1x2048 .f32 := broadcastInDim S16x1x2048 ![0, 2] bcast_S16x2048_S16x1x2048_0_2 x

/-- The projection. -/
def proj (a : FVec Ideal S16x2048x2048 .f32) (w : FVec Ideal S2048x2048 .f32) : FVec Ideal S16x2048x2048 .f32 :=
  Host.dotGeneral dot_S16x2048x2048_S2048x2048_S16x2048x2048_2_0_01_1_n_n none a w

/-- The parts of the modulation. -/
def gate (mod : FVec Ideal S16x12288 .f32) : FVec Ideal S16x2048 .f32 := extractStridedSlice S16x2048 ![0, 4096] mod slices_S16x12288_S16x2048_0_4096
@[inherit_doc gate] def shift (mod : FVec Ideal S16x12288 .f32) : FVec Ideal S16x2048 .f32 := extractStridedSlice S16x2048 ![0, 6144] mod slices_S16x12288_S16x2048_0_6144
@[inherit_doc gate] def scale (mod : FVec Ideal S16x12288 .f32) : FVec Ideal S16x2048 .f32 := extractStridedSlice S16x2048 ![0, 8192] mod slices_S16x12288_S16x2048_0_8192

/-- The stream after the projection. -/
def after (a : FVec Ideal S16x2048x2048 .f32) (w : FVec Ideal S2048x2048 .f32) (x : FVec Ideal S16x2048x2048 .f32)
    (mod : FVec Ideal S16x12288 .f32) : FVec Ideal S16x2048x2048 .f32 :=
  addf x (mulf (spread (lift (gate mod))) (proj a w))

/-- The factor of each row's norm. -/
def root (y : FVec Ideal S16x2048x2048 .f32) : FVec Ideal S16x2048x1 .f32 :=
  Host.rsqrt (addf (Host.divf (broadcastInDim S16x2048x1 ![0, 1] bcast_S16x2048_S16x2048x1_0_1
      (Host.reduceAdd (mulf y y) (constant S_ .f32 0x00000000#32) reducesTo_S16x2048x2048_S16x2048_d2 h_S_))
      (broadcastInDim S16x2048x1 ![] bcast_S_S16x2048x1 (constant S_ .f32 0x45000000#32)))
    (broadcastInDim S16x2048x1 ![] bcast_S_S16x2048x1 (constant S_ .f32 0x358637BD#32)))

/-- The modulated norm. -/
def modulated (y : FVec Ideal S16x2048x2048 .f32) (v : FVec Ideal S2048 .f32) (s h : FVec Ideal S16x2048 .f32) : FVec Ideal S16x2048x2048 .f32 :=
  addf (mulf (mulf (mulf y (broadcastInDim S16x2048x2048 ![0, 1, 2] bcast_S16x2048x1_S16x2048x2048_0_1_2 (root y)))
      (broadcastInDim S16x2048x2048 ![0, 1, 2] bcast_S1x1x2048_S16x2048x2048_0_1_2 (broadcastInDim S1x1x2048 ![2] bcast_S2048_S1x1x2048_2 v)))
      (spread (addf (broadcastInDim S16x1x2048 ![] bcast_S_S16x1x2048 (constant S_ .f32 0x3F800000#32)) (lift s))))
    (spread (lift h))

/-- The batches of a stream one under the other. -/
def flat (y : FVec Ideal S16x2048x2048 .f32) : FVec Ideal S32768x2048 .f32 := shapeCast S32768x2048 y shapeCasts_S16x2048x2048_S32768x2048

theorem flat_at (y : FVec Ideal S16x2048x2048 .f32) (b : Fin 16) (i n : Fin 2048) (R : Fin 32768) (hR : (R : ℕ) = 2048 * b + i) :
    flat y (ix2 R n) = y (ix3 b i n) := by
  rw [show R = (⟨2048 * b + i, by omega⟩ : Fin 32768) from Fin.ext hR]
  pointwise [flat]

theorem spread_lift_at (x : FVec Ideal S16x2048 .f32) (b : Fin 16) (i n : Fin 2048) : spread (lift x) (ix3 b i n) = x (ix2 b n) := by
  pointwise [spread, lift]

theorem gate_at (mod : FVec Ideal S16x12288 .f32) (b : Fin 16) (n : Fin 2048) : gate mod (ix2 b n) = mod (ix2 b (part 2 n)) := by
  pointwise [gate, part]

theorem shift_at (mod : FVec Ideal S16x12288 .f32) (b : Fin 16) (n : Fin 2048) : shift mod (ix2 b n) = mod (ix2 b (part 3 n)) := by
  pointwise [shift, part]

theorem scale_at (mod : FVec Ideal S16x12288 .f32) (b : Fin 16) (n : Fin 2048) : scale mod (ix2 b n) = mod (ix2 b (part 4 n)) := by
  pointwise [scale, part]

theorem proj_at (a : FVec Ideal S16x2048x2048 .f32) (w : FVec Ideal S2048x2048 .f32) (b : Fin 16) (i n : Fin 2048) :
    proj a w (ix3 b i n) = ∑ l, a (ix3 b i l) * w (ix2 l n) := by
  pointwise [proj]

/-- The stream after the projection, at an entry. -/
theorem after_at (a : FVec Ideal S16x2048x2048 .f32) (w : FVec Ideal S2048x2048 .f32) (x : FVec Ideal S16x2048x2048 .f32)
    (mod : FVec Ideal S16x12288 .f32) (b : Fin 16) (i n : Fin 2048) : after a w x mod (ix3 b i n) = stream a w x mod b i n := by
  unfold stream
  rw [← gate_at mod b n, ← proj_at, after]
  generalize proj a w = p
  pointwise
  rw [spread_lift_at]

theorem root_at (y : FVec Ideal S16x2048x2048 .f32) (b : Fin 16) (i : Fin 2048) :
    root y (ix3 b i 0) = Ideal.rsqrt (Ideal.div (∑ l, y (ix3 b i l) * y (ix3 b i l)) (Ideal.ofBits .f32 0x45000000#32) + Ideal.ofBits .f32 0x358637BD#32) := by
  pointwise [root]

/-- The modulated norm, at an entry. -/
theorem modulated_at (y : FVec Ideal S16x2048x2048 .f32) (v : FVec Ideal S2048 .f32) (s h : FVec Ideal S16x2048 .f32) (b : Fin 16) (i n : Fin 2048) :
    modulated y v s h (ix3 b i n)
      = normed (fun l => y (ix3 b i l)) (fun l => v (ix1 l)) (fun l => s (ix2 b l)) (fun l => h (ix2 b l)) n := by
  unfold normed
  simp only
  rw [← root_at, modulated]
  generalize root y = q
  pointwise [spread, lift]

end Cert.Outproj.Ref

end
-- ==== Proof.Outproj.Claims.lean ====
/-
  The claims about the output projection: the frames, and the equality with the reference.
-/
module

public import proofs.«01_k».proof.Defs
public import proofs.«01_k».proof.Proof.Gen.Kernel3.Frame
public import proofs.«01_k».proof.Proof.Outproj.RefValue
public import proofs.«01_k».proof.Proof.Merge.Claims

@[expose] public section

noncomputable section

namespace Cert.Outproj.Claims

open Idealize.ShloMosaic Idealize.ShloMosaic.TcCoe Idealize.SL.Sem

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

theorem preserves : Cert.preserves_Kernel3_Kernel3Ideal := trivial

theorem algebraic : Cert.algebraic_Kernel3Ideal_Reference3Ideal := by
  intro m g m' g' _ hagree
  refine ⟨_, _, Cert.Kernel3Ideal.Value.run_blocks (F := Ideal) m g, ?_⟩
  refine (θ_run Cert.Reference3Ideal.defs _ _).mono (fun _ h c => ⟨(h c).1.trans ?_, (h c).2.1.trans ?_, (h c).2.2⟩)
    (Cert.Reference3Ideal.Value.run (F := Ideal) m' g')
  · obtain ⟨e0, e1, e2, e3, e4⟩ := hagree c
    rw [e0, e1, e2, e3]
    refine Cert.Merge.Claims.ext_rows fun b i n R hR => ?_
    exact ((Ref.flat_at (Ref.after _ _ _ _) b i n R hR).trans (Ref.after_at _ _ _ _ b i n)).trans (first_at m c b i n R hR).symm
  · obtain ⟨e0, e1, e2, e3, e4⟩ := hagree c
    rw [e0, e1, e2, e3, e4]
    refine Cert.Merge.Claims.ext_rows fun b i n R hR => ?_
    refine ((Ref.flat_at (Ref.modulated (Ref.after _ _ _ _) _ (Ref.scale _) (Ref.shift _)) b i n R hR).trans (Ref.modulated_at _ _ _ _ b i n)).trans ?_
    simp only [Ref.after_at, Ref.scale_at, Ref.shift_at]
    exact (second_at m c b i n R hR).symm

end Cert.Outproj.Claims

end
-- ==== Proof.Prep.Rows.lean ====
/-
  The arithmetic of the differential layer's preparation: a sub-head of 64 lanes over the root of its mean square, its first sixteen lanes
  turned by the position's angles; and the same on the kernel's 128 lanes, where two sub-heads lie side by side, the sum of squares goes
  through a matrix of zeros and ones and the turn is two rolls and three tables.
-/
module

public import Idealize.ShloMosaic.Lib.Pipeline.ValueKit
public import Idealize.ShloMosaic.Lib.Pointwise
public import Idealize.ShloMosaic.Lib.Tactic.CleanTypes

@[expose] public section

set_option maxRecDepth 16384

noncomputable section

namespace Cert.Prep

open Idealize.ShloMosaic Idealize.ShloMosaic.TcCoe

/-- What is added to the mean square under the root. -/
abbrev tiny : EReal := Ideal.ofBits .f32 0x358637BD#32

/-- One over the root of the mean of 64 squares whose sum is `q`. -/
def scale (q : EReal) : EReal := Ideal.rsqrt (Ideal.div q (Ideal.ofBits .f32 0x42800000#32) + tiny)

/-- A sub-head over the root of its mean square, times its weights. -/
def unit (x g : Fin 64 → EReal) (d : Fin 64) : EReal := x d * scale (∑ e, x e * x e) * g d

/-- The sub-head's lanes `0..7` and `8..15` turned against each other, the others left. -/
def turn (y : Fin 64 → EReal) (c s : Fin 8 → EReal) (d : Fin 64) : EReal :=
  if h : (d : ℕ) < 8 then y d * c ⟨d, h⟩ - y ⟨d + 8, by omega⟩ * s ⟨d, h⟩
  else if h' : (d : ℕ) < 16 then y ⟨d - 8, by omega⟩ * s ⟨d - 8, by omega⟩ + y d * c ⟨d - 8, by omega⟩
  else y d

/-- A lane's place in its sub-head. -/
def place (l : ℕ) : Fin 64 := ⟨l % 64, Nat.mod_lt _ (by decide)⟩

/-- The table the lane itself is multiplied by. -/
def cosLane (c : Fin 8 → EReal) (l : ℕ) : EReal :=
  if h : l % 64 < 8 then c ⟨l % 64, h⟩ else if h' : l % 64 < 16 then c ⟨l % 64 - 8, by omega⟩ else 1

/-- The table the lane eight above is multiplied by. -/
def lowLane (s : Fin 8 → EReal) (l : ℕ) : EReal := if h : l % 64 < 8 then -s ⟨l % 64, h⟩ else 0

/-- The table the lane eight below is multiplied by. -/
def highLane (s : Fin 8 → EReal) (l : ℕ) : EReal := if h : 8 ≤ l % 64 ∧ l % 64 < 16 then s ⟨l % 64 - 8, by omega⟩ else 0

/-- The two rolls and the three tables turn both sub-heads of the 128 lanes. -/
theorem turned (y : Fin 128 → EReal) (c s : Fin 8 → EReal) (l : Fin 128) :
    y l * cosLane c l + y ⟨((l : ℕ) + 128 - 120) % 128, by omega⟩ * lowLane s l + y ⟨((l : ℕ) + 128 - 8) % 128, by omega⟩ * highLane s l
      = turn (fun d => y ⟨64 * ((l : ℕ) / 64) + d, by omega⟩) c s ⟨(l : ℕ) % 64, by omega⟩ := by
  have hl : (l : ℕ) < 128 := l.isLt
  have e0 : y l = y ⟨64 * ((l : ℕ) / 64) + (l : ℕ) % 64, by omega⟩ := congrArg y (Fin.ext (by simp only; omega))
  unfold turn cosLane lowLane highLane
  by_cases h : (l : ℕ) % 64 < 8
  · have e1 : y ⟨((l : ℕ) + 128 - 120) % 128, by omega⟩ = y ⟨64 * ((l : ℕ) / 64) + ((l : ℕ) % 64 + 8), by omega⟩ :=
      congrArg y (Fin.ext (by simp only; omega))
    rw [dif_pos h, dif_pos h, dif_neg (by omega), dif_pos h, mul_zero, add_zero, mul_neg, ← sub_eq_add_neg, e1, e0]
  · by_cases h' : (l : ℕ) % 64 < 16
    · have e1 : y ⟨((l : ℕ) + 128 - 8) % 128, by omega⟩ = y ⟨64 * ((l : ℕ) / 64) + ((l : ℕ) % 64 - 8), by omega⟩ :=
        congrArg y (Fin.ext (by simp only; omega))
      rw [dif_neg h, dif_pos h', dif_neg h, dif_pos ⟨by omega, h'⟩, dif_neg h, dif_pos h', mul_zero, add_zero, e1, e0, add_comm]
    · rw [dif_neg h, dif_neg h', dif_neg h, dif_neg (by omega), dif_neg h, dif_neg h', mul_one, mul_zero, mul_zero, add_zero, add_zero, e0]

theorem inv64 : Ideal.ofBits .f32 0x3C800000#32 = ((1 / 64 : ℝ) : EReal) := by
  simp [Ideal.ofBits, Ideal.ieee, ← EReal.coe_mul]; norm_num

theorem lit64 : Ideal.ofBits .f32 0x42800000#32 = ((64 : ℝ) : EReal) := by
  simp [Ideal.ofBits, Ideal.ieee, ← EReal.coe_mul]; norm_num

theorem tiny_pos : ∃ e : ℝ, 0 < e ∧ tiny = (e : EReal) := by
  refine ⟨_, ?_, by simp [tiny, Ideal.ofBits, Ideal.ieee, ← EReal.coe_mul]; rfl⟩
  norm_num

/-- The kernel multiplies by the literal `1/64`. -/
theorem scale_def (q : EReal) : Ideal.rsqrt (q * Ideal.ofBits .f32 0x3C800000#32 + tiny) = scale q := by
  rw [scale, inv64, lit64, Ideal.div_coe (y := 64) (by norm_num)]

theorem sq_nonneg (x : EReal) : 0 ≤ x * x := by
  induction x with
  | bot => simp
  | top => simp
  | coe x => exact_mod_cast mul_self_nonneg x

/-- The scale of a sum of squares is a real number. -/
theorem scale_real {ι : Type*} [Fintype ι] (x : ι → EReal) : ∃ r : ℝ, scale (∑ e, x e * x e) = r := by
  obtain ⟨e, he, hE⟩ := tiny_pos
  have h0 : 0 ≤ ∑ e, x e * x e := Finset.sum_nonneg fun e _ => sq_nonneg (x e)
  rw [scale, lit64, Ideal.div_coe (y := 64) (by norm_num), hE]
  generalize (∑ e, x e * x e) = q at h0
  induction q with
  | bot => simp at h0
  | top =>
    rw [EReal.top_mul_coe_of_pos (by norm_num), EReal.top_add_coe]
    exact ⟨0, rfl⟩
  | coe q =>
    have hq : 0 ≤ q := by exact_mod_cast h0
    rw [← EReal.coe_mul, ← EReal.coe_add]
    have hp : 0 < q * (1 / 64) + e := by positivity
    exact ⟨_, (if_neg hp.le.not_gt).trans (if_neg hp.ne')⟩

/-- The matrix of zeros and ones sums each sub-head of 64 lanes. -/
theorem seg_sum (f : Fin 1024 → EReal) (q : ℕ) (hq : q < 16) :
    ∑ n : Fin 1024, f n * (if (n : ℕ) / 64 = q then (1 : EReal) else 0) = ∑ e : Fin 64, f ⟨64 * q + e, by omega⟩ := by
  simp only [mul_ite, mul_one, mul_zero, ← Finset.sum_filter]
  refine (Finset.sum_bij (fun (e : Fin 64) _ => (⟨64 * q + e, by omega⟩ : Fin 1024)) ?_ ?_ ?_ ?_).symm
  · intro e _; simp only [Finset.mem_filter, Finset.mem_univ, true_and]; omega
  · intro a _ b _ h; have := congrArg Fin.val h; simp only at this; exact Fin.ext (by omega)
  · intro n hn
    have h := (Finset.mem_filter.1 hn).2
    exact ⟨⟨(n : ℕ) - 64 * q, by omega⟩, Finset.mem_univ _, Fin.ext (by simp only; omega)⟩
  · intro e _; rfl

/-- Summing a column of the same matrix picks out the one entry. -/
theorem pick (f : Fin 128 → EReal) (q : ℕ) (hq : q < 128) :
    ∑ k : Fin 128, f k * (if q = (k : ℕ) then (1 : EReal) else 0) = f ⟨q, hq⟩ := by
  rw [Finset.sum_eq_single ⟨q, hq⟩ (fun k _ hk => ?_) (fun h => absurd (Finset.mem_univ _) h)]
  · rw [if_pos rfl, mul_one]
  · rw [if_neg (fun h => hk (Fin.ext h.symm)), mul_zero]

end Cert.Prep

end
-- ==== Proof.Prep.Block.lean ====
/-
  What one grid point of the differential layer's preparation stores: for the queries and the keys the projected rows, each sub-head of 64
  lanes over the root of its mean square and turned by the position's angles; for the values the projected rows themselves.
-/
module

public import proofs.«01_k».proof.Proof.Gen.Kernel5Ideal.Value
public import proofs.«01_k».proof.Proof.Prep.Rows

@[expose] public section

set_option maxRecDepth 16384

noncomputable section

namespace Cert.Prep

open Cert.Kernel5Ideal Cert.Kernel5Ideal.Gen Idealize.ShloMosaic Idealize.ShloMosaic.TcCoe Idealize.SL.Sem

theorem pay1_at (x0 : Vec Ideal S1024x2048 .bf16) (x1 : Vec Ideal S2048x1024 .bf16) (r l : Fin 1024) :
    k0_pay1 (F := Ideal) x0 x1 (ix2 r l) = ∑ x : Fin 2048, x0 (ix2 r x) * x1 (ix2 x l) := by
  unfold_payloads
  pointwise

/-- The scale of the lane's sub-head: the second half of the product is a difference of two equal real numbers. -/
theorem pay8_at (D : FVec Ideal S1024x1024 .f32) (x6 : Vec Ideal S1024x128 .bf16) (x7 : Vec Ideal S256x1024 .bf16)
    (h6 : ∀ (n : Fin 1024) (q : Fin 128), x6 (ix2 n q) = if (n : ℕ) / 64 = q then (1 : EReal) else 0)
    (h7 : ∀ (k : Fin 256) (l : Fin 1024), x7 (ix2 k l) = if (l : ℕ) / 64 = k % 128 then (1 : EReal) else 0) (r l : Fin 1024) :
    k0_pay8 (F := Ideal) D x6 x7 (ix2 r l)
      = scale (∑ e : Fin 64, D (ix2 r ⟨64 * ((l : ℕ) / 64) + e, by omega⟩) * D (ix2 r ⟨64 * ((l : ℕ) / 64) + e, by omega⟩)) := by
  have hl : (l : ℕ) < 1024 := l.isLt
  unfold_payloads
  pointwise
  simp only [scale_def, h6, h7]
  have hk : ∀ k : Fin 128, (k : ℕ) % 128 = k ∧ (128 + (k : ℕ)) % 128 = k := fun k => by omega
  simp only [fun k => (hk k).1, fun k => (hk k).2]
  rw [pick _ ((l : ℕ) / 64) (by omega), pick _ ((l : ℕ) / 64) (by omega)]
  simp only []
  rw [seg_sum (fun n => D (ix2 r n) * D (ix2 r n)) ((l : ℕ) / 64) (by omega)]
  obtain ⟨a, ha⟩ := scale_real fun e : Fin 64 => D (ix2 r ⟨64 * ((l : ℕ) / 64) + e, by omega⟩)
  rw [ha, ← EReal.coe_sub, sub_self, EReal.coe_zero, add_zero]

/-- Lane `l` of the column block at `n`: the three products of the two rolls. -/
def rolled (y : Fin 128 → EReal) (A B C : Fin 128 → EReal) (l : Fin 128) : EReal :=
  y l * A l + y ⟨((l : ℕ) + 128 - 120) % 128, by omega⟩ * B l + y ⟨((l : ℕ) + 128 - 8) % 128, by omega⟩ * C l

section
variable (D I : FVec Ideal S1024x1024 .f32) (x2 : Vec Ideal S1x1x128 .f32) (x3 x4 x5 : Vec Ideal S1024x128 .f32)

/-- Row `r`, lane `l` of the column block at `n`, from the rows, their scales, the weights and the tables. -/
def lanes (n : ℕ) (hn : n + 128 ≤ 1024) (r : Fin 1024) (l : Fin 128) : EReal :=
  rolled (fun e => D (ix2 r ⟨n + e, by omega⟩) * I (ix2 r ⟨n + e, by omega⟩) * x2 (ix3 0 0 e))
    (fun e => x3 (ix2 r e)) (fun e => x4 (ix2 r e)) (fun e => x5 (ix2 r e)) l

/-- What the block holds at row `r` and column `n`. -/
def prepped (g : Fin 64 → EReal) (c s : Fin 1024 → Fin 8 → EReal) (r n : Fin 1024) : EReal :=
  turn (unit (fun e => D (ix2 r ⟨64 * ((n : ℕ) / 64) + e, by omega⟩)) g) (c r) (s r) ⟨(n : ℕ) % 64, by omega⟩

variable (g : Fin 64 → EReal) (c s : Fin 1024 → Fin 8 → EReal)
  (hI : ∀ r l : Fin 1024, I (ix2 r l)
    = scale (∑ e : Fin 64, D (ix2 r ⟨64 * ((l : ℕ) / 64) + e, by omega⟩) * D (ix2 r ⟨64 * ((l : ℕ) / 64) + e, by omega⟩)))
  (h2 : ∀ l : Fin 128, x2 (ix3 0 0 l) = g (place l))
  (h3 : ∀ (r : Fin 1024) (l : Fin 128), x3 (ix2 r l) = cosLane (c r) l)
  (h4 : ∀ (r : Fin 1024) (l : Fin 128), x4 (ix2 r l) = lowLane (s r) l)
  (h5 : ∀ (r : Fin 1024) (l : Fin 128), x5 (ix2 r l) = highLane (s r) l)
include hI h2 h3 h4 h5

theorem lanes_eq (q : ℕ) (hq : q < 8) (r : Fin 1024) (l : Fin 128) :
    lanes D I x2 x3 x4 x5 (128 * q) (by omega) r l = prepped D g c s r ⟨128 * q + l, by omega⟩ := by
  have hl : (l : ℕ) < 128 := l.isLt
  unfold lanes rolled prepped
  simp only [h3, h4, h5]
  refine (turned (fun e => D (ix2 r ⟨128 * q + e, by omega⟩) * I (ix2 r ⟨128 * q + e, by omega⟩) * x2 (ix3 0 0 e)) (c r) (s r) l).trans ?_
  have e1 : (128 * q + (l : ℕ)) % 64 = (l : ℕ) % 64 := by omega
  have e2 : 64 * ((128 * q + (l : ℕ)) / 64) = 128 * q + 64 * ((l : ℕ) / 64) := by omega
  congr 1
  · funext d
    have e3 : 64 * ((128 * q + 64 * ((l : ℕ) / 64) + (d : ℕ)) / 64) = 128 * q + 64 * ((l : ℕ) / 64) := by omega
    have e4 : (64 * ((l : ℕ) / 64) + (d : ℕ)) % 64 = d := by omega
    simp only [unit, hI, h2, place, e2, e4, ← Nat.add_assoc, e3]
  · exact Fin.ext e1.symm

/-- A column block's rows, at an index of the point's whole block. -/
theorem at_columns (q : ℕ) (hq : q < 8) (p : Vec Ideal S1024x128 .bf16)
    (hp : ∀ (r : Fin 1024) (l : Fin 128), p (ix2 r l) = lanes D I x2 x3 x4 x5 (128 * q) (by omega) r l)
    (x : S1024x128.Idx) (y : S1024x1024.Idx) (t0 : (y 0 : ℕ) = (x 0 : ℕ)) (t1 : (y 1 : ℕ) = 128 * q + (x 1 : ℕ)) :
    p x = prepped D g c s (y 0) (y 1) := by
  have e0 : y 0 = x 0 := Fin.ext t0
  have e1 : y 1 = (⟨128 * q + (x 1 : ℕ), by have : (x 1 : ℕ) < 128 := (x 1).isLt; omega⟩ : Fin 1024) := Fin.ext t1
  refine (congrArg p (eq_ix2 x)).trans ((hp (x 0) (x 1)).trans ?_)
  exact (lanes_eq D I x2 x3 x4 x5 g c s hI h2 h3 h4 h5 q hq (x 0) (x 1)).trans (congrArg₂ (prepped D g c s) e0.symm e1.symm)

end

section
variable (c : Dev nD) (i : grid0.Coords) (arg2 : Memref sig .tc .vmem S1024x2048 .bf16) (harg2 : arg2.IsWhole) (arg3 : Memref sig .tc .vmem S2048x1024 .bf16) (harg3 : arg3.IsWhole)
  (arg4 : Memref sig .tc .vmem S1x1x128 .f32) (harg4 : arg4.IsWhole) (arg5 : Memref sig .tc .vmem S1024x128 .f32) (harg5 : arg5.IsWhole)
  (arg6 : Memref sig .tc .vmem S1024x128 .f32) (harg6 : arg6.IsWhole) (arg7 : Memref sig .tc .vmem S1024x128 .f32) (harg7 : arg7.IsWhole)
  (arg8 : Memref sig .tc .vmem S1024x128 .bf16) (harg8 : arg8.IsWhole) (arg9 : Memref sig .tc .vmem S256x1024 .bf16) (harg9 : arg9.IsWhole)
  (arg10 : Memref sig .tc .vmem S1024x1024 .bf16) (harg10 : arg10.IsWhole)
  (x0 : Vec Ideal S1024x2048 .bf16) (x1 : Vec Ideal S2048x1024 .bf16) (x2 : Vec Ideal S1x1x128 .f32) (x3 x4 x5 : Vec Ideal S1024x128 .f32)
  (x6 : Vec Ideal S1024x128 .bf16) (x7 : Vec Ideal S256x1024 .bf16)

theorem zeros2 : (![0, 0] : Fin 2 → ℕ) = fun _ => 0 := by decide
theorem zeros3 : (![0, 0, 0] : Fin 3 → ℕ) = fun _ => 0 := by decide

/-- The values' points store the projected rows. -/
theorem block_B (hc0 : cond0_0 i) (hc1 : ¬cond0_1 i) (y : S1024x1024.Idx) :
    out0_B_8 c i arg2 harg2 arg3 harg3 arg4 harg4 arg5 harg5 arg6 harg6 arg7 harg7 arg8 harg8 arg9 harg9 arg10 harg10 hc0 hc1 x0 x1 x2 x3 x4 x5 x6 x7 y
      = k0_pay1 x0 x1 y := by
  unfold out0_B_8
  rw [View.read_writes_eq_canon _ _ _ (cover0_B_8 c i arg2 harg2 arg3 harg3 arg4 harg4 arg5 harg5 arg6 harg6 arg7 harg7 arg8 harg8 arg9 harg9 arg10 harg10 hc0 hc1 x0 x1 x2 x3 x4 x5 x6 x7)]
  unfold kernelRun0_B
  dsimp only
  sl_unfold_words
  rw [View.canon_unit_zero zeros2]
  simp only [View.readAt_eq_ld, harg2.read_unread, harg3.read_unread, View.ld_unit_zero (S := S1024x2048) zeros2, View.ld_unit_zero (S := S2048x1024) zeros2]
  rfl

/-- The queries' and the keys' points store the sub-heads, normed and turned. -/
theorem block_A (hc0 : ¬cond0_0 i) (hc1 : cond0_1 i) (g : Fin 64 → EReal) (cs sn : Fin 1024 → Fin 8 → EReal)
    (h2 : ∀ l : Fin 128, x2 (ix3 0 0 l) = g (place l))
    (h3 : ∀ (r : Fin 1024) (l : Fin 128), x3 (ix2 r l) = cosLane (cs r) l)
    (h4 : ∀ (r : Fin 1024) (l : Fin 128), x4 (ix2 r l) = lowLane (sn r) l)
    (h5 : ∀ (r : Fin 1024) (l : Fin 128), x5 (ix2 r l) = highLane (sn r) l)
    (h6 : ∀ (n : Fin 1024) (q : Fin 128), x6 (ix2 n q) = if (n : ℕ) / 64 = q then (1 : EReal) else 0)
    (h7 : ∀ (k : Fin 256) (l : Fin 1024), x7 (ix2 k l) = if (l : ℕ) / 64 = k % 128 then (1 : EReal) else 0) (y : S1024x1024.Idx) :
    out0_A_8 c i arg2 harg2 arg3 harg3 arg4 harg4 arg5 harg5 arg6 harg6 arg7 harg7 arg8 harg8 arg9 harg9 arg10 harg10 hc0 hc1 x0 x1 x2 x3 x4 x5 x6 x7 y
      = prepped (k0_pay1 x0 x1) g cs sn (y 0) (y 1) := by
  unfold out0_A_8
  rw [View.read_writes_eq_canon _ _ _ (cover0_A_8 c i arg2 harg2 arg3 harg3 arg4 harg4 arg5 harg5 arg6 harg6 arg7 harg7 arg8 harg8 arg9 harg9 arg10 harg10 hc0 hc1 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread,
    harg8.read_unread, harg9.read_unread, View.ld_unit_zero (S := S1024x2048) zeros2, View.ld_unit_zero (S := S2048x1024) zeros2,
    View.ld_unit_zero (S := S1x1x128) zeros3, View.ld_unit_zero (S := S1024x128) zeros2, View.ld_unit_zero (S := S256x1024) zeros2]
  generalize k0_pay1 x0 x1 = D
  have hI := pay8_at D x6 x7 h6 h7
  have step := at_columns D (k0_pay8 D x6 x7) x2 x3 x4 x5 g cs sn hI h2 h3 h4 h5
  have first : ∀ (r : Fin 1024) (l : Fin 128), k0_pay9 D x2 x3 x4 x5 x6 x7 (ix2 r l)
      = lanes D (k0_pay8 D x6 x7) x2 x3 x4 x5 (128 * 0) (by omega) r l := fun r l => by
    unfold lanes rolled; unfold_payloads; pointwise
  generalize k0_pay9 D x2 x3 x4 x5 x6 x7 = p at first ⊢
  generalize k0_pay8 D x6 x7 = I at step first ⊢
  canon_tiles x t
  case piece0 => exact step 7 (by omega) _ (fun r l => by unfold_payloads; pointwise; rfl) x y t0 t1
  case piece1 => exact step 6 (by omega) _ (fun r l => by unfold_payloads; pointwise; rfl) x y t0 t1
  case piece2 => exact step 5 (by omega) _ (fun r l => by unfold_payloads; pointwise; rfl) x y t0 t1
  case piece3 => exact step 4 (by omega) _ (fun r l => by unfold_payloads; pointwise; rfl) x y t0 t1
  case piece4 => exact step 3 (by omega) _ (fun r l => by unfold_payloads; pointwise; rfl) x y t0 t1
  case piece5 => exact step 2 (by omega) _ (fun r l => by unfold_payloads; pointwise; rfl) x y t0 t1
  case piece6 => exact step 1 (by omega) _ (fun r l => by unfold_payloads; pointwise; rfl) x y t0 t1
  case piece7 => exact step 0 (by omega) _ first x y t0 (by omega)

end

end Cert.Prep

end
-- ==== Proof.Prep.Host.lean ====
/-
  The operands of the differential layer's preparation as the host makes them, entry by entry: the rows, the weights, the norms' weights, the
  three tables of the turn and the two matrices of zeros and ones.
-/
module

public import proofs.«01_k».proof.Proof.Gen.Kernel5Ideal.Value
public import proofs.«01_k».proof.Proof.Prep.Rows
public import Idealize.ShloMosaic.Lib.Claim

@[expose] public section

set_option maxRecDepth 16384

noncomputable section

namespace Cert.Prep

open Cert.Kernel5Ideal Cert.Kernel5Ideal.Gen Idealize.ShloMosaic Idealize.ShloMosaic.TcCoe Idealize.SL.Sem

/-- The layer's rows, their batches one under the other. -/
def rows (x : FVec Ideal S16x2048x2048 .f32) : FVec Ideal S32768x2048 .bf16 :=
  shapeCast S32768x2048 (truncf FTy.bf16 x bitsLt_bf16_f32) shapeCasts_S16x2048x2048_S32768x2048

/-- The columns of the weights that make the queries, the keys and the values. -/
def columns (w : FVec Ideal S2048x8256 .f32) : FVec Ideal S2048x3072 .bf16 :=
  extractStridedSlice S2048x3072 ![0, 1088] (truncf FTy.bf16 w bitsLt_bf16_f32) slices_S2048x8256_S2048x3072_0_1088

/-- A norm's weights once for each of two sub-heads. -/
def twice (g : FVec Ideal S64 .f32) : FVec Ideal S1x128 .f32 :=
  broadcastInDim S1x128 ![1] bcast_S128_S1x128_1
    (shapeCast S128 (broadcastInDim S2x64 ![0, 1] bcast_S1x64_S2x64_0_1 (shapeCast S1x64 g shapeCasts_S64_S1x64)) shapeCasts_S2x64_S128)

/-- The weights of the queries' norm, of the keys' and, for the values, ones. -/
def norms (gq gk : FVec Ideal S64 .f32) : FVec Ideal S3x1x128 .f32 :=
  shapeCast S3x1x128 (concatenate S3x128 0 [⟨S1x128, twice gq⟩, ⟨S1x128, twice gk⟩,
    ⟨S1x128, broadcastInDim S1x128 ![1] bcast_S128_S1x128_1 (broadcastInDim S128 ![] bcast_S_S128 (constant S_ .f32 0x3F800000#32))⟩]
    concatenates_S1x128_S1x128_S1x128_S3x128_d0) shapeCasts_S3x128_S3x1x128

/-- A table of the turn: its parts for lanes `0..7`, `8..15` and the others, once for each of two sub-heads. -/
def table (a b : FVec Ideal S32768x8 .f32) (o : FVec Ideal S32768x48 .f32) : FVec Ideal S32768x128 .f32 :=
  shapeCast S32768x128 (broadcastInDim S1x32768x2x64 ![0, 1, 2, 3] bcast_S1x32768x1x64_S1x32768x2x64_0_1_2_3
    (shapeCast S1x32768x1x64 (concatenate S32768x64 1 [⟨S32768x8, a⟩, ⟨S32768x8, b⟩, ⟨S32768x48, o⟩] concatenates_S32768x8_S32768x8_S32768x48_S32768x64_d1)
      shapeCasts_S32768x64_S1x32768x1x64)) shapeCasts_S1x32768x2x64_S32768x128

/-- The positions' cosines or sines, their batches one under the other. -/
def angles (x : FVec Ideal S16x2048x8 .f32) : FVec Ideal S32768x8 .f32 := shapeCast S32768x8 x shapeCasts_S16x2048x8_S32768x8

def zero8 : FVec Ideal S32768x8 .f32 := broadcastInDim S32768x8 ![] bcast_S_S32768x8 (constant S_ .f32 0x00000000#32)
def zero48 : FVec Ideal S32768x48 .f32 := broadcastInDim S32768x48 ![] bcast_S_S32768x48 (constant S_ .f32 0x00000000#32)
def one48 : FVec Ideal S32768x48 .f32 := broadcastInDim S32768x48 ![] bcast_S_S32768x48 (constant S_ .f32 0x3F800000#32)

/-- The lanes' numbers. -/
def lane : IVec S1024x1 32 := broadcastInDim S1024x1 ![0] bcast_S1024_S1024x1_0 (iotaInDim S1024 32 0)

/-- One word in every row. -/
def every (w : IVec S_ 32) : IVec S1024x1 32 := broadcastInDim S1024x1 ![] bcast_S_S1024x1 w

/-- The lanes' sub-heads: their numbers over 64, rounded down. -/
def subhead : IVec S1024x1 32 :=
  select (andi (cmpi .ne (signi lane) (every (signi (constantI S_ 32 64#32)))) (cmpi .ne (Host.remsi lane (every (constantI S_ 32 64#32))) (every (constantI S_ 32 0#32))))
    (subi (Host.divsi lane (every (constantI S_ 32 64#32))) (every (constantI S_ 32 1#32))) (Host.divsi lane (every (constantI S_ 32 64#32)))

/-- One where the lane is of the sub-head, else zero. -/
def member : FVec Ideal S1024x128 .bf16 :=
  uitofp .bf16 (cmpi .eq (broadcastInDim S1024x128 ![0, 1] bcast_S1024x1_S1024x128_0_1 subhead)
    (broadcastInDim S1024x128 ![0, 1] bcast_S1x128_S1024x128_0_1 (broadcastInDim S1x128 ![1] bcast_S128_S1x128_1 (iotaInDim S128 32 0))))

/-- The same the other way round, twice. -/
def memberTwice : FVec Ideal S256x1024 .bf16 :=
  concatenate S256x1024 0 [⟨S128x1024, transpose S128x1024 [1, 0] member transposes_S1024x128_S128x1024_1_0⟩,
    ⟨S128x1024, transpose S128x1024 [1, 0] member transposes_S1024x128_S128x1024_1_0⟩] concatenates_S128x1024_S128x1024_S256x1024_d0

theorem rows_at (x : FVec Ideal S16x2048x2048 .f32) (b : Fin 16) (i l : Fin 2048) (R : Fin 32768) (hR : (R : ℕ) = 2048 * b + i) :
    rows x (ix2 R l) = x (ix3 b i l) := by
  rw [show R = (⟨2048 * b + i, by omega⟩ : Fin 32768) from Fin.ext hR]
  pointwise [rows]

theorem angles_at (x : FVec Ideal S16x2048x8 .f32) (b : Fin 16) (i : Fin 2048) (l : Fin 8) (R : Fin 32768) (hR : (R : ℕ) = 2048 * b + i) :
    angles x (ix2 R l) = x (ix3 b i l) := by
  rw [show R = (⟨2048 * b + i, by omega⟩ : Fin 32768) from Fin.ext hR]
  pointwise [angles]

theorem columns_at (w : FVec Ideal S2048x8256 .f32) (l : Fin 2048) (n : Fin 3072) : columns w (ix2 l n) = w (ix2 l ⟨1088 + n, by omega⟩) := by
  pointwise [columns]

theorem twice_at (g : FVec Ideal S64 .f32) (l : Fin 128) : twice g (ix2 0 l) = g (ix1 ⟨(l : ℕ) % 64, by omega⟩) := by
  pointwise [twice]

theorem norms_at (gq gk : FVec Ideal S64 .f32) (k : Fin 3) (hk : (k : ℕ) < 2) (l : Fin 128) :
    norms gq gk (ix3 k 0 l) = (if (k : ℕ) = 0 then gq else gk) (ix1 ⟨(l : ℕ) % 64, by omega⟩) := by
  have hk' : k = 0 ∨ k = 1 := by omega
  obtain rfl | rfl := hk'
  · pointwise [norms]; exact twice_at gq l
  · pointwise [norms]; exact twice_at gk l

theorem table_at (a b : FVec Ideal S32768x8 .f32) (o : FVec Ideal S32768x48 .f32) (R : Fin 32768) (l : Fin 128) :
    table a b o (ix2 R l)
      = if h : (l : ℕ) % 64 < 8 then a (ix2 R ⟨(l : ℕ) % 64, h⟩)
        else if h' : (l : ℕ) % 64 - 8 < 8 then b (ix2 R ⟨(l : ℕ) % 64 - 8, h'⟩)
        else o (ix2 R ⟨(l : ℕ) % 64 - 8 - 8, by omega⟩) := by
  pointwise [table]

theorem subhead_at (n : Fin 1024) : subhead (ix2 n 0) = BitVec.ofNat 32 ((n : ℕ) / 64) := by
  pointwise [subhead, lane, every]
  revert n
  decide +kernel

theorem word_eq : ∀ (a : Fin 16) (q : Fin 128),
    IntOp.cmpi .eq (BitVec.ofNat 32 (a : ℕ)) (BitVec.ofNat 32 (q : ℕ)) = if (a : ℕ) = q then 1#1 else 0#1 := by decide +kernel

theorem member_at (n : Fin 1024) (q : Fin 128) : member (ix2 n q) = if (n : ℕ) / 64 = q then (1 : EReal) else 0 := by
  pointwise [member]
  rw [subhead_at, word_eq ⟨(n : ℕ) / 64, by omega⟩ q]
  by_cases h : (n : ℕ) / 64 = q
  · rw [if_pos h, if_pos h]; show (((1#1 : BitVec 1).toNat : ℝ) : EReal) = 1; norm_num
  · rw [if_neg h, if_neg h]; show (((0#1 : BitVec 1).toNat : ℝ) : EReal) = 0; norm_num

theorem memberTwice_at (k : Fin 256) (l : Fin 1024) : memberTwice (ix2 k l) = if (l : ℕ) / 64 = k % 128 then (1 : EReal) else 0 := by
  pointwise [memberTwice]
  by_cases h : (k : ℕ) < 128
  · rw [dif_pos h, member_at, Nat.mod_eq_of_lt h]
  · rw [dif_neg h, member_at, show (k : ℕ) % 128 = k - 128 by omega]

/-- The table of the lane itself. -/
theorem table_cos (x : FVec Ideal S16x2048x8 .f32) (b : Fin 16) (i : Fin 2048) (R : Fin 32768) (hR : (R : ℕ) = 2048 * b + i) (l : Fin 128) :
    table (angles x) (angles x) one48 (ix2 R l) = cosLane (fun r => x (ix3 b i r)) l := by
  rw [table_at]
  unfold cosLane
  by_cases h : (l : ℕ) % 64 < 8
  · rw [dif_pos h, dif_pos h, angles_at x b i _ R hR]
  · by_cases h' : (l : ℕ) % 64 < 16
    · rw [dif_neg h, dif_pos (by omega), dif_neg h, dif_pos h', angles_at x b i _ R hR]
    · rw [dif_neg h, dif_neg (by omega), dif_neg h, dif_neg h']; pointwise [one48]

/-- The table of the lane eight above. -/
theorem table_low (x : FVec Ideal S16x2048x8 .f32) (b : Fin 16) (i : Fin 2048) (R : Fin 32768) (hR : (R : ℕ) = 2048 * b + i) (l : Fin 128) :
    table (Host.negf (angles x)) zero8 zero48 (ix2 R l) = lowLane (fun r => x (ix3 b i r)) l := by
  rw [table_at]
  unfold lowLane
  by_cases h : (l : ℕ) % 64 < 8
  · rw [dif_pos h, dif_pos h]; exact congrArg Neg.neg (angles_at x b i _ R hR)
  · by_cases h' : (l : ℕ) % 64 < 16
    · rw [dif_neg h, dif_pos (by omega), dif_neg h]; pointwise [zero8]
    · rw [dif_neg h, dif_neg (by omega), dif_neg h]; pointwise [zero48]

/-- The table of the lane eight below. -/
theorem table_high (x : FVec Ideal S16x2048x8 .f32) (b : Fin 16) (i : Fin 2048) (R : Fin 32768) (hR : (R : ℕ) = 2048 * b + i) (l : Fin 128) :
    table zero8 (angles x) zero48 (ix2 R l) = highLane (fun r => x (ix3 b i r)) l := by
  rw [table_at]
  unfold highLane
  by_cases h : (l : ℕ) % 64 < 8
  · rw [dif_pos h, dif_neg (by omega)]; pointwise [zero8]
  · by_cases h' : (l : ℕ) % 64 < 16
    · rw [dif_neg h, dif_pos (by omega), dif_pos ⟨by omega, h'⟩, angles_at x b i _ R hR]
    · rw [dif_neg h, dif_neg (by omega), dif_neg (by omega)]; pointwise [zero48]

section Entry
variable (m : (ℓ : Loc nD τ sig) → Buf (Elt Ideal) ℓ) (c : Dev nD)

theorem entry_0 : V m c (Pipeline.arrRef spec0 0) = rows (m ((c : Thread nD τ).loc main_arg0)) := by
  show V m c main_v34 = _
  entry_read; rfl

theorem entry_1 : V m c (Pipeline.arrRef spec0 1) = columns (m ((c : Thread nD τ).loc main_arg1)) := by
  show V m c main_v20 = _
  entry_read; rfl

theorem entry_2 : V m c (Pipeline.arrRef spec0 2) = norms (m ((c : Thread nD τ).loc main_arg2)) (m ((c : Thread nD τ).loc main_arg3)) := by
  show V m c main_v32 = _
  show StableHlo.after (hostOps0 (F := Ideal)) _ _ = _
  simp only [StableHlo.after_cons, StableHlo.after_nil]
  after_results_simp
  rfl

theorem entry_3 : V m c (Pipeline.arrRef spec0 3)
    = table (angles (m ((c : Thread nD τ).loc main_arg4))) (angles (m ((c : Thread nD τ).loc main_arg4))) one48 := by
  show V m c main_v7 = _
  show StableHlo.after (hostOps0 (F := Ideal)) _ _ = _
  simp only [StableHlo.after_cons, StableHlo.after_nil]
  after_results_simp
  rfl

theorem entry_4 : V m c (Pipeline.arrRef spec0 4) = table (Host.negf (angles (m ((c : Thread nD τ).loc main_arg5)))) zero8 zero48 := by
  show V m c main_v13 = _
  show StableHlo.after (hostOps0 (F := Ideal)) _ _ = _
  simp only [StableHlo.after_cons, StableHlo.after_nil]
  after_results_simp
  rfl

theorem entry_5 : V m c (Pipeline.arrRef spec0 5) = table zero8 (angles (m ((c : Thread nD τ).loc main_arg5))) zero48 := by
  show V m c main_v18 = _
  show StableHlo.after (hostOps0 (F := Ideal)) _ _ = _
  simp only [StableHlo.after_cons, StableHlo.after_nil]
  after_results_simp
  rfl

theorem entry_6 : V m c (Pipeline.arrRef spec0 6) = member := by
  show V m c main_v43 = _
  entry_read; rfl

theorem entry_7 : V m c (Pipeline.arrRef spec0 7) = memberTwice := by
  show V m c main_v46 = _
  show StableHlo.after (List.flatten [hostOps0 (F := Ideal), hostOps0_1, hostOps0_2]) _ _ = _
  simp only [List.flatten_cons, List.flatten_nil, List.cons_append, List.nil_append, StableHlo.after_cons, StableHlo.after_nil]
  after_results_simp
  rfl

end Entry

end Cert.Prep

end
-- ==== Proof.Prep.Point.lean ====
/-
  The differential layer's preparation: its windows' blocks, and the kernel's result, entry by entry (`result_at`).
-/
module

public import proofs.«01_k».proof.Proof.Prep.Block
public import proofs.«01_k».proof.Proof.Prep.Host

@[expose] public section

set_option maxRecDepth 16384

noncomputable section

namespace Cert.Prep

open Cert.Kernel5Ideal Cert.Kernel5Ideal.Gen Idealize.ShloMosaic Idealize.ShloMosaic.TcCoe Idealize.SL.Sem

/-- Column `n` of the projected queries, keys and values, at batch `b` and position `i`. -/
def proj (h : FVec Ideal S16x2048x2048 .f32) (w : FVec Ideal S2048x8256 .f32) (b : Fin 16) (i : Fin 2048) (n : Fin 3072) : EReal :=
  ∑ l : Fin 2048, h (ix3 b i l) * w (ix2 l ⟨1088 + n, by omega⟩)

/-- Column `n` of a sub-head of the queries or the keys: projected, over the root of the sub-head's mean square, turned. -/
def turnedAt (h : FVec Ideal S16x2048x2048 .f32) (w : FVec Ideal S2048x8256 .f32) (g : FVec Ideal S64 .f32) (cs sn : FVec Ideal S16x2048x8 .f32)
    (b : Fin 16) (i : Fin 2048) (n : Fin 3072) : EReal :=
  turn (unit (fun e => proj h w b i ⟨64 * ((n : ℕ) / 64) + e, by omega⟩) fun d => g (ix1 d)) (fun r => cs (ix3 b i r)) (fun r => sn (ix3 b i r))
    ⟨(n : ℕ) % 64, by omega⟩

/-! ## The windows' blocks -/

/-- Grid point `t` holds rows `1024 (t / 3) …` and the queries', the keys' or the values' columns. -/
theorem idx : ∀ t : Fin cfg0.N,
    win0_0.index t = ![t.val / 3, 0] ∧ win0_1.index t = ![0, t.val % 3] ∧ win0_2.index t = ![t.val % 3, 0, 0] ∧ win0_3.index t = ![t.val / 3, 0]
    ∧ win0_4.index t = ![t.val / 3, 0] ∧ win0_5.index t = ![t.val / 3, 0] ∧ win0_6.index t = ![0, 0] ∧ win0_7.index t = ![0, 0]
    ∧ win0_8.index t = ![t.val / 3, t.val % 3] :=
  (by decide +kernel : ∀ t : Fin grid0.N, _)

section Blocks
variable (c : Dev nD) (t : Fin cfg0.N)

theorem read_0 (A : Buf (Elt Ideal) ((c : Thread nD τ).loc (Pipeline.arrRef spec0 0))) (r : Fin 1024) (l : Fin 2048) (R : Fin 32768)
    (hR : (R : ℕ) = 1024 * (t.val / 3) + r) :
    (((cfg0.win 0).blk t).view.read (Elt Ideal) A : Vec Ideal S1024x2048 .bf16) (ix2 r l) = (A : FVec Ideal S32768x2048 .bf16) (ix2 R l) := by
  have e : (((cfg0.win 0).blk t).view.emb (ix2 r l) : S32768x2048.Idx) = ix2 R l := by
    blk_simp
    blk_ext [idx t, hR]
  exact congrArg A e

theorem read_1 (A : Buf (Elt Ideal) ((c : Thread nD τ).loc (Pipeline.arrRef spec0 1))) (l : Fin 2048) (n : Fin 1024) (N : Fin 3072)
    (hN : (N : ℕ) = 1024 * (t.val % 3) + n) :
    (((cfg0.win 1).blk t).view.read (Elt Ideal) A : Vec Ideal S2048x1024 .bf16) (ix2 l n) = (A : FVec Ideal S2048x3072 .bf16) (ix2 l N) := by
  have e : (((cfg0.win 1).blk t).view.emb (ix2 l n) : S2048x3072.Idx) = ix2 l N := by
    blk_simp
    blk_ext [idx t, hN]
  exact congrArg A e

theorem read_2 (A : Buf (Elt Ideal) ((c : Thread nD τ).loc (Pipeline.arrRef spec0 2))) (l : Fin 128) (k : Fin 3) (hk : (k : ℕ) = t.val % 3) :
    (((cfg0.win 2).blk t).view.read (Elt Ideal) A : Vec Ideal S1x1x128 .f32) (ix3 0 0 l) = (A : FVec Ideal S3x1x128 .f32) (ix3 k 0 l) := by
  have e : (((cfg0.win 2).blk t).view.emb (ix3 0 0 l) : S3x1x128.Idx) = ix3 k 0 l := by
    blk_simp
    blk_ext [idx t, hk]
  exact congrArg A e

theorem read_3 (A : Buf (Elt Ideal) ((c : Thread nD τ).loc (Pipeline.arrRef spec0 3))) (r : Fin 1024) (l : Fin 128) (R : Fin 32768)
    (hR : (R : ℕ) = 1024 * (t.val / 3) + r) :
    (((cfg0.win 3).blk t).view.read (Elt Ideal) A : Vec Ideal S1024x128 .f32) (ix2 r l) = (A : FVec Ideal S32768x128 .f32) (ix2 R l) := by
  have e : (((cfg0.win 3).blk t).view.emb (ix2 r l) : S32768x128.Idx) = ix2 R l := by
    blk_simp
    blk_ext [idx t, hR]
  exact congrArg A e

theorem read_4 (A : Buf (Elt Ideal) ((c : Thread nD τ).loc (Pipeline.arrRef spec0 4))) (r : Fin 1024) (l : Fin 128) (R : Fin 32768)
    (hR : (R : ℕ) = 1024 * (t.val / 3) + r) :
    (((cfg0.win 4).blk t).view.read (Elt Ideal) A : Vec Ideal S1024x128 .f32) (ix2 r l) = (A : FVec Ideal S32768x128 .f32) (ix2 R l) := by
  have e : (((cfg0.win 4).blk t).view.emb (ix2 r l) : S32768x128.Idx) = ix2 R l := by
    blk_simp
    blk_ext [idx t, hR]
  exact congrArg A e

theorem read_5 (A : Buf (Elt Ideal) ((c : Thread nD τ).loc (Pipeline.arrRef spec0 5))) (r : Fin 1024) (l : Fin 128) (R : Fin 32768)
    (hR : (R : ℕ) = 1024 * (t.val / 3) + r) :
    (((cfg0.win 5).blk t).view.read (Elt Ideal) A : Vec Ideal S1024x128 .f32) (ix2 r l) = (A : FVec Ideal S32768x128 .f32) (ix2 R l) := by
  have e : (((cfg0.win 5).blk t).view.emb (ix2 r l) : S32768x128.Idx) = ix2 R l := by
    blk_simp
    blk_ext [idx t, hR]
  exact congrArg A e

theorem read_6 (A : Buf (Elt Ideal) ((c : Thread nD τ).loc (Pipeline.arrRef spec0 6))) (n : Fin 1024) (q : Fin 128) :
    (((cfg0.win 6).blk t).view.read (Elt Ideal) A : Vec Ideal S1024x128 .bf16) (ix2 n q) = (A : FVec Ideal S1024x128 .bf16) (ix2 n q) := by
  have e : (((cfg0.win 6).blk t).view.emb (ix2 n q) : S1024x128.Idx) = ix2 n q := by
    blk_simp
    blk_ext [idx t]
  exact congrArg A e

theorem read_7 (A : Buf (Elt Ideal) ((c : Thread nD τ).loc (Pipeline.arrRef spec0 7))) (k : Fin 256) (l : Fin 1024) :
    (((cfg0.win 7).blk t).view.read (Elt Ideal) A : Vec Ideal S256x1024 .bf16) (ix2 k l) = (A : FVec Ideal S256x1024 .bf16) (ix2 k l) := by
  have e : (((cfg0.win 7).blk t).view.emb (ix2 k l) : S256x1024.Idx) = ix2 k l := by
    blk_simp
    blk_ext [idx t]
  exact congrArg A e

theorem read_8 (A : Buf (Elt Ideal) ((c : Thread nD τ).loc (Pipeline.arrRef spec0 8))) (r n : Fin 1024) (R : Fin 32768) (N : Fin 3072)
    (hR : (R : ℕ) = 1024 * (t.val / 3) + r) (hN : (N : ℕ) = 1024 * (t.val % 3) + n) :
    (((cfg0.win 8).blk t).view.read (Elt Ideal) A : Vec Ideal S1024x1024 .bf16) (ix2 r n) = (A : FVec Ideal S32768x3072 .bf16) (ix2 R N) := by
  have e : (((cfg0.win 8).blk t).view.emb (ix2 r n) : S32768x3072.Idx) = ix2 R N := by
    blk_simp
    blk_ext [idx t, hR, hN]
  exact congrArg A e

end Blocks

section Result
variable (m : (ℓ : Loc nD τ sig) → Buf (Elt Ideal) ℓ) (c : Dev nD) (t : Fin cfg0.N)

theorem iblk_0 : iblk m c 0 t = ((cfg0.win 0).blk t).view.read (Elt Ideal) (rows (m ((c : Thread nD τ).loc main_arg0))) := by
  unfold iblk; rw [entry_0]

theorem iblk_1 : iblk m c 1 t = ((cfg0.win 1).blk t).view.read (Elt Ideal) (columns (m ((c : Thread nD τ).loc main_arg1))) := by
  unfold iblk; rw [entry_1]

theorem iblk_2 : iblk m c 2 t
    = ((cfg0.win 2).blk t).view.read (Elt Ideal) (norms (m ((c : Thread nD τ).loc main_arg2)) (m ((c : Thread nD τ).loc main_arg3))) := by
  unfold iblk; rw [entry_2]

theorem iblk_3 : iblk m c 3 t
    = ((cfg0.win 3).blk t).view.read (Elt Ideal) (table (angles (m ((c : Thread nD τ).loc main_arg4))) (angles (m ((c : Thread nD τ).loc main_arg4))) one48) := by
  unfold iblk; rw [entry_3]

theorem iblk_4 : iblk m c 4 t
    = ((cfg0.win 4).blk t).view.read (Elt Ideal) (table (Host.negf (angles (m ((c : Thread nD τ).loc main_arg5)))) zero8 zero48) := by
  unfold iblk; rw [entry_4]

theorem iblk_5 : iblk m c 5 t
    = ((cfg0.win 5).blk t).view.read (Elt Ideal) (table zero8 (angles (m ((c : Thread nD τ).loc main_arg5))) zero48) := by
  unfold iblk; rw [entry_5]

theorem iblk_6 : iblk m c 6 t = ((cfg0.win 6).blk t).view.read (Elt Ideal) member := by
  unfold iblk; rw [entry_6]

theorem iblk_7 : iblk m c 7 t = ((cfg0.win 7).blk t).view.read (Elt Ideal) memberTwice := by
  unfold iblk; rw [entry_7]

/-- Every grid point writes its block back. -/
theorem flush_8 : ∀ t : Fin cfg0.N, (cfg0.win 8).flush t = true := (by decide +kernel : ∀ t : Fin grid0.N, win0_8.flush t = true)

/-- Row `r` of grid point `t`'s block of rows, in the whole array. -/
theorem row_lt (r : Fin 1024) : 1024 * (t.val / 3) + (r : ℕ) < 32768 := by
  have ht : t.val < 96 := t.isLt
  omega

/-- The batch and the position of row `r` of grid point `t`. -/
def batch (r : Fin 1024) : Fin 16 := ⟨(1024 * (t.val / 3) + r) / 2048, by have := row_lt t r; omega⟩
@[inherit_doc batch] def pos (r : Fin 1024) : Fin 2048 := ⟨(1024 * (t.val / 3) + r) % 2048, by omega⟩

theorem row_eq (r : Fin 1024) : ((⟨1024 * (t.val / 3) + r, row_lt t r⟩ : Fin 32768) : ℕ) = 2048 * batch t r + pos t r := by
  simp only [batch, pos]; omega

/-- A grid point's projected rows. -/
theorem pay_at (r n : Fin 1024) :
    (k0_pay1 (F := Ideal) (iblk m c 0 t) (iblk m c 1 t) (ix2 r n) : EReal)
      = proj (m ((c : Thread nD τ).loc main_arg0)) (m ((c : Thread nD τ).loc main_arg1)) (batch t r) (pos t r) ⟨1024 * (t.val % 3) + n, by omega⟩ := by
  refine (pay1_at _ _ r n).trans (Finset.sum_congr rfl fun l _ => congrArg₂ (· * ·) ?_ ?_)
  · rw [iblk_0]; exact (read_0 c t _ r l _ rfl).trans (rows_at _ _ _ l _ (row_eq t r))
  · rw [iblk_1]; exact (read_1 c t _ l n ⟨1024 * (t.val % 3) + n, by omega⟩ rfl).trans (columns_at _ l _)

/-- A grid point's stored block of the queries or the keys. -/
theorem point_A (h0 : ¬cond0_0 (grid0.coords t)) (h1 : cond0_1 (grid0.coords t)) (hk : t.val % 3 < 2) (r n : Fin 1024) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t)
        (ms0_6 t) (hs0_6 t) (ms0_7 t) (hs0_7 t) (ms0_8 t) (hs0_8 t) h0 h1 (iblk m c 0 t) (iblk m c 1 t) (iblk m c 2 t) (iblk m c 3 t) (iblk m c 4 t)
        (iblk m c 5 t) (iblk m c 6 t) (iblk m c 7 t) (ix2 r n)
      = turnedAt (m ((c : Thread nD τ).loc main_arg0)) (m ((c : Thread nD τ).loc main_arg1))
          (if t.val % 3 = 0 then m ((c : Thread nD τ).loc main_arg2) else m ((c : Thread nD τ).loc main_arg3)) (m ((c : Thread nD τ).loc main_arg4))
          (m ((c : Thread nD τ).loc main_arg5)) (batch t r) (pos t r) ⟨1024 * (t.val % 3) + n, by omega⟩ := by
  refine (block_A c _ _ _ _ _ _ _ _ _ _ _ _ _ _ _ _ _ _ _ _ _ _ _ _ _ _ _ h0 h1
    (fun d => (if t.val % 3 = 0 then (m ((c : Thread nD τ).loc main_arg2) : FVec Ideal S64 .f32) else m ((c : Thread nD τ).loc main_arg3)) (ix1 d))
    (fun r l => (m ((c : Thread nD τ).loc main_arg4) : FVec Ideal S16x2048x8 .f32) (ix3 (batch t r) (pos t r) l))
    (fun r l => (m ((c : Thread nD τ).loc main_arg5) : FVec Ideal S16x2048x8 .f32) (ix3 (batch t r) (pos t r) l)) ?_ ?_ ?_ ?_ ?_ ?_ (ix2 r n)).trans ?_
  · intro l; rw [iblk_2]; exact (read_2 c t _ l ⟨t.val % 3, by omega⟩ rfl).trans (norms_at _ _ _ hk l)
  · intro r l; rw [iblk_3]; exact (read_3 c t _ r l _ rfl).trans (table_cos _ _ _ _ (row_eq t r) l)
  · intro r l; rw [iblk_4]; exact (read_4 c t _ r l _ rfl).trans (table_low _ _ _ _ (row_eq t r) l)
  · intro r l; rw [iblk_5]; exact (read_5 c t _ r l _ rfl).trans (table_high _ _ _ _ (row_eq t r) l)
  · intro n q; rw [iblk_6]; exact (read_6 c t _ n q).trans (member_at n q)
  · intro k l; rw [iblk_7]; exact (read_7 c t _ k l).trans (memberTwice_at k l)
  have e : ∀ d : Fin 64, 1024 * (t.val % 3) + (64 * ((n : ℕ) / 64) + d) = 64 * ((1024 * (t.val % 3) + n) / 64) + d := fun d => by omega
  have e' : (1024 * (t.val % 3) + (n : ℕ)) % 64 = (n : ℕ) % 64 := by omega
  unfold turnedAt prepped
  simp only [e']
  refine congrArg (fun x => turn (unit x _) _ _ _) (funext fun d => (pay_at m c t r _).trans (congrArg _ (Fin.ext (e d))))

section Final
variable (b : Fin 16) (i : Fin 2048) (n : Fin 3072) (R : Fin 32768) (hR : (R : ℕ) = 2048 * b + i)
include hR

/-- The kernel's result, at an entry. -/
theorem result_at : ((dats m 0 c).arrAt 8 cfg0.N : FVec Ideal S32768x3072 .bf16) (ix2 R n)
    = if (n : ℕ) < 2048 then
        turnedAt (m ((c : Thread nD τ).loc main_arg0)) (m ((c : Thread nD τ).loc main_arg1))
          (if (n : ℕ) < 1024 then m ((c : Thread nD τ).loc main_arg2) else m ((c : Thread nD τ).loc main_arg3)) (m ((c : Thread nD τ).loc main_arg4))
          (m ((c : Thread nD τ).loc main_arg5)) b i n
      else proj (m ((c : Thread nD τ).loc main_arg0)) (m ((c : Thread nD τ).loc main_arg1)) b i n := by
  obtain ⟨t, ht⟩ : ∃ t : Fin cfg0.N, t.val = 3 * ((R : ℕ) / 1024) + (n : ℕ) / 1024 :=
    ⟨⟨3 * ((R : ℕ) / 1024) + (n : ℕ) / 1024, by show _ < 96; omega⟩, rfl⟩
  obtain ⟨r, hr⟩ : ∃ r : Fin 1024, (R : ℕ) = 1024 * (t.val / 3) + r := ⟨⟨(R : ℕ) % 1024, by omega⟩, by simp only; omega⟩
  obtain ⟨k, hk⟩ : ∃ k : Fin 1024, (n : ℕ) = 1024 * (t.val % 3) + k := ⟨⟨(n : ℕ) % 1024, by omega⟩, by simp only; omega⟩
  have eb : batch t r = b := Fin.ext (by simp only [batch]; omega)
  have ei : pos t r = i := Fin.ext (by simp only [pos]; omega)
  have en : (⟨1024 * (t.val % 3) + k, by omega⟩ : Fin 3072) = n := Fin.ext hk.symm
  refine (read_8 c t ((dats m 0 c).arrAt 8 cfg0.N) r k R n hr hk).symm.trans ?_
  rw [Value.blocks8 m c t (flush_8 t)]
  by_cases h : (n : ℕ) < 2048
  · rw [if_pos h, Value.flushed8_A m c t (by omega) (by omega)]
    refine (point_A m c t _ _ (by omega) r k).trans ?_
    rw [eb, ei, en]
    by_cases h' : (n : ℕ) < 1024
    · rw [if_pos h', if_pos (by omega)]
    · rw [if_neg h', if_neg (by omega)]
  · rw [if_neg h, Value.flushed8_B m c t (by omega) (by omega)]
    refine (block_B c _ _ _ _ _ _ _ _ _ _ _ _ _ _ _ _ _ _ _ _ _ _ _ _ _ _ _ _ _ (ix2 r k)).trans ((pay_at m c t r k).trans ?_)
    rw [eb, ei, en]

end Final

end Result

end Cert.Prep

end
-- ==== Proof.Prep.RefValue.lean ====
/-
  The reference of the differential layer's preparation, operation by operation: the projection, the norm over a sub-head, the turn, each read
  at an entry; composed, they are Proof/Prep/Point.lean `turnedAt` and `proj`.
-/
module

public import proofs.«01_k».proof.Proof.Gen.Reference5Ideal.Run
public import proofs.«01_k».proof.Proof.Prep.Point

@[expose] public section

set_option maxRecDepth 16384

noncomputable section

namespace Cert.Prep.Ref

open Cert.Reference5Ideal Cert.Reference5Ideal.Gen Cert.Reference5Ideal.Value Idealize.ShloMosaic Idealize.ShloMosaic.TcCoe Idealize.SL.Sem Idealize.ShloMosaic.StableHlo

/-- The projected queries, keys and values. -/
def projected (h : FVec Ideal S16x2048x2048 .f32) (w : FVec Ideal S2048x8256 .f32) : FVec Ideal S16x2048x3072 .f32 :=
  extractStridedSlice S16x2048x3072 ![0, 0, 1088] (Host.dotGeneral dot_S16x2048x2048_S2048x8256_S16x2048x8256_2_0_01_1_n_n none h w) slices_S16x2048x8256_S16x2048x3072_0_0_1088

/-- The queries, by sub-head; below the keys, and the values' columns. -/
def queries (p : FVec Ideal S16x2048x3072 .f32) : FVec Ideal S16x2048x16x64 .f32 :=
  shapeCast _ (extractStridedSlice S16x2048x1024 ![0, 0, 0] p slices_S16x2048x3072_S16x2048x1024_0_0_0) shapeCasts_S16x2048x1024_S16x2048x16x64
@[inherit_doc queries] def keys (p : FVec Ideal S16x2048x3072 .f32) : FVec Ideal S16x2048x16x64 .f32 :=
  shapeCast _ (extractStridedSlice S16x2048x1024 ![0, 0, 1024] p slices_S16x2048x3072_S16x2048x1024_0_0_1024) shapeCasts_S16x2048x1024_S16x2048x16x64
@[inherit_doc queries] def values (p : FVec Ideal S16x2048x3072 .f32) : FVec Ideal S16x2048x1024 .f32 :=
  extractStridedSlice S16x2048x1024 ![0, 0, 2048] p slices_S16x2048x3072_S16x2048x1024_0_0_2048

/-- A sub-head over the root of its mean square, times the weights. -/
def normed (x : FVec Ideal S16x2048x16x64 .f32) (g : FVec Ideal S64 .f32) : FVec Ideal S16x2048x16x64 .f32 :=
  mulf (mulf x (broadcastInDim S16x2048x16x64 ![0, 1, 2, 3] bcast_S16x2048x16x1_S16x2048x16x64_0_1_2_3 (Host.rsqrt (addf (Host.divf (broadcastInDim S16x2048x16x1 ![0, 1, 2] bcast_S16x2048x16_S16x2048x16x1_0_1_2 (Host.reduceAdd (mulf x x) (constant S_ .f32 0x00000000#32) reducesTo_S16x2048x16x64_S16x2048x16_d3 h_S_)) (broadcastInDim S16x2048x16x1 ![] bcast_S_S16x2048x16x1 (constant S_ .f32 0x42800000#32))) (broadcastInDim S16x2048x16x1 ![] bcast_S_S16x2048x16x1 (constant S_ .f32 0x358637BD#32))))))
    (broadcastInDim S16x2048x16x64 ![0, 1, 2, 3] bcast_S1x1x1x64_S16x2048x16x64_0_1_2_3 (broadcastInDim S1x1x1x64 ![3] bcast_S64_S1x1x1x64_3 g))

/-- The positions' cosines or sines, for every sub-head. -/
def spread (x : FVec Ideal S16x2048x8 .f32) : FVec Ideal S16x2048x16x8 .f32 :=
  broadcastInDim S16x2048x16x8 ![0, 1, 2, 3] bcast_S16x2048x1x8_S16x2048x16x8_0_1_2_3 (broadcastInDim S16x2048x1x8 ![0, 1, 3] bcast_S16x2048x8_S16x2048x1x8_0_1_3 x)

/-- A sub-head's first eight lanes, and its next eight. -/
def first (y : FVec Ideal S16x2048x16x64 .f32) : FVec Ideal S16x2048x16x8 .f32 :=
  extractStridedSlice S16x2048x16x8 ![0, 0, 0, 0] (extractStridedSlice S16x2048x16x16 ![0, 0, 0, 0] y slices_S16x2048x16x64_S16x2048x16x16_0_0_0_0) slices_S16x2048x16x16_S16x2048x16x8_0_0_0_0
@[inherit_doc first] def second (y : FVec Ideal S16x2048x16x64 .f32) : FVec Ideal S16x2048x16x8 .f32 :=
  extractStridedSlice S16x2048x16x8 ![0, 0, 0, 8] (extractStridedSlice S16x2048x16x16 ![0, 0, 0, 0] y slices_S16x2048x16x64_S16x2048x16x16_0_0_0_0) slices_S16x2048x16x16_S16x2048x16x8_0_0_0_8

/-- The sub-heads, turned. -/
def turnedAll (y : FVec Ideal S16x2048x16x64 .f32) (cs sn : FVec Ideal S16x2048x16x8 .f32) : FVec Ideal S32768x1024 .f32 :=
  shapeCast _ (concatenate S16x2048x16x64 3 [⟨S16x2048x16x16, concatenate S16x2048x16x16 3 [⟨S16x2048x16x8, subf (mulf (first y) cs) (mulf (second y) sn)⟩,
      ⟨S16x2048x16x8, addf (mulf (first y) sn) (mulf (second y) cs)⟩] concatenates_S16x2048x16x8_S16x2048x16x8_S16x2048x16x16_d3⟩,
    ⟨S16x2048x16x48, extractStridedSlice S16x2048x16x48 ![0, 0, 0, 16] y slices_S16x2048x16x64_S16x2048x16x48_0_0_0_16⟩]
    concatenates_S16x2048x16x16_S16x2048x16x48_S16x2048x16x64_d3) shapeCasts_S16x2048x16x64_S32768x1024

/-- The three side by side. -/
def packed (q k v : FVec Ideal S32768x1024 .f32) : FVec Ideal S32768x3072 .bf16 :=
  truncf .bf16 (concatenate S32768x3072 1 [⟨S32768x1024, q⟩, ⟨S32768x1024, k⟩, ⟨S32768x1024, v⟩]
    concatenates_S32768x1024_S32768x1024_S32768x1024_S32768x3072_d1) bitsLt_bf16_f32

/-- The reference's result. -/
def composed (h : FVec Ideal S16x2048x2048 .f32) (w : FVec Ideal S2048x8256 .f32) (gq gk : FVec Ideal S64 .f32) (cs sn : FVec Ideal S16x2048x8 .f32) :
    FVec Ideal S32768x3072 .bf16 :=
  packed (turnedAll (normed (queries (projected h w)) gq) (spread cs) (spread sn)) (turnedAll (normed (keys (projected h w)) gk) (spread cs) (spread sn))
    (shapeCast _ (values (projected h w)) shapeCasts_S16x2048x1024_S32768x1024)

theorem projected_at (h : FVec Ideal S16x2048x2048 .f32) (w : FVec Ideal S2048x8256 .f32) (b : Fin 16) (i : Fin 2048) (n : Fin 3072) :
    projected h w (ix3 b i n) = proj h w b i n := by
  pointwise [projected]
  rfl

theorem queries_at (p : FVec Ideal S16x2048x3072 .f32) (b : Fin 16) (i : Fin 2048) (q : Fin 16) (d : Fin 64) :
    queries p (ix4 b i q d) = p (ix3 b i ⟨64 * q + d, by omega⟩) := by
  pointwise [queries]
  simp only [Nat.mul_comm 64]

theorem keys_at (p : FVec Ideal S16x2048x3072 .f32) (b : Fin 16) (i : Fin 2048) (q : Fin 16) (d : Fin 64) :
    keys p (ix4 b i q d) = p (ix3 b i ⟨1024 + (64 * q + d), by omega⟩) := by
  pointwise [keys]
  simp only [Nat.mul_comm 64]

theorem values_at (p : FVec Ideal S16x2048x3072 .f32) (b : Fin 16) (i : Fin 2048) (n : Fin 1024) (R : Fin 32768) (hR : (R : ℕ) = 2048 * b + i) :
    (shapeCast _ (values p) shapeCasts_S16x2048x1024_S32768x1024 : FVec Ideal S32768x1024 .f32) (ix2 R n) = p (ix3 b i ⟨2048 + n, by omega⟩) := by
  rw [show R = (⟨2048 * b + i, by omega⟩ : Fin 32768) from Fin.ext hR]
  pointwise [values]

theorem normed_at (x : FVec Ideal S16x2048x16x64 .f32) (g : FVec Ideal S64 .f32) (b : Fin 16) (i : Fin 2048) (q : Fin 16) (d : Fin 64) :
    normed x g (ix4 b i q d) = unit (fun e => x (ix4 b i q e)) (fun e => g (ix1 e)) d := by
  pointwise [normed]
  rfl

theorem spread_at (x : FVec Ideal S16x2048x8 .f32) (b : Fin 16) (i : Fin 2048) (q : Fin 16) (r : Fin 8) : spread x (ix4 b i q r) = x (ix3 b i r) := by
  pointwise [spread]

theorem turnedAll_at (y : FVec Ideal S16x2048x16x64 .f32) (cs sn : FVec Ideal S16x2048x16x8 .f32) (b : Fin 16) (i : Fin 2048) (q : Fin 16) (d : Fin 64)
    (R : Fin 32768) (hR : (R : ℕ) = 2048 * b + i) :
    turnedAll y cs sn (ix2 R ⟨64 * q + d, by omega⟩)
      = turn (fun e => y (ix4 b i q e)) (fun r => cs (ix4 b i q r)) (fun r => sn (ix4 b i q r)) d := by
  rw [show R = (⟨2048 * b + i, by omega⟩ : Fin 32768) from Fin.ext hR]
  unfold turn
  pointwise [turnedAll, first, second]
  by_cases h : (d : ℕ) < 8
  · rw [dif_pos (by omega), dif_pos h, dif_pos h]
    simp only [Nat.add_comm 8]
  · by_cases h' : (d : ℕ) < 16
    · have e : (⟨8 + ((d : ℕ) - 8), by omega⟩ : Fin 64) = d := Fin.ext (by simp only; omega)
      rw [dif_pos h', dif_neg h, dif_neg h, dif_pos h', e]
    · have e : (⟨16 + ((d : ℕ) - 16), by omega⟩ : Fin 64) = d := Fin.ext (by simp only; omega)
      rw [dif_neg h', dif_neg h, dif_neg h', e]

theorem packed_at (q k v : FVec Ideal S32768x1024 .f32) (R : Fin 32768) (n : Fin 3072) :
    packed q k v (ix2 R n)
      = if h : (n : ℕ) < 1024 then q (ix2 R ⟨n, h⟩) else if h' : (n : ℕ) - 1024 < 1024 then k (ix2 R ⟨n - 1024, h'⟩)
        else v (ix2 R ⟨n - 1024 - 1024, by omega⟩) := by
  pointwise [packed]

/-- The reference's result, at an entry. -/
theorem composed_at (h : FVec Ideal S16x2048x2048 .f32) (w : FVec Ideal S2048x8256 .f32) (gq gk : FVec Ideal S64 .f32) (cs sn : FVec Ideal S16x2048x8 .f32)
    (b : Fin 16) (i : Fin 2048) (n : Fin 3072) (R : Fin 32768) (hR : (R : ℕ) = 2048 * b + i) :
    composed h w gq gk cs sn (ix2 R n)
      = if (n : ℕ) < 2048 then turnedAt h w (if (n : ℕ) < 1024 then gq else gk) cs sn b i n else proj h w b i n := by
  unfold composed
  rw [packed_at]
  by_cases h0 : (n : ℕ) < 1024
  · have en : (⟨n, h0⟩ : Fin 1024) = ⟨64 * ((⟨(n : ℕ) / 64, by omega⟩ : Fin 16) : ℕ) + ((⟨(n : ℕ) % 64, by omega⟩ : Fin 64) : ℕ), by simp only; omega⟩ :=
      Fin.ext (by simp only; omega)
    rw [dif_pos h0, if_pos (by omega), if_pos h0, en, turnedAll_at _ _ _ b i _ _ R hR]
    simp only [normed_at, queries_at, projected_at, spread_at]
    rfl
  · by_cases h1 : (n : ℕ) < 2048
    · have en : (⟨n - 1024, by omega⟩ : Fin 1024)
          = ⟨64 * ((⟨((n : ℕ) - 1024) / 64, by omega⟩ : Fin 16) : ℕ) + ((⟨(n : ℕ) % 64, by omega⟩ : Fin 64) : ℕ), by simp only; omega⟩ :=
        Fin.ext (by simp only; omega)
      rw [dif_neg h0, dif_pos (by omega), if_pos h1, if_neg h0, en, turnedAll_at _ _ _ b i _ _ R hR]
      simp only [normed_at, keys_at, projected_at, spread_at]
      have ee : ∀ e : Fin 64, 1024 + (64 * (((n : ℕ) - 1024) / 64) + (e : ℕ)) = 64 * ((n : ℕ) / 64) + e := fun e => by omega
      simp only [ee]
      rfl
    · rw [dif_neg h0, dif_neg (by omega), if_neg h1, values_at _ b i _ R hR, projected_at]
      exact congrArg (proj h w b i) (Fin.ext (by simp only; omega))

/-- The generated result is the composed one. -/
theorem res_eq (m : (ℓ : Loc nD τ sig) → Buf (Elt Ideal) ℓ) (c : Dev nD) :
    res_out0 m c = composed (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

end Cert.Prep.Ref

end
-- ==== Proof.Prep.Claims.lean ====
/-
  The claims about the differential layer's preparation: the frames, and the equality with the reference.
-/
module

public import proofs.«01_k».proof.Defs
public import proofs.«01_k».proof.Proof.Gen.Kernel5.Frame
public import proofs.«01_k».proof.Proof.Prep.RefValue
public import Idealize.ShloMosaic.Lib.Quiescent

@[expose] public section

noncomputable section

namespace Cert.Prep.Claims

open Idealize.ShloMosaic Idealize.ShloMosaic.TcCoe Idealize.SL.Sem

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem preserves : Cert.preserves_Kernel5_Kernel5Ideal := trivial

/-- Two arrays that agree at every batch, position and column are equal. -/
theorem ext_rows {φ : FTy} {x y : FVec Ideal ⟨2, ![32768, 3072]⟩ φ}
    (h : ∀ (b : Fin 16) (i : Fin 2048) (n : Fin 3072) (R : Fin 32768), (R : ℕ) = 2048 * b + i → x (ix2 R n) = y (ix2 R n)) : x = y := by
  funext j
  have h0 : (j 0 : ℕ) < 32768 := (j 0).isLt
  rw [eq_ix2 j]
  exact h ⟨(j 0 : ℕ) / 2048, by omega⟩ ⟨(j 0 : ℕ) % 2048, by omega⟩ (j 1) (j 0) (by simp only; omega)

theorem algebraic : Cert.algebraic_Kernel5Ideal_Reference5Ideal := by
  intro m g m' g' _ hagree
  refine ⟨_, Cert.Kernel5Ideal.Value.run_blocks (F := Ideal) m g, ?_⟩
  refine (θ_run Cert.Reference5Ideal.defs _ _).mono (fun _ h c => ⟨(h c).1.trans ?_, (h c).2⟩) (Cert.Reference5Ideal.Value.run (F := Ideal) m' g')
  obtain ⟨e0, e1, e2, e3, e4, e5⟩ := hagree c
  refine (Ref.res_eq m' c).trans ?_
  rw [e0, e1, e2, e3, e4, e5]
  refine ext_rows fun b i n R hR => ?_
  exact (Ref.composed_at _ _ _ _ _ _ b i n R hR).trans (result_at m c b i n R hR).symm

end Cert.Prep.Claims

end
-- ==== Proof.Lat.Rows.lean ====
/-
  The arithmetic of the latent attention's preparation: a head of 192 lanes over the root of its mean square, its last 64 turned by the
  position's angles, and the same on the kernel's 128 and 128 lanes, where the turn is two rolls and two tables and the scale comes after it.
-/
module

public import proofs.«01_k».proof.Proof.Prep.Rows
public import proofs.«01_k».proof.Proof.Rows

@[expose] public section

set_option maxRecDepth 16384

noncomputable section

namespace Cert.Lat

open Idealize.ShloMosaic Idealize.ShloMosaic.TcCoe
open Cert.Prep (tiny tiny_pos sq_nonneg)

/-- One over the root of the mean of 192 squares whose sum is `q`. -/
def scale (q : EReal) : EReal := Ideal.rsqrt (Ideal.div q (Ideal.ofBits .f32 0x43400000#32) + tiny)

/-- A row of 512 over the root of its mean square, times its weights. -/
def latent (x w : Fin 512 → EReal) (n : Fin 512) : EReal :=
  x n * Ideal.rsqrt (Ideal.div (∑ l, x l * x l) (Ideal.ofBits .f32 0x44000000#32) + tiny) * w n

/-- A head over the root of its mean square, times its weights. -/
def unit (x g : Fin 192 → EReal) (d : Fin 192) : EReal := x d * scale (∑ e, x e * x e) * g d

/-- A head's lanes `128..159` and `160..191` turned against each other, the lanes before left, zeros after. -/
def turn (y : Fin 192 → EReal) (c s : Fin 32 → EReal) (l : Fin 256) : EReal :=
  if h : (l : ℕ) < 128 then y ⟨l, by omega⟩
  else if h1 : (l : ℕ) < 160 then y ⟨l, by omega⟩ * c ⟨l - 128, by omega⟩ - y ⟨l + 32, by omega⟩ * s ⟨l - 128, by omega⟩
  else if h2 : (l : ℕ) < 192 then y ⟨l - 32, by omega⟩ * s ⟨l - 160, by omega⟩ + y ⟨l, h2⟩ * c ⟨l - 160, by omega⟩
  else 0

/-- What the queries are divided by. -/
abbrev temper : EReal := Ideal.sqrt (Ideal.ofBits .f32 0x43400000#32) * Ideal.log (Ideal.ofBits .f32 0x40000000#32)

/-- The head's first 128 lanes, its last 64 padded to 128, and its weights padded to 256. -/
def front (x : Fin 192 → EReal) (l : Fin 128) : EReal := x ⟨l, by omega⟩
@[inherit_doc front] def back (x : Fin 192 → EReal) (l : Fin 128) : EReal := if h : (l : ℕ) < 64 then x ⟨128 + l, by omega⟩ else 0
@[inherit_doc front] def padded (g : Fin 192 → EReal) (l : Fin 256) : EReal := if h : (l : ℕ) < 192 then g ⟨l, h⟩ else 0

/-- The table the lane itself is multiplied by, and the one its two neighbours are. -/
def cosLane (c : Fin 32 → EReal) (l : Fin 128) : EReal :=
  if h : (l : ℕ) < 32 then c ⟨l, h⟩ else if h' : (l : ℕ) < 64 then c ⟨l - 32, by omega⟩ else 0
@[inherit_doc cosLane] def sinLane (s : Fin 32 → EReal) (l : Fin 128) : EReal :=
  if h : (l : ℕ) < 32 then -s ⟨l, h⟩ else if h' : (l : ℕ) < 64 then s ⟨l - 32, by omega⟩ else 0

/-- The kernel's turn: the lane times its table, and the two rolls' sum times the other. -/
def rolled (r : Fin 128 → EReal) (g : Fin 256 → EReal) (C S : Fin 128 → EReal) (l : Fin 128) : EReal :=
  r l * g ⟨128 + l, by omega⟩ * C l
    + (r ⟨((l : ℕ) + 128 - 96) % 128, by omega⟩ * g ⟨128 + ((l : ℕ) + 128 - 96) % 128, by omega⟩
      + r ⟨((l : ℕ) + 128 - 32) % 128, by omega⟩ * g ⟨128 + ((l : ℕ) + 128 - 32) % 128, by omega⟩) * S l

theorem back_lt (x : Fin 192 → EReal) (n : ℕ) (h : n < 128) (h' : n < 64) : back x ⟨n, h⟩ = x ⟨128 + n, by omega⟩ := dif_pos h'
theorem back_ge (x : Fin 192 → EReal) (n : ℕ) (h : n < 128) (h' : ¬n < 64) : back x ⟨n, h⟩ = 0 := dif_neg h'
theorem padded_lt (g : Fin 192 → EReal) (n : ℕ) (h : n < 256) (h' : n < 192) : padded g ⟨n, h⟩ = g ⟨n, h'⟩ := dif_pos h'

theorem swap (x g c k : EReal) : x * g * c * k = x * k * g * c := by ac_rfl

/-- A nonnegative real scale goes into the kernel's turn, which becomes the head's. -/
theorem rolled_scale (x g : Fin 192 → EReal) (c s : Fin 32 → EReal) (k : ℝ) (hk : 0 ≤ k) (l : Fin 128) :
    rolled (back x) (padded g) (cosLane c) (sinLane s) l * (k : EReal) = turn (fun d => x d * k * g d) c s ⟨128 + l, by omega⟩ := by
  have hl : (l : ℕ) < 128 := l.isLt
  have hk0 : (0 : EReal) ≤ k := by exact_mod_cast hk
  unfold rolled turn
  rw [EReal.right_distrib_of_nonneg_of_ne_top hk0 (EReal.coe_ne_top k)]
  by_cases h : (l : ℕ) < 32
  · have e0 : back x l = x ⟨128 + l, by omega⟩ := dif_pos (by omega)
    have e1 : back x ⟨((l : ℕ) + 128 - 96) % 128, by omega⟩ = x ⟨128 + l + 32, by omega⟩ := by
      rw [back_lt _ _ _ (by omega)]; exact congrArg x (Fin.ext (by simp only; omega))
    have e2 : padded g ⟨128 + ((l : ℕ) + 128 - 96) % 128, by omega⟩ = g ⟨128 + l + 32, by omega⟩ := by
      rw [padded_lt _ _ _ (by omega)]; exact congrArg g (Fin.ext (by simp only; omega))
    have e3 : (⟨128 + (l : ℕ) - 128, by omega⟩ : Fin 32) = ⟨l, h⟩ := Fin.ext (by simp only; omega)
    rw [dif_neg (by simp only; omega), dif_pos (by simp only; omega), e0, padded_lt _ _ _ (by omega), e1, e2,
      back_ge _ _ _ (by omega), zero_mul, add_zero, cosLane, dif_pos h, sinLane, dif_pos h, sub_eq_add_neg, mul_neg, EReal.neg_mul, e3]
    exact congrArg₂ (· + ·) (swap _ _ _ _) (congrArg Neg.neg (swap _ _ _ _))
  · by_cases h' : (l : ℕ) < 64
    · have e0 : back x l = x ⟨128 + l, by omega⟩ := dif_pos h'
      have e1 : back x ⟨((l : ℕ) + 128 - 32) % 128, by omega⟩ = x ⟨128 + l - 32, by omega⟩ := by
        rw [back_lt _ _ _ (by omega)]; exact congrArg x (Fin.ext (by simp only; omega))
      have e2 : padded g ⟨128 + ((l : ℕ) + 128 - 32) % 128, by omega⟩ = g ⟨128 + l - 32, by omega⟩ := by
        rw [padded_lt _ _ _ (by omega)]; exact congrArg g (Fin.ext (by simp only; omega))
      have e3 : (⟨128 + (l : ℕ) - 160, by omega⟩ : Fin 32) = ⟨l - 32, by omega⟩ := Fin.ext (by simp only; omega)
      rw [dif_neg (by simp only; omega), dif_neg (by simp only; omega), dif_pos (by simp only; omega), e0,
        padded_lt _ _ _ (by omega), e1, e2, back_ge _ _ _ (by omega), zero_mul, zero_add, cosLane, dif_neg h, dif_pos h', sinLane, dif_neg h,
        dif_pos h', e3, add_comm]
      exact congrArg₂ (· + ·) (swap _ _ _ _) (swap _ _ _ _)
    · have e0 : back x l = 0 := dif_neg h'
      rw [dif_neg (by simp only; omega), dif_neg (by simp only; omega), dif_neg (by simp only; omega), e0, cosLane,
        dif_neg h, dif_neg h', sinLane, dif_neg h, dif_neg h']
      simp

theorem sum_back (x : Fin 192 → EReal) : ∑ l, back x l * back x l = ∑ d : Fin 64, x ⟨128 + d, by omega⟩ * x ⟨128 + d, by omega⟩ := by
  refine Cert.Softmax.sum_pad (by omega) _ _ fun l => ?_
  unfold back
  by_cases h : (l : ℕ) < 64
  · rw [dif_pos h, dif_pos h]
  · rw [dif_neg h, dif_neg h, zero_mul]

/-- The two sums of squares together are the head's. -/
theorem sum_split (x : Fin 192 → EReal) : ∑ l, front x l * front x l + ∑ l, back x l * back x l = ∑ e, x e * x e := by
  rw [sum_back]
  exact (Fin.sum_univ_add (a := 128) (b := 64) fun e : Fin 192 => x e * x e).symm

theorem sum_joint (x : Fin 192 → EReal) : ∑ l, (front x l * front x l + back x l * back x l) = ∑ e, x e * x e := by
  rw [Finset.sum_add_distrib, sum_split]

theorem lit192 : Ideal.ofBits .f32 0x43400000#32 = ((192 : ℝ) : EReal) := by
  simp [Ideal.ofBits, Ideal.ieee, ← EReal.coe_mul]; norm_num

theorem scale_def (q : EReal) : Ideal.rsqrt (q * ((1 / 192 : ℝ) : EReal) + tiny) = scale q := by
  rw [scale, lit192, Ideal.div_coe (y := 192) (by norm_num)]

/-- The scale of a sum of squares is a nonnegative real number. -/
theorem scale_real {ι : Type*} [Fintype ι] (x : ι → EReal) : ∃ r : ℝ, 0 ≤ r ∧ scale (∑ e, x e * x e) = r := by
  obtain ⟨e, he, hE⟩ := tiny_pos
  have h0 : 0 ≤ ∑ e, x e * x e := Finset.sum_nonneg fun e _ => sq_nonneg (x e)
  rw [scale, lit192, Ideal.div_coe (y := 192) (by norm_num), hE]
  generalize (∑ e, x e * x e) = q at h0
  induction q with
  | bot => simp at h0
  | top =>
    rw [EReal.top_mul_coe_of_pos (by norm_num), EReal.top_add_coe]
    exact ⟨0, le_refl 0, rfl⟩
  | coe q =>
    have hq : 0 ≤ q := by exact_mod_cast h0
    have hp : 0 < q * (1 / 192) + e := by positivity
    rw [← EReal.coe_mul, ← EReal.coe_add]
    exact ⟨(Real.sqrt (q * (1 / 192) + e))⁻¹, by positivity, (if_neg hp.le.not_gt).trans (if_neg hp.ne')⟩

theorem temper_div (x : EReal) : Ideal.div x temper = x * (((Real.sqrt 192 * Real.log 2)⁻¹ : ℝ) : EReal) := by
  have h : Real.sqrt 192 * Real.log 2 ≠ 0 := mul_ne_zero Cert.Softmax.sqrt192_ne (Real.log_pos (by norm_num)).ne'
  rw [temper, Cert.Softmax.sqrt192, Cert.Softmax.log2_lit, ← EReal.coe_mul, Ideal.div_coe h, one_div]

theorem turn_front (y : Fin 192 → EReal) (c s : Fin 32 → EReal) (l : Fin 128) : turn y c s ⟨l, by omega⟩ = front y l := dif_pos l.isLt

/-- The kernel's front lanes of a head, over the scale. -/
theorem front_eq (x g : Fin 192 → EReal) (c s : Fin 32 → EReal) (l : Fin 128) :
    front x l * scale (∑ e, x e * x e) * padded g ⟨l, by omega⟩ = turn (unit x g) c s ⟨l, by omega⟩ := by
  rw [turn_front, padded_lt _ _ _ (by omega)]
  rfl

/-- The kernel's back lanes of a head, over the scale. -/
theorem back_eq (x g : Fin 192 → EReal) (c s : Fin 32 → EReal) (l : Fin 128) :
    rolled (back x) (padded g) (cosLane c) (sinLane s) l * scale (∑ e, x e * x e) = turn (unit x g) c s ⟨128 + l, by omega⟩ := by
  obtain ⟨k, hk, e⟩ := scale_real x
  unfold unit
  rw [e, rolled_scale x g c s k hk]

/-- The same with the temperature under the scale. -/
theorem front_temper (x g : Fin 192 → EReal) (c s : Fin 32 → EReal) (l : Fin 128) :
    front x l * (scale (∑ e, x e * x e) * (((Real.sqrt 192 * Real.log 2)⁻¹ : ℝ) : EReal)) * padded g ⟨l, by omega⟩
      = Ideal.div (turn (unit x g) c s ⟨l, by omega⟩) temper := by
  rw [temper_div, ← front_eq]
  ac_rfl

@[inherit_doc front_temper]
theorem back_temper (x g : Fin 192 → EReal) (c s : Fin 32 → EReal) (l : Fin 128) :
    rolled (back x) (padded g) (cosLane c) (sinLane s) l * (scale (∑ e, x e * x e) * (((Real.sqrt 192 * Real.log 2)⁻¹ : ℝ) : EReal))
      = Ideal.div (turn (unit x g) c s ⟨128 + l, by omega⟩) temper := by
  rw [temper_div, ← back_eq, mul_assoc]

end Cert.Lat

end
-- ==== Proof.Lat.Block.lean ====
/-
  What one grid point of the latent attention's preparation stores: the modulated norm of its rows, and of the two latent rows' projections the
  heads of the queries and the keys, each over the root of its mean square and turned by the position's angles, and the values.
-/
module

public import proofs.«01_k».proof.Proof.Gen.Kernel6Ideal.Value
public import proofs.«01_k».proof.Proof.Outproj.Point
public import proofs.«01_k».proof.Proof.Lat.Rows

@[expose] public section

set_option maxRecDepth 16384

noncomputable section

namespace Cert.Lat

open Cert.Kernel6Ideal Cert.Kernel6Ideal.Gen Idealize.ShloMosaic Idealize.ShloMosaic.TcCoe Idealize.SL.Sem
open Cert.Prep (tiny)
open Cert.Outproj (normed)

/-- The two named values. -/
abbrev mean : EReal := Named.named (F := Ideal) κ "mean" (φ := .f32) 0x3BAAAAAB#32
@[inherit_doc mean] abbrev root : EReal := Named.named (F := Ideal) κ "root" (φ := .f32) 0x3DD53B95#32

theorem mean_val : mean = ((1 / 192 : ℝ) : EReal) := IdealRules.named_const.ideal_named_scalar _ _ _ _ rfl
theorem root_val : root = (((Real.sqrt 192 * Real.log 2)⁻¹ : ℝ) : EReal) := IdealRules.named_const.ideal_named_scalar _ _ _ _ rfl

/-- Lane `l` of head `q`, of 128 lanes each. -/
def col (q : Fin 8) (l : Fin 128) : Fin 1024 := ⟨128 * q + l, by omega⟩

/-- The head a column of the queries or the keys is of, of 256 lanes each, and its lane there. -/
def headOf (n : Fin 2048) : Fin 8 := ⟨(n : ℕ) / 256, by omega⟩
@[inherit_doc headOf] def laneOf (n : Fin 2048) : Fin 256 := ⟨(n : ℕ) % 256, by omega⟩

/-- What column `n` of the keys and of the queries holds, from the row's heads. -/
def key (X : Fin 8 → Fin 192 → EReal) (g : Fin 192 → EReal) (c s : Fin 32 → EReal) (n : Fin 2048) : EReal :=
  turn (unit (X (headOf n)) g) c s (laneOf n)
@[inherit_doc key] def query (X : Fin 8 → Fin 192 → EReal) (g : Fin 192 → EReal) (c s : Fin 32 → EReal) (n : Fin 2048) : EReal :=
  Ideal.div (key X g c s n) temper

/-! ## The payloads -/

theorem normed_pay (x : Vec Ideal S512x2048 .f32) (v : Vec Ideal S1x2048 .f32) (s h : Vec Ideal S1x1x2048 .f32) (r : Fin 512) (n : Fin 2048) :
    k0_pay6 (F := Ideal) x v s h (ix2 r n)
      = normed (fun l => x (ix2 r l)) (fun l => v (ix2 0 l)) (fun l => s (ix3 0 0 l)) (fun l => h (ix3 0 0 l)) n := by
  unfold_payloads
  pointwise
  rfl

theorem latents_pay (x : Vec Ideal S512x2048 .f32) (v : Vec Ideal S1x2048 .f32) (s h : Vec Ideal S1x1x2048 .f32) (w : Vec Ideal S2048x1152 .bf16)
    (r : Fin 512) (n : Fin 1152) : k0_pay7 (F := Ideal) x v s h w (ix2 r n) = ∑ l : Fin 2048, k0_pay6 x v s h (ix2 r l) * w (ix2 l n) := by
  simp only [k0_pay7]
  generalize k0_pay6 (F := Ideal) x v s h = y
  pointwise

/-- Columns `0..511` of a row, and `512..1023`. -/
def lower (L : FVec Ideal S512x1152 .f32) (r : Fin 512) (l : Fin 512) : EReal := L (ix2 r ⟨l, by omega⟩)
@[inherit_doc lower] def upper (L : FVec Ideal S512x1152 .f32) (r : Fin 512) (l : Fin 512) : EReal := L (ix2 r ⟨512 + l, by omega⟩)

section Queries
variable (x : Vec Ideal S512x2048 .f32) (v : Vec Ideal S1x2048 .f32) (s h : Vec Ideal S1x1x2048 .f32) (w : Vec Ideal S2048x1152 .bf16)
  (u : Vec Ideal S1x512 .f32) (z : Vec Ideal S512x1024 .bf16) (r : Fin 512) (n : Fin 1024)

theorem front_pay : k0_pay14 (F := Ideal) (k0_pay8 x v s h w) (k0_pay9 u) (k0_pay10 x v s h w) z (ix2 r n)
    = ∑ l : Fin 512, latent (lower (k0_pay7 x v s h w) r) (fun e => u (ix2 0 e)) l * z (ix2 l n) := by
  simp only [k0_pay14, k0_pay11, k0_pay10, k0_pay9, k0_pay8]
  generalize k0_pay7 (F := Ideal) x v s h w = L
  pointwise
  rfl

theorem back_pay : k0_pay15 (F := Ideal) (k0_pay8 x v s h w) (k0_pay9 u) (k0_pay10 x v s h w) z (ix2 r n)
    = ∑ l : Fin 512, latent (lower (k0_pay7 x v s h w) r) (fun e => u (ix2 0 e)) l * z (ix2 l n) := front_pay x v s h w u z r n

end Queries

section Keys
variable (L : FVec Ideal S512x1152 .f32) (u : Vec Ideal S1x512 .f32) (z : Vec Ideal S512x1024 .bf16) (r : Fin 512) (n : Fin 1024)

theorem key_pay : k0_pay16 (F := Ideal) L u z (ix2 r n) = ∑ l : Fin 512, latent (upper L r) (fun e => u (ix2 0 e)) l * z (ix2 l n) := by
  unfold_payloads
  pointwise
  rfl

theorem value_pay : (k0_pay17 (F := Ideal) L u z (ix2 r n) : EReal) = ∑ l : Fin 512, latent (upper L r) (fun e => u (ix2 0 e)) l * z (ix2 l n) :=
  key_pay L u z r n

theorem shared_pay (l : Fin 128) : k0_pay13 (F := Ideal) L (ix2 r l) = L (ix2 r ⟨1024 + l, by omega⟩) := by
  unfold_payloads
  pointwise

theorem squares_pay (k : FVec Ideal S512x128 .f32) : k0_pay22 (F := Ideal) k (ix2 r 0) = ∑ l : Fin 128, k (ix2 r l) * k (ix2 r l) := by
  unfold_payloads
  pointwise

theorem rolled_pay (k : FVec Ideal S512x128 .f32) (C S : Vec Ideal S512x128 .f32) (G : Vec Ideal S1x256 .f32) (l : Fin 128) :
    k0_pay23 (F := Ideal) k C S G (ix2 r l)
      = rolled (fun e => k (ix2 r e)) (fun e => G (ix2 0 e)) (fun e => C (ix2 r e)) (fun e => S (ix2 r e)) l := by
  unfold_payloads
  pointwise
  rfl

end Keys

/-! ## One head's two column blocks -/

section Head
variable (Q R : FVec Ideal S512x1024 .f32) (C S : Vec Ideal S512x128 .f32) (G : Vec Ideal S1x256 .f32)

/-- A head's scale with the temperature, from its lanes at `n`. -/
def queryScale (n : ℕ) (hn : n + 128 ≤ 1024) (r : Fin 512) : EReal :=
  Ideal.rsqrt ((∑ e : Fin 128, (Q (ix2 r ⟨n + e, by omega⟩) * Q (ix2 r ⟨n + e, by omega⟩) + R (ix2 r ⟨n + e, by omega⟩) * R (ix2 r ⟨n + e, by omega⟩)))
    * mean + tiny) * root

/-- The queries' front lanes, and the back ones. -/
def queryFront (n : ℕ) (hn : n + 128 ≤ 1024) (r : Fin 512) (l : Fin 128) : EReal :=
  Q (ix2 r ⟨n + l, by omega⟩) * queryScale Q R n hn r * G (ix2 0 ⟨l, by omega⟩)
@[inherit_doc queryFront] def queryBack (n : ℕ) (hn : n + 128 ≤ 1024) (r : Fin 512) (l : Fin 128) : EReal :=
  rolled (fun e => R (ix2 r ⟨n + e, by omega⟩)) (fun e => G (ix2 0 e)) (fun e => C (ix2 r e)) (fun e => S (ix2 r e)) l * queryScale Q R n hn r

/-- A head's scale, from its own lanes at `n` and the shared ones' squares. -/
def keyScale (k : FVec Ideal S512x1 .f32) (n : ℕ) (hn : n + 128 ≤ 1024) (r : Fin 512) : EReal :=
  Ideal.rsqrt (((∑ e : Fin 128, Q (ix2 r ⟨n + e, by omega⟩) * Q (ix2 r ⟨n + e, by omega⟩)) + k (ix2 r 0)) * mean + tiny)

variable (X : Fin 512 → Fin 8 → Fin 192 → EReal) (g : Fin 192 → EReal) (c s : Fin 512 → Fin 32 → EReal)

/-- The front and the back columns of head `q`, at an index of the point's whole block. -/
theorem front_columns (f : Fin 512 → Fin 2048 → EReal) (q : ℕ) (hq : q < 8) (u : Fin 512 → Fin 128 → EReal)
    (hu : ∀ (r : Fin 512) (l : Fin 128), u r l = f r ⟨256 * q + l, by omega⟩)
    (p : Vec Ideal S512x128 .bf16) (hp : ∀ (r : Fin 512) (l : Fin 128), p (ix2 r l) = u r l)
    (x : S512x128.Idx) (y : S512x2048.Idx) (t0 : (y 0 : ℕ) = (x 0 : ℕ)) (t1 : (y 1 : ℕ) = 256 * q + (x 1 : ℕ)) : p x = f (y 0) (y 1) := by
  have e0 : y 0 = x 0 := Fin.ext t0
  have e1 : y 1 = (⟨256 * q + (x 1 : ℕ), by have : (x 1 : ℕ) < 128 := (x 1).isLt; omega⟩ : Fin 2048) := Fin.ext t1
  exact (congrArg p (eq_ix2 x)).trans ((hp (x 0) (x 1)).trans ((hu (x 0) (x 1)).trans (congrArg₂ f e0.symm e1.symm)))

@[inherit_doc front_columns]
theorem back_columns (f : Fin 512 → Fin 2048 → EReal) (q : ℕ) (hq : q < 8) (u : Fin 512 → Fin 128 → EReal)
    (hu : ∀ (r : Fin 512) (l : Fin 128), u r l = f r ⟨256 * q + (128 + l), by omega⟩)
    (p : Vec Ideal S512x128 .bf16) (hp : ∀ (r : Fin 512) (l : Fin 128), p (ix2 r l) = u r l)
    (x : S512x128.Idx) (y : S512x2048.Idx) (t0 : (y 0 : ℕ) = (x 0 : ℕ)) (t1 : (y 1 : ℕ) = 256 * q + 128 + (x 1 : ℕ)) : p x = f (y 0) (y 1) := by
  have e0 : y 0 = x 0 := Fin.ext t0
  have e1 : y 1 = (⟨256 * q + (128 + (x 1 : ℕ)), by have : (x 1 : ℕ) < 128 := (x 1).isLt; omega⟩ : Fin 2048) := Fin.ext (by simp only; omega)
  exact (congrArg p (eq_ix2 x)).trans ((hp (x 0) (x 1)).trans ((hu (x 0) (x 1)).trans (congrArg₂ f e0.symm e1.symm)))

theorem key_at (X : Fin 8 → Fin 192 → EReal) (g : Fin 192 → EReal) (c s : Fin 32 → EReal) (q : Fin 8) (l : Fin 256) :
    key X g c s ⟨256 * q + l, by omega⟩ = turn (unit (X q) g) c s l := by
  have e1 : headOf ⟨256 * q + l, by omega⟩ = q := Fin.ext (by simp only [headOf]; omega)
  have e2 : laneOf ⟨256 * q + l, by omega⟩ = l := Fin.ext (by simp only [laneOf]; omega)
  rw [key, e1, e2]

section
variable (hQ : ∀ (r : Fin 512) (q : Fin 8) (l : Fin 128), Q (ix2 r (col q l)) = front (X r q) l)
  (hG : ∀ l : Fin 256, G (ix2 0 l) = padded g l)
include hQ hG

section
variable (hR : ∀ (r : Fin 512) (q : Fin 8) (l : Fin 128), R (ix2 r (col q l)) = back (X r q) l)
include hR
omit hG

theorem queryScale_eq (q : Fin 8) (r : Fin 512) :
    queryScale Q R (128 * q) (by omega) r = scale (∑ e, X r q e * X r q e) * (((Real.sqrt 192 * Real.log 2)⁻¹ : ℝ) : EReal) := by
  unfold queryScale
  rw [mean_val, root_val, scale_def]
  refine congrArg (fun z => scale z * _) ((Finset.sum_congr rfl fun e _ => ?_).trans (sum_joint (X r q)))
  exact congrArg₂ (· + ·) (congrArg₂ (· * ·) (hQ r q e) (hQ r q e)) (congrArg₂ (· * ·) (hR r q e) (hR r q e))

include hG

theorem queryFront_eq (q : Fin 8) (r : Fin 512) (l : Fin 128) :
    queryFront Q R G (128 * q) (by omega) r l = query (X r) g (c r) (s r) ⟨256 * q + l, by omega⟩ := by
  refine Eq.trans ?_ (congrArg (fun z => Ideal.div z temper) (key_at (X r) g (c r) (s r) q ⟨l, by omega⟩)).symm
  rw [← front_temper]
  exact congrArg₂ (· * ·) (congrArg₂ (· * ·) (hQ r q l) (queryScale_eq Q R X hQ hR q r)) (hG _)

variable (hC : ∀ (r : Fin 512) (l : Fin 128), C (ix2 r l) = cosLane (c r) l) (hS : ∀ (r : Fin 512) (l : Fin 128), S (ix2 r l) = sinLane (s r) l)
include hC hS

theorem queryBack_eq (q : Fin 8) (r : Fin 512) (l : Fin 128) :
    queryBack Q R C S G (128 * q) (by omega) r l = query (X r) g (c r) (s r) ⟨256 * q + (128 + l), by omega⟩ := by
  refine Eq.trans ?_ (congrArg (fun z => Ideal.div z temper) (key_at (X r) g (c r) (s r) q ⟨128 + l, by omega⟩)).symm
  rw [← back_temper]
  unfold queryBack
  rw [queryScale_eq Q R X hQ hR q r, funext hG, funext (hC r), funext (hS r)]
  exact congrArg (fun z => rolled z _ _ _ l * _) (funext fun e => hR r q e)

end

variable (k : FVec Ideal S512x1 .f32) (hk : ∀ (r : Fin 512) (q : Fin 8), k (ix2 r 0) = ∑ l, back (X r q) l * back (X r q) l)
include hk

omit hG in
theorem keyScale_eq (q : Fin 8) (r : Fin 512) : keyScale Q k (128 * q) (by omega) r = scale (∑ e, X r q e * X r q e) := by
  unfold keyScale
  rw [mean_val, scale_def, hk r q]
  refine congrArg scale (Eq.trans (congrArg (· + _) (Finset.sum_congr rfl fun e _ => ?_)) (sum_split (X r q)))
  exact congrArg₂ (· * ·) (hQ r q e) (hQ r q e)

theorem keyFront_eq (q : Fin 8) (r : Fin 512) (l : Fin 128) :
    Q (ix2 r ⟨128 * q + l, by omega⟩) * keyScale Q k (128 * q) (by omega) r * G (ix2 0 ⟨l, by omega⟩)
      = key (X r) g (c r) (s r) ⟨256 * q + l, by omega⟩ := by
  refine Eq.trans ?_ (key_at (X r) g (c r) (s r) q ⟨l, by omega⟩).symm
  rw [← front_eq]
  exact congrArg₂ (· * ·) (congrArg₂ (· * ·) (hQ r q l) (keyScale_eq Q X hQ k hk q r)) (hG _)

omit hG in
theorem keyBack_eq (z : FVec Ideal S512x128 .f32)
    (hz : ∀ (r : Fin 512) (q : Fin 8) (l : Fin 128), z (ix2 r l) = rolled (back (X r q)) (padded g) (cosLane (c r)) (sinLane (s r)) l)
    (q : Fin 8) (r : Fin 512) (l : Fin 128) :
    z (ix2 r l) * keyScale Q k (128 * q) (by omega) r = key (X r) g (c r) (s r) ⟨256 * q + (128 + l), by omega⟩ := by
  refine Eq.trans ?_ (key_at (X r) g (c r) (s r) q ⟨128 + l, by omega⟩).symm
  rw [← back_eq, hz r q l, keyScale_eq Q X hQ k hk q r]

end

end Head

/-! ## The stored blocks -/

section Block
variable (x0 : Vec Ideal S512x2048 .f32) (x1 : Vec Ideal S1x6x2048 .f32) (x2 : Vec Ideal S1x2048 .f32) (x3 : Vec Ideal S2048x1152 .bf16)
  (x4 x5 : Vec Ideal S1x512 .f32) (x6 x7 x8 x9 : Vec Ideal S512x1024 .bf16) (x10 x11 : Vec Ideal S1x256 .f32) (x12 x13 : Vec Ideal S512x128 .f32)

theorem zeros2 : (![0, 0] : Fin 2 → ℕ) = fun _ => 0 := by decide

theorem ld_scale (n : Fin 2048) : (View.ld x1 r0_2 : Vec Ideal S1x1x2048 .f32) (ix3 0 0 n) = x1 (ix3 0 1 n) := by
  pointwise

theorem ld_shift (n : Fin 2048) : (View.ld x1 r0_3 : Vec Ideal S1x1x2048 .f32) (ix3 0 0 n) = x1 (ix3 0 0 n) := by
  pointwise

/-- The point's rows, normed and modulated. -/
def hidden (r : Fin 512) (n : Fin 2048) : EReal :=
  normed (fun l => x0 (ix2 r l)) (fun l => x2 (ix2 0 l)) (fun l => x1 (ix3 0 1 l)) (fun l => x1 (ix3 0 0 l)) n

theorem hidden_pay (r : Fin 512) (n : Fin 2048) : (k0_pay6 (F := Ideal) x0 x2 (View.ld x1 r0_2) (View.ld x1 r0_3) (ix2 r n) : EReal) = hidden x0 x1 x2 r n := by
  rw [normed_pay, funext fun l => ld_scale x1 l, funext fun l => ld_shift x1 l]
  rfl

theorem block_14 (r : Fin 512) (n : Fin 2048) : out0_14 x0 x1 x2 x3 x4 x5 x6 x7 x8 x9 x10 x11 x12 x13 (ix2 r n) = hidden x0 x1 x2 r n := by
  have e : out0_14 x0 x1 x2 x3 x4 x5 x6 x7 x8 x9 x10 x11 x12 x13 = k0_pay6 x0 x2 (View.ld x1 r0_2) (View.ld x1 r0_3) := by
    unfold out0_14
    frame_out
  rw [e, hidden_pay]

/-- Column `n` of the point's rows, projected. -/
def down (r : Fin 512) (n : Fin 1152) : EReal := ∑ l : Fin 2048, hidden x0 x1 x2 r l * x3 (ix2 l n)

theorem latents_eq : k0_pay102 x0 x1 x2 x3 x4 x5 x6 x7 x8 x9 x10 x11 x12 x13 = k0_pay7 x0 x2 (View.ld x1 r0_2) (View.ld x1 r0_3) x3 := by
  unfold k0_pay102
  simp only [View.ld_unit_zero (S := S512x2048) zeros2, View.ld_unit_zero (S := S1x2048) zeros2, View.ld_unit_zero (S := S2048x1152) zeros2]

theorem latents_at (r : Fin 512) (n : Fin 1152) : k0_pay102 x0 x1 x2 x3 x4 x5 x6 x7 x8 x9 x10 x11 x12 x13 (ix2 r n) = down x0 x1 x2 x3 r n := by
  rw [latents_eq, latents_pay]
  exact Finset.sum_congr rfl fun l _ => congrArg (· * _) (hidden_pay x0 x1 x2 r l)

/-- A latent row, normed and projected up: column `n`. -/
def up (o : ℕ) (ho : o + 512 ≤ 1152) (u : Vec Ideal S1x512 .f32) (z : Vec Ideal S512x1024 .bf16) (r : Fin 512) (n : Fin 1024) : EReal :=
  ∑ l : Fin 512, latent (fun e => down x0 x1 x2 x3 r ⟨o + e, by omega⟩) (fun e => u (ix2 0 e)) l * z (ix2 l n)

theorem low_eq (r : Fin 512) : lower (k0_pay102 x0 x1 x2 x3 x4 x5 x6 x7 x8 x9 x10 x11 x12 x13) r = fun e : Fin 512 => down x0 x1 x2 x3 r ⟨0 + e, by omega⟩ :=
  funext fun e => (latents_at x0 x1 x2 x3 x4 x5 x6 x7 x8 x9 x10 x11 x12 x13 r _).trans (congrArg _ (Fin.ext (by simp only; omega)))

theorem high_eq (r : Fin 512) : upper (k0_pay102 x0 x1 x2 x3 x4 x5 x6 x7 x8 x9 x10 x11 x12 x13) r = fun e : Fin 512 => down x0 x1 x2 x3 r ⟨512 + e, by omega⟩ :=
  funext fun e => latents_at x0 x1 x2 x3 x4 x5 x6 x7 x8 x9 x10 x11 x12 x13 r _

theorem queries_front (r : Fin 512) (n : Fin 1024) : k0_pay107 x0 x1 x2 x3 x4 x5 x6 x7 x8 x9 x10 x11 x12 x13 (ix2 r n) = up x0 x1 x2 x3 0 (by omega) x4 x6 r n := by
  unfold up
  rw [← low_eq x0 x1 x2 x3 x4 x5 x6 x7 x8 x9 x10 x11 x12 x13 r, latents_eq]
  unfold k0_pay107 k0_pay105 k0_pay104 k0_pay103
  simp only [View.ld_unit_zero (S := S512x2048) zeros2, View.ld_unit_zero (S := S1x2048) zeros2, View.ld_unit_zero (S := S2048x1152) zeros2,
    View.ld_unit_zero (S := S1x512) zeros2, View.ld_unit_zero (S := S512x1024) zeros2]
  exact front_pay _ _ _ _ _ _ _ r n

theorem queries_back (r : Fin 512) (n : Fin 1024) : k0_pay108 x0 x1 x2 x3 x4 x5 x6 x7 x8 x9 x10 x11 x12 x13 (ix2 r n) = up x0 x1 x2 x3 0 (by omega) x4 x7 r n := by
  unfold up
  rw [← low_eq x0 x1 x2 x3 x4 x5 x6 x7 x8 x9 x10 x11 x12 x13 r, latents_eq]
  unfold k0_pay108 k0_pay105 k0_pay104 k0_pay103
  simp only [View.ld_unit_zero (S := S512x2048) zeros2, View.ld_unit_zero (S := S1x2048) zeros2, View.ld_unit_zero (S := S2048x1152) zeros2,
    View.ld_unit_zero (S := S1x512) zeros2, View.ld_unit_zero (S := S512x1024) zeros2]
  exact back_pay _ _ _ _ _ _ _ r n

theorem keys_front (r : Fin 512) (n : Fin 1024) : k0_pay109 x0 x1 x2 x3 x4 x5 x6 x7 x8 x9 x10 x11 x12 x13 (ix2 r n) = up x0 x1 x2 x3 512 (by omega) x5 x8 r n := by
  unfold up
  rw [← high_eq x0 x1 x2 x3 x4 x5 x6 x7 x8 x9 x10 x11 x12 x13 r]
  unfold k0_pay109
  simp only [View.ld_unit_zero (S := S1x512) zeros2, View.ld_unit_zero (S := S512x1024) zeros2]
  exact key_pay _ _ _ r n

theorem block_17 (r : Fin 512) (n : Fin 1024) : out0_17 x0 x1 x2 x3 x4 x5 x6 x7 x8 x9 x10 x11 x12 x13 (ix2 r n) = up x0 x1 x2 x3 512 (by omega) x5 x9 r n := by
  unfold up
  rw [← high_eq x0 x1 x2 x3 x4 x5 x6 x7 x8 x9 x10 x11 x12 x13 r]
  have e : out0_17 x0 x1 x2 x3 x4 x5 x6 x7 x8 x9 x10 x11 x12 x13 = k0_pay17 (k0_pay102 x0 x1 x2 x3 x4 x5 x6 x7 x8 x9 x10 x11 x12 x13) x5 x9 := by
    unfold out0_17
    frame_out
  rw [e]
  exact value_pay _ _ _ r n

theorem shared_at (r : Fin 512) (l : Fin 128) : k0_pay106 x0 x1 x2 x3 x4 x5 x6 x7 x8 x9 x10 x11 x12 x13 (ix2 r l) = down x0 x1 x2 x3 r ⟨1024 + l, by omega⟩ := by
  unfold k0_pay106
  exact (shared_pay _ r l).trans (latents_at x0 x1 x2 x3 x4 x5 x6 x7 x8 x9 x10 x11 x12 x13 r _)

theorem shared_squares (r : Fin 512) : k0_pay114 x0 x1 x2 x3 x4 x5 x6 x7 x8 x9 x10 x11 x12 x13 (ix2 r 0)
    = ∑ l : Fin 128, down x0 x1 x2 x3 r ⟨1024 + l, by omega⟩ * down x0 x1 x2 x3 r ⟨1024 + l, by omega⟩ := by
  unfold k0_pay114
  exact (squares_pay r _).trans (Finset.sum_congr rfl fun l _ => congrArg₂ (· * ·) (shared_at x0 x1 x2 x3 x4 x5 x6 x7 x8 x9 x10 x11 x12 x13 r l) (shared_at x0 x1 x2 x3 x4 x5 x6 x7 x8 x9 x10 x11 x12 x13 r l))

theorem shared_rolled (r : Fin 512) (l : Fin 128) : k0_pay115 x0 x1 x2 x3 x4 x5 x6 x7 x8 x9 x10 x11 x12 x13 (ix2 r l)
    = rolled (fun e => down x0 x1 x2 x3 r ⟨1024 + e, by omega⟩) (fun e => x11 (ix2 0 e)) (fun e => x12 (ix2 r e)) (fun e => x13 (ix2 r e)) l := by
  unfold k0_pay115
  simp only [View.ld_unit_zero (S := S1x256) zeros2, View.ld_unit_zero (S := S512x128) zeros2]
  exact (rolled_pay r _ _ _ _ l).trans (congrArg (fun z => rolled z _ _ _ l) (funext fun e => shared_at x0 x1 x2 x3 x4 x5 x6 x7 x8 x9 x10 x11 x12 x13 r e))

end Block

end Cert.Lat

end
-- ==== Proof.Lat.Store.lean ====
/-
  The heads of the queries and the keys a grid point of the latent attention's preparation stores, block by block of 128 lanes.
-/
module

public import proofs.«01_k».proof.Proof.Lat.Block

@[expose] public section

set_option maxRecDepth 16384

noncomputable section

namespace Cert.Lat

open Cert.Kernel6Ideal Cert.Kernel6Ideal.Gen Idealize.ShloMosaic Idealize.ShloMosaic.TcCoe Idealize.SL.Sem
open Cert.Prep (tiny)
open Cert.Outproj (normed)

/-! ## The stored blocks -/

section Block
variable (x0 : Vec Ideal S512x2048 .f32) (x1 : Vec Ideal S1x6x2048 .f32) (x2 : Vec Ideal S1x2048 .f32) (x3 : Vec Ideal S2048x1152 .bf16)
  (x4 x5 : Vec Ideal S1x512 .f32) (x6 x7 x8 x9 : Vec Ideal S512x1024 .bf16) (x10 x11 : Vec Ideal S1x256 .f32) (x12 x13 : Vec Ideal S512x128 .f32)
  (X : Fin 512 → Fin 8 → Fin 192 → EReal) (g : Fin 192 → EReal) (c s : Fin 512 → Fin 32 → EReal)

theorem block_15 (hQ : ∀ (r : Fin 512) (q : Fin 8) (l : Fin 128), k0_pay107 x0 x1 x2 x3 x4 x5 x6 x7 x8 x9 x10 x11 x12 x13 (ix2 r (col q l)) = front (X r q) l)
    (hR : ∀ (r : Fin 512) (q : Fin 8) (l : Fin 128), k0_pay108 x0 x1 x2 x3 x4 x5 x6 x7 x8 x9 x10 x11 x12 x13 (ix2 r (col q l)) = back (X r q) l)
    (hG : ∀ l : Fin 256, x10 (ix2 0 l) = padded g l) (hC : ∀ (r : Fin 512) (l : Fin 128), x12 (ix2 r l) = cosLane (c r) l)
    (hS : ∀ (r : Fin 512) (l : Fin 128), x13 (ix2 r l) = sinLane (s r) l) (y : S512x2048.Idx) :
    out0_15 x0 x1 x2 x3 x4 x5 x6 x7 x8 x9 x10 x11 x12 x13 y = query (X (y 0)) g (c (y 0)) (s (y 0)) (y 1) := by
  unfold out0_15 k0_pay118 k0_pay116 k0_pay112 k0_pay111 k0_pay110
  generalize k0_pay107 x0 x1 x2 x3 x4 x5 x6 x7 x8 x9 x10 x11 x12 x13 = Q at hQ ⊢
  generalize k0_pay108 x0 x1 x2 x3 x4 x5 x6 x7 x8 x9 x10 x11 x12 x13 = R at hR ⊢
  simp only [View.ld_unit_zero (S := S1x256) zeros2, View.ld_unit_zero (S := S512x128) zeros2]
  have F := fun (q : ℕ) (hq : q < 8) (hn : 128 * q + 128 ≤ 1024) => front_columns (fun r n => query (X r) g (c r) (s r) n) q hq (queryFront Q R x10 (128 * q) hn)
    (fun r l => queryFront_eq Q R x10 X g c s hQ hG hR ⟨q, hq⟩ r l)
  have B := fun (q : ℕ) (hq : q < 8) (hn : 128 * q + 128 ≤ 1024) => back_columns (fun r n => query (X r) g (c r) (s r) n) q hq (queryBack Q R x12 x13 x10 (128 * q) hn)
    (fun r l => queryBack_eq Q R x12 x13 x10 X g c s hQ hG hR hC hS ⟨q, hq⟩ r l)
  canon_tiles x t
  case piece0 => exact B 7 (by omega) (by omega) _ (fun r l => by unfold_payloads; pointwise; rfl) x y (by omega) (by omega)
  case piece1 => exact F 7 (by omega) (by omega) _ (fun r l => by unfold_payloads; pointwise; rfl) x y (by omega) (by omega)
  case piece2 => exact B 6 (by omega) (by omega) _ (fun r l => by unfold_payloads; pointwise; rfl) x y (by omega) (by omega)
  case piece3 => exact F 6 (by omega) (by omega) _ (fun r l => by unfold_payloads; pointwise; rfl) x y (by omega) (by omega)
  case piece4 => exact B 5 (by omega) (by omega) _ (fun r l => by unfold_payloads; pointwise; rfl) x y (by omega) (by omega)
  case piece5 => exact F 5 (by omega) (by omega) _ (fun r l => by unfold_payloads; pointwise; rfl) x y (by omega) (by omega)
  case piece6 => exact B 4 (by omega) (by omega) _ (fun r l => by unfold_payloads; pointwise; rfl) x y (by omega) (by omega)
  case piece7 => exact F 4 (by omega) (by omega) _ (fun r l => by unfold_payloads; pointwise; rfl) x y (by omega) (by omega)
  case piece8 => exact B 3 (by omega) (by omega) _ (fun r l => by unfold_payloads; pointwise; rfl) x y (by omega) (by omega)
  case piece9 => exact F 3 (by omega) (by omega) _ (fun r l => by unfold_payloads; pointwise; rfl) x y (by omega) (by omega)
  case piece10 => exact B 2 (by omega) (by omega) _ (fun r l => by unfold_payloads; pointwise; rfl) x y (by omega) (by omega)
  case piece11 => exact F 2 (by omega) (by omega) _ (fun r l => by unfold_payloads; pointwise; rfl) x y (by omega) (by omega)
  case piece12 => exact B 1 (by omega) (by omega) _ (fun r l => by unfold_payloads; pointwise; rfl) x y (by omega) (by omega)
  case piece13 => exact F 1 (by omega) (by omega) _ (fun r l => by unfold_payloads; pointwise; rfl) x y (by omega) (by omega)
  case piece14 => exact B 0 (by omega) (by omega) _ (fun r l => by unfold queryBack queryScale rolled; unfold_payloads; pointwise) x y (by omega) (by omega)
  case piece15 => exact F 0 (by omega) (by omega) _ (fun r l => by unfold queryFront queryScale; unfold_payloads; pointwise) x y (by omega) (by omega)

theorem block_16 (hQ : ∀ (r : Fin 512) (q : Fin 8) (l : Fin 128), k0_pay109 x0 x1 x2 x3 x4 x5 x6 x7 x8 x9 x10 x11 x12 x13 (ix2 r (col q l)) = front (X r q) l)
    (hG : ∀ l : Fin 256, x11 (ix2 0 l) = padded g l)
    (hk : ∀ (r : Fin 512) (q : Fin 8), k0_pay114 x0 x1 x2 x3 x4 x5 x6 x7 x8 x9 x10 x11 x12 x13 (ix2 r 0) = ∑ l, back (X r q) l * back (X r q) l)
    (hz : ∀ (r : Fin 512) (q : Fin 8) (l : Fin 128), k0_pay115 x0 x1 x2 x3 x4 x5 x6 x7 x8 x9 x10 x11 x12 x13 (ix2 r l) = rolled (back (X r q)) (padded g) (cosLane (c r)) (sinLane (s r)) l)
    (y : S512x2048.Idx) :
    out0_16 x0 x1 x2 x3 x4 x5 x6 x7 x8 x9 x10 x11 x12 x13 y = key (X (y 0)) g (c (y 0)) (s (y 0)) (y 1) := by
  unfold out0_16 k0_pay119 k0_pay117 k0_pay113
  generalize k0_pay109 x0 x1 x2 x3 x4 x5 x6 x7 x8 x9 x10 x11 x12 x13 = Q at hQ ⊢
  generalize k0_pay114 x0 x1 x2 x3 x4 x5 x6 x7 x8 x9 x10 x11 x12 x13 = k at hk ⊢
  generalize k0_pay115 x0 x1 x2 x3 x4 x5 x6 x7 x8 x9 x10 x11 x12 x13 = z at hz ⊢
  simp only [View.ld_unit_zero (S := S1x256) zeros2]
  have F := fun (q : ℕ) (hq : q < 8) (hn : 128 * q + 128 ≤ 1024) => front_columns (fun r n => key (X r) g (c r) (s r) n) q hq
    (fun r l => Q (ix2 r ⟨128 * q + l, by omega⟩) * keyScale Q k (128 * q) hn r * x11 (ix2 0 ⟨l, by omega⟩))
    (fun r l => keyFront_eq Q x11 X g c s hQ hG k hk ⟨q, hq⟩ r l)
  have B := fun (q : ℕ) (hq : q < 8) (hn : 128 * q + 128 ≤ 1024) => back_columns (fun r n => key (X r) g (c r) (s r) n) q hq
    (fun r l => z (ix2 r l) * keyScale Q k (128 * q) hn r)
    (fun r l => keyBack_eq Q X g c s hQ k hk z hz ⟨q, hq⟩ r l)
  canon_tiles x t
  case piece0 => exact B 7 (by omega) (by omega) _ (fun r l => by unfold_payloads; pointwise; rfl) x y (by omega) (by omega)
  case piece1 => exact F 7 (by omega) (by omega) _ (fun r l => by unfold_payloads; pointwise; rfl) x y (by omega) (by omega)
  case piece2 => exact B 6 (by omega) (by omega) _ (fun r l => by unfold_payloads; pointwise; rfl) x y (by omega) (by omega)
  case piece3 => exact F 6 (by omega) (by omega) _ (fun r l => by unfold_payloads; pointwise; rfl) x y (by omega) (by omega)
  case piece4 => exact B 5 (by omega) (by omega) _ (fun r l => by unfold_payloads; pointwise; rfl) x y (by omega) (by omega)
  case piece5 => exact F 5 (by omega) (by omega) _ (fun r l => by unfold_payloads; pointwise; rfl) x y (by omega) (by omega)
  case piece6 => exact B 4 (by omega) (by omega) _ (fun r l => by unfold_payloads; pointwise; rfl) x y (by omega) (by omega)
  case piece7 => exact F 4 (by omega) (by omega) _ (fun r l => by unfold_payloads; pointwise; rfl) x y (by omega) (by omega)
  case piece8 => exact B 3 (by omega) (by omega) _ (fun r l => by unfold_payloads; pointwise; rfl) x y (by omega) (by omega)
  case piece9 => exact F 3 (by omega) (by omega) _ (fun r l => by unfold_payloads; pointwise; rfl) x y (by omega) (by omega)
  case piece10 => exact B 2 (by omega) (by omega) _ (fun r l => by unfold_payloads; pointwise; rfl) x y (by omega) (by omega)
  case piece11 => exact F 2 (by omega) (by omega) _ (fun r l => by unfold_payloads; pointwise; rfl) x y (by omega) (by omega)
  case piece12 => exact B 1 (by omega) (by omega) _ (fun r l => by unfold_payloads; pointwise; rfl) x y (by omega) (by omega)
  case piece13 => exact F 1 (by omega) (by omega) _ (fun r l => by unfold_payloads; pointwise; rfl) x y (by omega) (by omega)
  case piece14 => exact B 0 (by omega) (by omega) _ (fun r l => by unfold keyScale; unfold_payloads; pointwise) x y (by omega) (by omega)
  case piece15 => exact F 0 (by omega) (by omega) _ (fun r l => by unfold keyScale; unfold_payloads; pointwise) x y (by omega) (by omega)

end Block

end Cert.Lat

end
-- ==== Proof.Lat.Host.lean ====
/-
  The operands of the latent attention's preparation as the host makes them, entry by entry: the weights with their heads cut in two and padded
  with zeros, the norms' weights, and the two tables of the turn.
-/
module

public import proofs.«01_k».proof.Proof.Lat.Block

@[expose] public section

set_option maxRecDepth 16384

noncomputable section

namespace Cert.Lat

open Cert.Kernel6Ideal Cert.Kernel6Ideal.Gen Idealize.ShloMosaic Idealize.ShloMosaic.TcCoe Idealize.SL.Sem
open Cert.Outproj (residual parts norm)

/-- The first projection's weights, of its first 1088 columns, with 64 columns of zeros. -/
def downWeights (w : FVec Ideal S2048x8256 .f32) : FVec Ideal S2048x1152 .bf16 :=
  concatenate S2048x1152 1 [⟨S2048x1088, extractStridedSlice S2048x1088 ![0, 0] (truncf FTy.bf16 w bitsLt_bf16_f32) slices_S2048x8256_S2048x1088_0_0⟩,
    ⟨S2048x64, broadcastInDim S2048x64 ![] bcast_S_S2048x64 (constant S_ .bf16 0x0000#16)⟩] concatenates_S2048x1088_S2048x64_S2048x1152_d1

/-- A latent norm's weights, as a row. -/
def latentNorm (g : FVec Ideal S512 .f32) : FVec Ideal S1x512 .f32 := shapeCast S1x512 g shapeCasts_S512_S1x512

/-- The queries' weights by head; of each head the first 128 lanes, and the last 64 with as many zeros. -/
def queryWeights (w : FVec Ideal S512x1536 .f32) : FVec Ideal S512x8x192 .bf16 :=
  shapeCast S512x8x192 (truncf FTy.bf16 w bitsLt_bf16_f32) shapeCasts_S512x1536_S512x8x192
@[inherit_doc queryWeights] def queryFirst (w : FVec Ideal S512x1536 .f32) : FVec Ideal S512x1024 .bf16 :=
  shapeCast S512x1024 (extractStridedSlice S512x8x128 ![0, 0, 0] (queryWeights w) slices_S512x8x192_S512x8x128_0_0_0) shapeCasts_S512x8x128_S512x1024
@[inherit_doc queryWeights] def queryLast (w : FVec Ideal S512x1536 .f32) : FVec Ideal S512x1024 .bf16 :=
  shapeCast S512x1024 (concatenate S512x8x128 2 [⟨S512x8x64, extractStridedSlice S512x8x64 ![0, 0, 128] (queryWeights w) slices_S512x8x192_S512x8x64_0_0_128⟩,
    ⟨S512x8x64, broadcastInDim S512x8x64 ![] bcast_S_S512x8x64 (constant S_ .bf16 0x0000#16)⟩] concatenates_S512x8x64_S512x8x64_S512x8x128_d2)
    shapeCasts_S512x8x128_S512x1024

/-- The keys' and the values' weights by head; of each head the keys' 128 lanes, and the values'. -/
def sharedWeights (w : FVec Ideal S512x2048 .f32) : FVec Ideal S512x8x256 .bf16 :=
  shapeCast S512x8x256 (truncf FTy.bf16 w bitsLt_bf16_f32) shapeCasts_S512x2048_S512x8x256
@[inherit_doc sharedWeights] def keyWeights (w : FVec Ideal S512x2048 .f32) : FVec Ideal S512x1024 .bf16 :=
  shapeCast S512x1024 (extractStridedSlice S512x8x128 ![0, 0, 0] (sharedWeights w) slices_S512x8x256_S512x8x128_0_0_0) shapeCasts_S512x8x128_S512x1024
@[inherit_doc sharedWeights] def valueWeights (w : FVec Ideal S512x2048 .f32) : FVec Ideal S512x1024 .bf16 :=
  shapeCast S512x1024 (extractStridedSlice S512x8x128 ![0, 0, 128] (sharedWeights w) slices_S512x8x256_S512x8x128_0_0_128) shapeCasts_S512x8x128_S512x1024

/-- A head norm's weights, with 64 zeros. -/
def headNorm (g : FVec Ideal S192 .f32) : FVec Ideal S1x256 .f32 :=
  concatenate S1x256 1 [⟨S1x192, shapeCast S1x192 g shapeCasts_S192_S1x192⟩,
    ⟨S1x64, broadcastInDim S1x64 ![] bcast_S_S1x64 (constant S_ .f32 0x00000000#32)⟩] concatenates_S1x192_S1x64_S1x256_d1

/-- The positions' cosines or sines, their batches one under the other. -/
def angles (x : FVec Ideal S16x2048x32 .f32) : FVec Ideal S32768x32 .f32 := shapeCast S32768x32 x shapeCasts_S16x2048x32_S32768x32

/-- A table of the turn: lanes `0..31`, `32..63`, and zeros. -/
def table (a b : FVec Ideal S32768x32 .f32) : FVec Ideal S32768x128 .f32 :=
  concatenate S32768x128 1 [⟨S32768x32, a⟩, ⟨S32768x32, b⟩,
    ⟨S32768x64, broadcastInDim S32768x64 ![] bcast_S_S32768x64 (constant S_ .f32 0x00000000#32)⟩] concatenates_S32768x32_S32768x32_S32768x64_S32768x128_d1

theorem downWeights_at (w : FVec Ideal S2048x8256 .f32) (l : Fin 2048) (n : Fin 1152) :
    downWeights w (ix2 l n) = if h : (n : ℕ) < 1088 then w (ix2 l ⟨n, by omega⟩) else 0 := by
  pointwise [downWeights]

theorem latentNorm_at (g : FVec Ideal S512 .f32) (n : Fin 512) : latentNorm g (ix2 0 n) = g (ix1 n) := by
  pointwise [latentNorm]

theorem queryFirst_at (w : FVec Ideal S512x1536 .f32) (l : Fin 512) (q : Fin 8) (e : Fin 128) :
    queryFirst w (ix2 l (col q e)) = w (ix2 l ⟨192 * q + e, by omega⟩) := by
  pointwise [queryFirst, queryWeights, col]
  simp only [Nat.mul_comm 192]

theorem queryLast_at (w : FVec Ideal S512x1536 .f32) (l : Fin 512) (q : Fin 8) (e : Fin 128) :
    queryLast w (ix2 l (col q e)) = if h : (e : ℕ) < 64 then w (ix2 l ⟨192 * q + (128 + e), by omega⟩) else 0 := by
  pointwise [queryLast, queryWeights, col]
  simp only [Nat.mul_comm 192]

theorem keyWeights_at (w : FVec Ideal S512x2048 .f32) (l : Fin 512) (q : Fin 8) (e : Fin 128) :
    keyWeights w (ix2 l (col q e)) = w (ix2 l ⟨256 * q + e, by omega⟩) := by
  pointwise [keyWeights, sharedWeights, col]
  simp only [Nat.mul_comm 256]

theorem valueWeights_at (w : FVec Ideal S512x2048 .f32) (l : Fin 512) (q : Fin 8) (e : Fin 128) :
    valueWeights w (ix2 l (col q e)) = w (ix2 l ⟨256 * q + (128 + e), by omega⟩) := by
  pointwise [valueWeights, sharedWeights, col]
  simp only [Nat.mul_comm 256]

theorem headNorm_at (g : FVec Ideal S192 .f32) (l : Fin 256) : headNorm g (ix2 0 l) = padded (fun d => g (ix1 d)) l := by
  unfold padded
  pointwise [headNorm]

theorem angles_at (x : FVec Ideal S16x2048x32 .f32) (b : Fin 16) (i : Fin 2048) (l : Fin 32) (R : Fin 32768) (hR : (R : ℕ) = 2048 * b + i) :
    angles x (ix2 R l) = x (ix3 b i l) := by
  rw [show R = (⟨2048 * b + i, by omega⟩ : Fin 32768) from Fin.ext hR]
  pointwise [angles]

theorem table_at (a b : FVec Ideal S32768x32 .f32) (R : Fin 32768) (l : Fin 128) :
    table a b (ix2 R l) = if h : (l : ℕ) < 32 then a (ix2 R ⟨l, h⟩) else if h' : (l : ℕ) - 32 < 32 then b (ix2 R ⟨(l : ℕ) - 32, h'⟩) else 0 := by
  pointwise [table]

/-- The table of the lane itself. -/
theorem table_cos (x : FVec Ideal S16x2048x32 .f32) (b : Fin 16) (i : Fin 2048) (R : Fin 32768) (hR : (R : ℕ) = 2048 * b + i) (l : Fin 128) :
    table (angles x) (angles x) (ix2 R l) = cosLane (fun r => x (ix3 b i r)) l := by
  rw [table_at]
  unfold cosLane
  by_cases h : (l : ℕ) < 32
  · rw [dif_pos h, dif_pos h, angles_at x b i _ R hR]
  · by_cases h' : (l : ℕ) < 64
    · rw [dif_neg h, dif_pos (by omega), dif_neg h, dif_pos h', angles_at x b i _ R hR]
    · rw [dif_neg h, dif_neg (by omega), dif_neg h, dif_neg h']

/-- The table of the lane's neighbours. -/
theorem table_sin (x : FVec Ideal S16x2048x32 .f32) (b : Fin 16) (i : Fin 2048) (R : Fin 32768) (hR : (R : ℕ) = 2048 * b + i) (l : Fin 128) :
    table (Host.negf (angles x)) (angles x) (ix2 R l) = sinLane (fun r => x (ix3 b i r)) l := by
  rw [table_at]
  unfold sinLane
  by_cases h : (l : ℕ) < 32
  · rw [dif_pos h, dif_pos h]; exact congrArg Neg.neg (angles_at x b i _ R hR)
  · by_cases h' : (l : ℕ) < 64
    · rw [dif_neg h, dif_pos (by omega), dif_neg h, dif_pos h', angles_at x b i _ R hR]
    · rw [dif_neg h, dif_neg (by omega), dif_neg h, dif_neg h']

section Entry
variable (m : (ℓ : Loc nD τ sig) → Buf (Elt Ideal) ℓ) (c : Dev nD)

theorem entry_0 : V m c (Pipeline.arrRef spec0 0) = residual (m ((c : Thread nD τ).loc main_arg0)) := by
  show V m c main_v30 = _
  entry_read; rfl

theorem entry_1 : V m c (Pipeline.arrRef spec0 1) = parts (m ((c : Thread nD τ).loc main_arg1)) := by
  show V m c main_v31 = _
  entry_read; rfl

theorem entry_2 : V m c (Pipeline.arrRef spec0 2) = norm (m ((c : Thread nD τ).loc main_arg2)) := by
  show V m c main_v32 = _
  entry_read; rfl

theorem entry_3 : V m c (Pipeline.arrRef spec0 3) = downWeights (m ((c : Thread nD τ).loc main_arg3)) := by
  show V m c main_v9 = _
  entry_read; rfl

theorem entry_4 : V m c (Pipeline.arrRef spec0 4) = latentNorm (m ((c : Thread nD τ).loc main_arg4)) := by
  show V m c main_v33 = _
  entry_read; rfl

theorem entry_5 : V m c (Pipeline.arrRef spec0 5) = latentNorm (m ((c : Thread nD τ).loc main_arg6)) := by
  show V m c main_v34 = _
  entry_read; rfl

theorem entry_6 : V m c (Pipeline.arrRef spec0 6) = queryFirst (m ((c : Thread nD τ).loc main_arg5)) := by
  show V m c main_v13 = _
  entry_read; rfl

theorem entry_7 : V m c (Pipeline.arrRef spec0 7) = queryLast (m ((c : Thread nD τ).loc main_arg5)) := by
  show V m c main_v17 = _
  entry_read; rfl

theorem entry_8 : V m c (Pipeline.arrRef spec0 8) = keyWeights (m ((c : Thread nD τ).loc main_arg7)) := by
  show V m c main_v21 = _
  entry_read; rfl

theorem entry_9 : V m c (Pipeline.arrRef spec0 9) = valueWeights (m ((c : Thread nD τ).loc main_arg7)) := by
  show V m c main_v23 = _
  entry_read; rfl

theorem entry_10 : V m c (Pipeline.arrRef spec0 10) = headNorm (m ((c : Thread nD τ).loc main_arg8)) := by
  show V m c main_v26 = _
  entry_read; rfl

theorem entry_11 : V m c (Pipeline.arrRef spec0 11) = headNorm (m ((c : Thread nD τ).loc main_arg9)) := by
  show V m c main_v29 = _
  entry_read; rfl

theorem entry_12 : V m c (Pipeline.arrRef spec0 12) = table (angles (m ((c : Thread nD τ).loc main_arg10))) (angles (m ((c : Thread nD τ).loc main_arg10))) := by
  show V m c main_v3 = _
  show StableHlo.after (hostOps0 (F := Ideal)) _ _ = _
  simp only [StableHlo.after_cons, StableHlo.after_nil]
  after_results_simp
  rfl

theorem entry_13 : V m c (Pipeline.arrRef spec0 13)
    = table (Host.negf (angles (m ((c : Thread nD τ).loc main_arg11)))) (angles (m ((c : Thread nD τ).loc main_arg11))) := by
  show V m c main_v5 = _
  show StableHlo.after (hostOps0 (F := Ideal)) _ _ = _
  simp only [StableHlo.after_cons, StableHlo.after_nil]
  after_results_simp
  rfl

end Entry

end Cert.Lat

end
-- ==== Proof.Lat.Point.lean ====
/-
  The latent attention's preparation: its windows' blocks, and the kernel's four results, entry by entry (`hidden_result`, `query_result`,
  `key_result`, `value_result`).
-/
module

public import proofs.«01_k».proof.Proof.Lat.Store
public import proofs.«01_k».proof.Proof.Lat.Host

@[expose] public section

set_option maxRecDepth 16384

noncomputable section

namespace Cert.Lat

open Cert.Kernel6Ideal Cert.Kernel6Ideal.Gen Idealize.ShloMosaic Idealize.ShloMosaic.TcCoe Idealize.SL.Sem
open Cert.Outproj (residual residual_at parts parts_at norm norm_at normed part)

/-- The modulated norm of the row at batch `b` and position `i`, at channel `n`. -/
def hid (x : FVec Ideal S16x2048x2048 .f32) (mod : FVec Ideal S16x12288 .f32) (v : FVec Ideal S2048 .f32) (b : Fin 16) (i n : Fin 2048) : EReal :=
  normed (fun l => x (ix3 b i l)) (fun l => v (ix1 l)) (fun l => mod (ix2 b (part 1 l))) (fun l => mod (ix2 b (part 0 l))) n

/-- The row's projection, at column `n`. -/
def proj (x : FVec Ideal S16x2048x2048 .f32) (mod : FVec Ideal S16x12288 .f32) (v : FVec Ideal S2048 .f32) (w : FVec Ideal S2048x8256 .f32)
    (b : Fin 16) (i : Fin 2048) (n : Fin 8256) : EReal :=
  ∑ l : Fin 2048, hid x mod v b i l * w (ix2 l n)

/-- A latent of 512 columns at `o` of a projected row `P`, normed, times a column of weights. -/
def raise (o : ℕ) (ho : o + 512 ≤ 8256) (P : Fin 8256 → EReal) (u : FVec Ideal S512 .f32) (w : Fin 512 → EReal) : EReal :=
  ∑ l : Fin 512, latent (fun e => P ⟨o + e, by omega⟩) (fun e => u (ix1 e)) l * w l

/-- Lane `d` of head `q` of the queries, of the keys and of the values, from a projected row. -/
def queryHead (P : Fin 8256 → EReal) (u : FVec Ideal S512 .f32) (w : FVec Ideal S512x1536 .f32) (q : Fin 8) (d : Fin 192) : EReal :=
  raise 0 (by omega) P u fun l => w (ix2 l ⟨192 * q + d, by omega⟩)
@[inherit_doc queryHead] def keyHead (P : Fin 8256 → EReal) (u : FVec Ideal S512 .f32) (w : FVec Ideal S512x2048 .f32) (q : Fin 8) (d : Fin 192) : EReal :=
  if h : (d : ℕ) < 128 then raise 512 (by omega) P u fun l => w (ix2 l ⟨256 * q + d, by omega⟩) else P ⟨1024 + (d - 128), by omega⟩
@[inherit_doc queryHead] def valueHead (P : Fin 8256 → EReal) (u : FVec Ideal S512 .f32) (w : FVec Ideal S512x2048 .f32) (q : Fin 8) (d : Fin 128) : EReal :=
  raise 512 (by omega) P u fun l => w (ix2 l ⟨256 * q + (128 + d), by omega⟩)

/-! ## The windows' blocks -/

/-- Grid point `t` holds rows `512 t …`, which are of batch `t / 4`. -/
theorem idx : ∀ t : Fin cfg0.N,
    win0_0.index t = ![t.val, 0] ∧ win0_1.index t = ![t.val / 4, 0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![t.val, 0] ∧ win0_13.index t = ![t.val, 0]
    ∧ win0_14.index t = ![t.val, 0] ∧ win0_15.index t = ![t.val, 0] ∧ win0_16.index t = ![t.val, 0] ∧ win0_17.index t = ![t.val, 0] :=
  (by decide +kernel : ∀ t : Fin grid0.N, _)

/-- The batch of grid point `t`, the position of its row `r`, and that row in the whole array. -/
def batch (t : Fin cfg0.N) : Fin 16 := ⟨t.val / 4, by have : t.val < 64 := t.isLt; omega⟩
@[inherit_doc batch] def place (t : Fin cfg0.N) (r : Fin 512) : Fin 2048 := ⟨512 * (t.val % 4) + r, by omega⟩
@[inherit_doc batch] def whole (t : Fin cfg0.N) (r : Fin 512) : Fin 32768 := ⟨512 * t.val + r, by have : t.val < 64 := t.isLt; omega⟩

theorem whole_eq (t : Fin cfg0.N) (r : Fin 512) : (whole t r : ℕ) = 2048 * batch t + place t r := by
  simp only [whole, batch, place]; omega

section Blocks
variable (m : (ℓ : Loc nD τ sig) → Buf (Elt Ideal) ℓ) (c : Dev nD) (t : Fin cfg0.N)

theorem blk_0 (r : Fin 512) (l : Fin 2048) : (iblk m c 0 t : Vec Ideal S512x2048 .f32) (ix2 r l)
    = (m ((c : Thread nD τ).loc main_arg0) : FVec Ideal S16x2048x2048 .f32) (ix3 (batch t) (place t r) l) := by
  have h  : (((cfg0.win 0).blk t).view.emb (ix2 r l) : S32768x2048.Idx) = ix2 (whole t r) l := by
    blk_simp
    blk_ext [idx t, whole]
  unfold iblk
  rw [entry_0]
  exact (congrArg (residual _) (h)).trans (residual_at _ _ _ l _ (whole_eq t r))

theorem blk_1 (k : Fin 6) (n : Fin 2048) : (iblk m c 1 t : Vec Ideal S1x6x2048 .f32) (ix3 0 k n)
    = (m ((c : Thread nD τ).loc main_arg1) : FVec Ideal S16x12288 .f32) (ix2 (batch t) (part k n)) := by
  have h  : (((cfg0.win 1).blk t).view.emb (ix3 0 k n) : S16x6x2048.Idx) = ix3 (batch t) k n := by
    blk_simp
    blk_ext [idx t, batch]
  unfold iblk
  rw [entry_1]
  exact (congrArg (parts _) (h)).trans (parts_at _ _ k n)

theorem blk_2 (n : Fin 2048) : (iblk m c 2 t : Vec Ideal S1x2048 .f32) (ix2 0 n)
    = (m ((c : Thread nD τ).loc main_arg2) : FVec Ideal S2048 .f32) (ix1 n) := by
  have h  : (((cfg0.win 2).blk t).view.emb (ix2 0 n) : S1x2048.Idx) = ix2 0 n := by
    blk_simp
    blk_ext [idx t]
  unfold iblk
  rw [entry_2]
  exact (congrArg (norm _) (h)).trans (norm_at _ n)

theorem blk_3 (l : Fin 2048) (n : Fin 1152) : (iblk m c 3 t : Vec Ideal S2048x1152 .bf16) (ix2 l n)
    = (if h : (n : ℕ) < 1088 then (m ((c : Thread nD τ).loc main_arg3) : FVec Ideal S2048x8256 .f32) (ix2 l ⟨n, by omega⟩) else 0 : EReal) := by
  have h  : (((cfg0.win 3).blk t).view.emb (ix2 l n) : S2048x1152.Idx) = ix2 l n := by
    blk_simp
    blk_ext [idx t]
  unfold iblk
  rw [entry_3]
  exact (congrArg (downWeights _) (h)).trans (downWeights_at _ l n)

theorem blk_4 (n : Fin 512) : (iblk m c 4 t : Vec Ideal S1x512 .f32) (ix2 0 n)
    = (m ((c : Thread nD τ).loc main_arg4) : FVec Ideal S512 .f32) (ix1 n) := by
  have h  : (((cfg0.win 4).blk t).view.emb (ix2 0 n) : S1x512.Idx) = ix2 0 n := by
    blk_simp
    blk_ext [idx t]
  unfold iblk
  rw [entry_4]
  exact (congrArg (latentNorm _) (h)).trans (latentNorm_at _ n)

theorem blk_5 (n : Fin 512) : (iblk m c 5 t : Vec Ideal S1x512 .f32) (ix2 0 n)
    = (m ((c : Thread nD τ).loc main_arg6) : FVec Ideal S512 .f32) (ix1 n) := by
  have h  : (((cfg0.win 5).blk t).view.emb (ix2 0 n) : S1x512.Idx) = ix2 0 n := by
    blk_simp
    blk_ext [idx t]
  unfold iblk
  rw [entry_5]
  exact (congrArg (latentNorm _) (h)).trans (latentNorm_at _ n)

theorem blk_6 (l : Fin 512) (q : Fin 8) (e : Fin 128) : (iblk m c 6 t : Vec Ideal S512x1024 .bf16) (ix2 l (col q e))
    = (m ((c : Thread nD τ).loc main_arg5) : FVec Ideal S512x1536 .f32) (ix2 l ⟨192 * q + e, by omega⟩) := by
  have h (n : Fin 1024) : (((cfg0.win 6).blk t).view.emb (ix2 l n) : S512x1024.Idx) = ix2 l n := by
    blk_simp
    blk_ext [idx t]
  unfold iblk
  rw [entry_6]
  exact (congrArg (queryFirst _) (h _)).trans (queryFirst_at _ l q e)

theorem blk_7 (l : Fin 512) (q : Fin 8) (e : Fin 128) : (iblk m c 7 t : Vec Ideal S512x1024 .bf16) (ix2 l (col q e))
    = (if h : (e : ℕ) < 64 then (m ((c : Thread nD τ).loc main_arg5) : FVec Ideal S512x1536 .f32) (ix2 l ⟨192 * q + (128 + e), by omega⟩) else 0 : EReal) := by
  have h (n : Fin 1024) : (((cfg0.win 7).blk t).view.emb (ix2 l n) : S512x1024.Idx) = ix2 l n := by
    blk_simp
    blk_ext [idx t]
  unfold iblk
  rw [entry_7]
  exact (congrArg (queryLast _) (h _)).trans (queryLast_at _ l q e)

theorem blk_8 (l : Fin 512) (q : Fin 8) (e : Fin 128) : (iblk m c 8 t : Vec Ideal S512x1024 .bf16) (ix2 l (col q e))
    = (m ((c : Thread nD τ).loc main_arg7) : FVec Ideal S512x2048 .f32) (ix2 l ⟨256 * q + e, by omega⟩) := by
  have h (n : Fin 1024) : (((cfg0.win 8).blk t).view.emb (ix2 l n) : S512x1024.Idx) = ix2 l n := by
    blk_simp
    blk_ext [idx t]
  unfold iblk
  rw [entry_8]
  exact (congrArg (keyWeights _) (h _)).trans (keyWeights_at _ l q e)

theorem blk_9 (l : Fin 512) (q : Fin 8) (e : Fin 128) : (iblk m c 9 t : Vec Ideal S512x1024 .bf16) (ix2 l (col q e))
    = (m ((c : Thread nD τ).loc main_arg7) : FVec Ideal S512x2048 .f32) (ix2 l ⟨256 * q + (128 + e), by omega⟩) := by
  have h (n : Fin 1024) : (((cfg0.win 9).blk t).view.emb (ix2 l n) : S512x1024.Idx) = ix2 l n := by
    blk_simp
    blk_ext [idx t]
  unfold iblk
  rw [entry_9]
  exact (congrArg (valueWeights _) (h _)).trans (valueWeights_at _ l q e)

theorem blk_10 (l : Fin 256) : (iblk m c 10 t : Vec Ideal S1x256 .f32) (ix2 0 l)
    = padded (fun d => (m ((c : Thread nD τ).loc main_arg8) : FVec Ideal S192 .f32) (ix1 d)) l := by
  have h  : (((cfg0.win 10).blk t).view.emb (ix2 0 l) : S1x256.Idx) = ix2 0 l := by
    blk_simp
    blk_ext [idx t]
  unfold iblk
  rw [entry_10]
  exact (congrArg (headNorm _) (h)).trans (headNorm_at _ l)

theorem blk_11 (l : Fin 256) : (iblk m c 11 t : Vec Ideal S1x256 .f32) (ix2 0 l)
    = padded (fun d => (m ((c : Thread nD τ).loc main_arg9) : FVec Ideal S192 .f32) (ix1 d)) l := by
  have h  : (((cfg0.win 11).blk t).view.emb (ix2 0 l) : S1x256.Idx) = ix2 0 l := by
    blk_simp
    blk_ext [idx t]
  unfold iblk
  rw [entry_11]
  exact (congrArg (headNorm _) (h)).trans (headNorm_at _ l)

theorem blk_12 (r : Fin 512) (l : Fin 128) : (iblk m c 12 t : Vec Ideal S512x128 .f32) (ix2 r l)
    = cosLane (fun e => (m ((c : Thread nD τ).loc main_arg10) : FVec Ideal S16x2048x32 .f32) (ix3 (batch t) (place t r) e)) l := by
  have h  : (((cfg0.win 12).blk t).view.emb (ix2 r l) : S32768x128.Idx) = ix2 (whole t r) l := by
    blk_simp
    blk_ext [idx t, whole]
  unfold iblk
  rw [entry_12]
  exact (congrArg (table (angles _) (angles _)) (h)).trans (table_cos _ _ _ _ (whole_eq t r) l)

theorem blk_13 (r : Fin 512) (l : Fin 128) : (iblk m c 13 t : Vec Ideal S512x128 .f32) (ix2 r l)
    = sinLane (fun e => (m ((c : Thread nD τ).loc main_arg11) : FVec Ideal S16x2048x32 .f32) (ix3 (batch t) (place t r) e)) l := by
  have h  : (((cfg0.win 13).blk t).view.emb (ix2 r l) : S32768x128.Idx) = ix2 (whole t r) l := by
    blk_simp
    blk_ext [idx t, whole]
  unfold iblk
  rw [entry_13]
  exact (congrArg (table (Host.negf (angles _)) (angles _)) (h)).trans (table_sin _ _ _ _ (whole_eq t r) l)

theorem read_14 (A : Buf (Elt Ideal) ((c : Thread nD τ).loc (Pipeline.arrRef spec0 14))) (r : Fin 512) (n : Fin 2048) :
    (((cfg0.win 14).blk t).view.read (Elt Ideal) A : Vec Ideal S512x2048 .bf16) (ix2 r n) = (A : FVec Ideal S32768x2048 .bf16) (ix2 (whole t r) n) := by
  have e : (((cfg0.win 14).blk t).view.emb (ix2 r n) : S32768x2048.Idx) = ix2 (whole t r) n := by
    blk_simp
    blk_ext [idx t, whole]
  exact congrArg A e

theorem read_15 (A : Buf (Elt Ideal) ((c : Thread nD τ).loc (Pipeline.arrRef spec0 15))) (r : Fin 512) (n : Fin 2048) :
    (((cfg0.win 15).blk t).view.read (Elt Ideal) A : Vec Ideal S512x2048 .bf16) (ix2 r n) = (A : FVec Ideal S32768x2048 .bf16) (ix2 (whole t r) n) := by
  have e : (((cfg0.win 15).blk t).view.emb (ix2 r n) : S32768x2048.Idx) = ix2 (whole t r) n := by
    blk_simp
    blk_ext [idx t, whole]
  exact congrArg A e

theorem read_16 (A : Buf (Elt Ideal) ((c : Thread nD τ).loc (Pipeline.arrRef spec0 16))) (r : Fin 512) (n : Fin 2048) :
    (((cfg0.win 16).blk t).view.read (Elt Ideal) A : Vec Ideal S512x2048 .bf16) (ix2 r n) = (A : FVec Ideal S32768x2048 .bf16) (ix2 (whole t r) n) := by
  have e : (((cfg0.win 16).blk t).view.emb (ix2 r n) : S32768x2048.Idx) = ix2 (whole t r) n := by
    blk_simp
    blk_ext [idx t, whole]
  exact congrArg A e

theorem read_17 (A : Buf (Elt Ideal) ((c : Thread nD τ).loc (Pipeline.arrRef spec0 17))) (r : Fin 512) (n : Fin 1024) :
    (((cfg0.win 17).blk t).view.read (Elt Ideal) A : Vec Ideal S512x1024 .bf16) (ix2 r n) = (A : FVec Ideal S32768x1024 .bf16) (ix2 (whole t r) n) := by
  have e : (((cfg0.win 17).blk t).view.emb (ix2 r n) : S32768x1024.Idx) = ix2 (whole t r) n := by
    blk_simp
    blk_ext [idx t, whole]
  exact congrArg A e

/-- Every grid point writes its blocks back. -/
theorem flush_14 : ∀ t : Fin cfg0.N, (cfg0.win 14).flush t = true := (by decide +kernel : ∀ t : Fin grid0.N, win0_14.flush t = true)
@[inherit_doc flush_14] theorem flush_15 : ∀ t : Fin cfg0.N, (cfg0.win 15).flush t = true := (by decide +kernel : ∀ t : Fin grid0.N, win0_15.flush t = true)
@[inherit_doc flush_14] theorem flush_16 : ∀ t : Fin cfg0.N, (cfg0.win 16).flush t = true := (by decide +kernel : ∀ t : Fin grid0.N, win0_16.flush t = true)
@[inherit_doc flush_14] theorem flush_17 : ∀ t : Fin cfg0.N, (cfg0.win 17).flush t = true := (by decide +kernel : ∀ t : Fin grid0.N, win0_17.flush t = true)

end Blocks

section Result
variable (m : (ℓ : Loc nD τ sig) → Buf (Elt Ideal) ℓ) (c : Dev nD)

/-- The program's projected row at batch `b` and position `i`, and the heads made of it. -/
def row (b : Fin 16) (i : Fin 2048) : Fin 8256 → EReal :=
  proj (m ((c : Thread nD τ).loc main_arg0)) (m ((c : Thread nD τ).loc main_arg1)) (m ((c : Thread nD τ).loc main_arg2)) (m ((c : Thread nD τ).loc main_arg3)) b i
@[inherit_doc row] def queries (b : Fin 16) (i : Fin 2048) : Fin 8 → Fin 192 → EReal :=
  queryHead (row m c b i) (m ((c : Thread nD τ).loc main_arg4)) (m ((c : Thread nD τ).loc main_arg5))
@[inherit_doc row] def keys (b : Fin 16) (i : Fin 2048) : Fin 8 → Fin 192 → EReal :=
  keyHead (row m c b i) (m ((c : Thread nD τ).loc main_arg6)) (m ((c : Thread nD τ).loc main_arg7))
@[inherit_doc row] def values (b : Fin 16) (i : Fin 2048) : Fin 8 → Fin 128 → EReal :=
  valueHead (row m c b i) (m ((c : Thread nD τ).loc main_arg6)) (m ((c : Thread nD τ).loc main_arg7))

section Point
variable (t : Fin cfg0.N) (r : Fin 512)

theorem hidden_at (n : Fin 2048) : hidden (iblk m c 0 t) (iblk m c 1 t) (iblk m c 2 t) r n
    = hid (m ((c : Thread nD τ).loc main_arg0)) (m ((c : Thread nD τ).loc main_arg1)) (m ((c : Thread nD τ).loc main_arg2)) (batch t) (place t r) n := by
  unfold hidden hid
  rw [funext fun l => blk_0 m c t r l, funext fun l => blk_1 m c t 1 l, funext fun l => blk_1 m c t 0 l, funext fun l => blk_2 m c t l]

theorem down_at (n : Fin 1152) : down (iblk m c 0 t) (iblk m c 1 t) (iblk m c 2 t) (iblk m c 3 t) r n
    = if h : (n : ℕ) < 1088 then row m c (batch t) (place t r) ⟨n, by omega⟩ else 0 := by
  unfold down
  by_cases h : (n : ℕ) < 1088
  · rw [dif_pos h]
    exact Finset.sum_congr rfl fun l _ => congrArg₂ (· * ·) (hidden_at m c t r l) ((blk_3 m c t l n).trans (dif_pos h))
  · rw [dif_neg h]
    exact Finset.sum_eq_zero fun l _ => (congrArg (_ * ·) ((blk_3 m c t l n).trans (dif_neg h))).trans (mul_zero _)

/-- A latent row's projection up, by the weights the block holds and the norm's. -/
theorem up_at (o : ℕ) (ho : o + 512 ≤ 1024) (u : Vec Ideal S1x512 .f32) (z : Vec Ideal S512x1024 .bf16) (n : Fin 1024) (u' : FVec Ideal S512 .f32)
    (w : Fin 512 → EReal) (hu : ∀ e : Fin 512, u (ix2 0 e) = u' (ix1 e)) (hz : ∀ l : Fin 512, z (ix2 l n) = w l) :
    up (iblk m c 0 t) (iblk m c 1 t) (iblk m c 2 t) (iblk m c 3 t) o (by omega) u z r n = raise o (by omega) (row m c (batch t) (place t r)) u' w := by
  unfold up raise
  rw [funext hu, funext fun e : Fin 512 => (down_at m c t r ⟨o + e, by omega⟩).trans (dif_pos (by simp only; omega))]
  exact Finset.sum_congr rfl fun l _ => congrArg (_ * ·) (hz l)

/-- The shared lanes are the last ones of every head of the keys. -/
theorem shared_back (q : Fin 8) (l : Fin 128) : down (iblk m c 0 t) (iblk m c 1 t) (iblk m c 2 t) (iblk m c 3 t) r ⟨1024 + l, by omega⟩ = back (keys m c (batch t) (place t r) q) l := by
  rw [down_at]
  unfold back keys keyHead
  by_cases h : (l : ℕ) < 64
  · rw [dif_pos (by simp only; omega), dif_pos h, dif_neg (by simp only; omega)]
    exact congrArg _ (Fin.ext (by simp only; omega))
  · rw [dif_neg (by simp only; omega), dif_neg h]

theorem query_front (q : Fin 8) (l : Fin 128) : k0_pay107 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r (col q l))
    = front (queries m c (batch t) (place t r) q) l :=
  (queries_front _ _ _ _ _ _ _ _ _ _ _ _ _ _ r (col q l)).trans
    (up_at m c t r 0 (by omega) _ _ _ _ _ (fun e => blk_4 m c t e) (fun e => blk_6 m c t e q l))

theorem query_back (q : Fin 8) (l : Fin 128) : k0_pay108 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r (col q l))
    = back (queries m c (batch t) (place t r) q) l := by
  refine (queries_back _ _ _ _ _ _ _ _ _ _ _ _ _ _ r (col q l)).trans ?_
  refine (up_at m c t r 0 (by omega) _ _ _ _ _ (fun e => blk_4 m c t e) (fun e => blk_7 m c t e q l)).trans ?_
  unfold back raise
  by_cases h : (l : ℕ) < 64
  · simp only [dif_pos h]
    rfl
  · simp only [dif_neg h, mul_zero, Finset.sum_const_zero]

theorem key_front (q : Fin 8) (l : Fin 128) : k0_pay109 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r (col q l))
    = front (keys m c (batch t) (place t r) q) l := by
  refine (keys_front _ _ _ _ _ _ _ _ _ _ _ _ _ _ r (col q l)).trans ?_
  refine (up_at m c t r 512 (by omega) _ _ _ _ _ (fun e => blk_5 m c t e) (fun e => blk_8 m c t e q l)).trans ?_
  unfold front keys keyHead
  rw [dif_pos (by simp only; omega)]

theorem key_squares (q : Fin 8) : k0_pay114 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r 0)
    = ∑ l, back (keys m c (batch t) (place t r) q) l * back (keys m c (batch t) (place t r) q) l := by
  refine (shared_squares _ _ _ _ _ _ _ _ _ _ _ _ _ _ r).trans ?_
  rw [funext fun l : Fin 128 => congrArg₂ (· * ·) (shared_back m c t r q l) (shared_back m c t r q l)]

theorem key_rolled (q : Fin 8) (l : Fin 128) : k0_pay115 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r l)
    = rolled (back (keys m c (batch t) (place t r) q)) (padded fun d => (m ((c : Thread nD τ).loc main_arg9) : FVec Ideal S192 .f32) (ix1 d))
        (cosLane fun e => (m ((c : Thread nD τ).loc main_arg10) : FVec Ideal S16x2048x32 .f32) (ix3 (batch t) (place t r) e))
        (sinLane fun e => (m ((c : Thread nD τ).loc main_arg11) : FVec Ideal S16x2048x32 .f32) (ix3 (batch t) (place t r) e)) l := by
  refine (shared_rolled _ _ _ _ _ _ _ _ _ _ _ _ _ _ r l).trans ?_
  rw [funext fun e : Fin 128 => shared_back m c t r q e, funext fun e => blk_11 m c t e, funext fun e => blk_12 m c t r e, funext fun e => blk_13 m c t r e]

theorem point_14 (n : Fin 2048) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r n)
    = hid (m ((c : Thread nD τ).loc main_arg0)) (m ((c : Thread nD τ).loc main_arg1)) (m ((c : Thread nD τ).loc main_arg2)) (batch t) (place t r) n :=
  (block_14 _ _ _ _ _ _ _ _ _ _ _ _ _ _ r n).trans (hidden_at m c t r n)

theorem point_15 (n : Fin 2048) : out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r n)
    = query (queries m c (batch t) (place t r)) (fun d => (m ((c : Thread nD τ).loc main_arg8) : FVec Ideal S192 .f32) (ix1 d))
        (fun e => (m ((c : Thread nD τ).loc main_arg10) : FVec Ideal S16x2048x32 .f32) (ix3 (batch t) (place t r) e))
        (fun e => (m ((c : Thread nD τ).loc main_arg11) : FVec Ideal S16x2048x32 .f32) (ix3 (batch t) (place t r) e)) n :=
  block_15 _ _ _ _ _ _ _ _ _ _ _ _ _ _ (fun r => queries m c (batch t) (place t r)) _ (fun r e => (m ((c : Thread nD τ).loc main_arg10) : FVec Ideal S16x2048x32 .f32) (ix3 (batch t) (place t r) e))
    (fun r e => (m ((c : Thread nD τ).loc main_arg11) : FVec Ideal S16x2048x32 .f32) (ix3 (batch t) (place t r) e)) (query_front m c t) (query_back m c t)
    (blk_10 m c t) (blk_12 m c t) (blk_13 m c t) (ix2 r n)

theorem point_16 (n : Fin 2048) : out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r n)
    = key (keys m c (batch t) (place t r)) (fun d => (m ((c : Thread nD τ).loc main_arg9) : FVec Ideal S192 .f32) (ix1 d))
        (fun e => (m ((c : Thread nD τ).loc main_arg10) : FVec Ideal S16x2048x32 .f32) (ix3 (batch t) (place t r) e))
        (fun e => (m ((c : Thread nD τ).loc main_arg11) : FVec Ideal S16x2048x32 .f32) (ix3 (batch t) (place t r) e)) n :=
  block_16 _ _ _ _ _ _ _ _ _ _ _ _ _ _ (fun r => keys m c (batch t) (place t r)) _ (fun r e => (m ((c : Thread nD τ).loc main_arg10) : FVec Ideal S16x2048x32 .f32) (ix3 (batch t) (place t r) e))
    (fun r e => (m ((c : Thread nD τ).loc main_arg11) : FVec Ideal S16x2048x32 .f32) (ix3 (batch t) (place t r) e)) (key_front m c t) (blk_11 m c t)
    (key_squares m c t) (key_rolled m c t) (ix2 r n)

theorem point_17 (q : Fin 8) (l : Fin 128) : out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r (col q l))
    = values m c (batch t) (place t r) q l :=
  (block_17 _ _ _ _ _ _ _ _ _ _ _ _ _ _ r (col q l)).trans
    (up_at m c t r 512 (by omega) _ _ _ _ _ (fun e => blk_5 m c t e) (fun e => blk_9 m c t e q l))

end Point

/-- Every batch and position is a row of a grid point. -/
theorem point_of (b : Fin 16) (i : Fin 2048) (R : Fin 32768) (hR : (R : ℕ) = 2048 * b + i) :
    ∃ (t : Fin cfg0.N) (r : Fin 512), R = whole t r ∧ b = batch t ∧ i = place t r :=
  ⟨⟨(R : ℕ) / 512, by show _ < 64; omega⟩, ⟨(R : ℕ) % 512, by omega⟩, Fin.ext (by simp only [whole]; omega), Fin.ext (by simp only [batch]; omega),
    Fin.ext (by simp only [place]; omega)⟩

section Final
variable (b : Fin 16) (i : Fin 2048) (R : Fin 32768) (hR : (R : ℕ) = 2048 * b + i)
include hR

/-- The first result, at an entry. -/
theorem hidden_result (n : Fin 2048) : ((dats m 0 c).arrAt 14 cfg0.N : FVec Ideal S32768x2048 .bf16) (ix2 R n)
    = hid (m ((c : Thread nD τ).loc main_arg0)) (m ((c : Thread nD τ).loc main_arg1)) (m ((c : Thread nD τ).loc main_arg2)) b i n := by
  obtain ⟨t, r, rfl, rfl, rfl⟩ := point_of b i R hR
  refine (read_14 c t ((dats m 0 c).arrAt 14 cfg0.N) r n).symm.trans ?_
  rw [Value.blocks14 m c t (flush_14 t), Value.flushed14]
  exact point_14 m c t r n

/-- The queries, at an entry. -/
theorem query_result (n : Fin 2048) : ((dats m 0 c).arrAt 15 cfg0.N : FVec Ideal S32768x2048 .bf16) (ix2 R n)
    = query (queries m c b i) (fun d => (m ((c : Thread nD τ).loc main_arg8) : FVec Ideal S192 .f32) (ix1 d))
        (fun e => (m ((c : Thread nD τ).loc main_arg10) : FVec Ideal S16x2048x32 .f32) (ix3 b i e))
        (fun e => (m ((c : Thread nD τ).loc main_arg11) : FVec Ideal S16x2048x32 .f32) (ix3 b i e)) n := by
  obtain ⟨t, r, rfl, rfl, rfl⟩ := point_of b i R hR
  refine (read_15 c t ((dats m 0 c).arrAt 15 cfg0.N) r n).symm.trans ?_
  rw [Value.blocks15 m c t (flush_15 t), Value.flushed15]
  exact point_15 m c t r n

/-- The keys, at an entry. -/
theorem key_result (n : Fin 2048) : ((dats m 0 c).arrAt 16 cfg0.N : FVec Ideal S32768x2048 .bf16) (ix2 R n)
    = key (keys m c b i) (fun d => (m ((c : Thread nD τ).loc main_arg9) : FVec Ideal S192 .f32) (ix1 d))
        (fun e => (m ((c : Thread nD τ).loc main_arg10) : FVec Ideal S16x2048x32 .f32) (ix3 b i e))
        (fun e => (m ((c : Thread nD τ).loc main_arg11) : FVec Ideal S16x2048x32 .f32) (ix3 b i e)) n := by
  obtain ⟨t, r, rfl, rfl, rfl⟩ := point_of b i R hR
  refine (read_16 c t ((dats m 0 c).arrAt 16 cfg0.N) r n).symm.trans ?_
  rw [Value.blocks16 m c t (flush_16 t), Value.flushed16]
  exact point_16 m c t r n

/-- The values, at an entry. -/
theorem value_result (q : Fin 8) (l : Fin 128) : ((dats m 0 c).arrAt 17 cfg0.N : FVec Ideal S32768x1024 .bf16) (ix2 R (col q l))
    = values m c b i q l := by
  obtain ⟨t, r, rfl, rfl, rfl⟩ := point_of b i R hR
  refine (read_17 c t ((dats m 0 c).arrAt 17 cfg0.N) r (col q l)).symm.trans ?_
  rw [Value.blocks17 m c t (flush_17 t), Value.flushed17]
  exact point_17 m c t r q l

end Final

end Result

end Cert.Lat

end
-- ==== Proof.Lat.RefValue.lean ====
/-
  The reference of the latent attention's preparation, operation by operation: the modulated norm, the projections, the norms over a latent and
  over a head, the turn, each read at an entry; composed, they are Proof/Lat/Point.lean `hid`, `queryHead`, `keyHead` and `valueHead`, and
  Proof/Lat/Block.lean `query` and `key`.
-/
module

public import proofs.«01_k».proof.Proof.Gen.Reference6Ideal.Run
public import proofs.«01_k».proof.Proof.Outproj.RefValue
public import proofs.«01_k».proof.Proof.Lat.Point

@[expose] public section

set_option maxRecDepth 16384

noncomputable section

namespace Cert.Lat.Ref

open Cert.Reference6Ideal Cert.Reference6Ideal.Gen Cert.Reference6Ideal.Value Idealize.ShloMosaic Idealize.ShloMosaic.TcCoe Idealize.SL.Sem Idealize.ShloMosaic.StableHlo
open Cert.Outproj (part)

/-- The parts of the modulation. -/
def shift (mod : FVec Ideal S16x12288 .f32) : FVec Ideal S16x2048 .f32 := extractStridedSlice S16x2048 ![0, 0] mod slices_S16x12288_S16x2048_0_0
@[inherit_doc shift] def gain (mod : FVec Ideal S16x12288 .f32) : FVec Ideal S16x2048 .f32 := extractStridedSlice S16x2048 ![0, 2048] mod slices_S16x12288_S16x2048_0_2048

/-- The modulated norm of the rows. -/
def hiddenRows (x : FVec Ideal S16x2048x2048 .f32) (mod : FVec Ideal S16x12288 .f32) (v : FVec Ideal S2048 .f32) : FVec Ideal S16x2048x2048 .f32 :=
  Cert.Outproj.Ref.modulated x v (gain mod) (shift mod)

/-- The rows' projection. -/
def projected (h : FVec Ideal S16x2048x2048 .f32) (w : FVec Ideal S2048x8256 .f32) : FVec Ideal S16x2048x8256 .f32 :=
  Host.dotGeneral dot_S16x2048x2048_S2048x8256_S16x2048x8256_2_0_01_1_n_n none h w

/-- The queries' latent, and the keys' and the values'. -/
def queryLatent (p : FVec Ideal S16x2048x8256 .f32) : FVec Ideal S16x2048x512 .f32 :=
  extractStridedSlice S16x2048x512 ![0, 0, 0] p slices_S16x2048x8256_S16x2048x512_0_0_0
@[inherit_doc queryLatent] def sharedLatent (p : FVec Ideal S16x2048x8256 .f32) : FVec Ideal S16x2048x512 .f32 :=
  extractStridedSlice S16x2048x512 ![0, 0, 512] p slices_S16x2048x8256_S16x2048x512_0_0_512

/-- A latent over the root of its mean square, times the weights. -/
def normedLatent (x : FVec Ideal S16x2048x512 .f32) (g : FVec Ideal S512 .f32) : FVec Ideal S16x2048x512 .f32 :=
  mulf (mulf x (broadcastInDim S16x2048x512 ![0, 1, 2] bcast_S16x2048x1_S16x2048x512_0_1_2 (Host.rsqrt (addf (Host.divf (broadcastInDim S16x2048x1 ![0, 1] bcast_S16x2048_S16x2048x1_0_1 (Host.reduceAdd (mulf x x) (constant S_ .f32 0x00000000#32) reducesTo_S16x2048x512_S16x2048_d2 h_S_)) (broadcastInDim S16x2048x1 ![] bcast_S_S16x2048x1 (constant S_ .f32 0x44000000#32))) (broadcastInDim S16x2048x1 ![] bcast_S_S16x2048x1 (constant S_ .f32 0x358637BD#32))))))
    (broadcastInDim S16x2048x512 ![0, 1, 2] bcast_S1x1x512_S16x2048x512_0_1_2 (broadcastInDim S1x1x512 ![2] bcast_S512_S1x1x512_2 g))

/-- The queries by head, and the keys and values by head. -/
def queriesUp (x : FVec Ideal S16x2048x512 .f32) (w : FVec Ideal S512x1536 .f32) : FVec Ideal S16x2048x8x192 .f32 :=
  shapeCast _ (Host.dotGeneral dot_S16x2048x512_S512x1536_S16x2048x1536_2_0_01_1_n_n none x w) shapeCasts_S16x2048x1536_S16x2048x8x192
@[inherit_doc queriesUp] def sharedUp (x : FVec Ideal S16x2048x512 .f32) (w : FVec Ideal S512x2048 .f32) : FVec Ideal S16x2048x8x256 .f32 :=
  shapeCast _ (Host.dotGeneral dot_S16x2048x512_S512x2048_S16x2048x2048_2_0_01_1_n_n none x w) shapeCasts_S16x2048x2048_S16x2048x8x256

/-- The keys: each head's own lanes, and the row's shared ones. -/
def joined (k : FVec Ideal S16x2048x8x256 .f32) (p : FVec Ideal S16x2048x8256 .f32) : FVec Ideal S16x2048x8x192 .f32 :=
  concatenate S16x2048x8x192 3 [⟨S16x2048x8x128, extractStridedSlice S16x2048x8x128 ![0, 0, 0, 0] k slices_S16x2048x8x256_S16x2048x8x128_0_0_0_0⟩,
    ⟨S16x2048x8x64, broadcastInDim S16x2048x8x64 ![0, 1, 2, 3] bcast_S16x2048x1x64_S16x2048x8x64_0_1_2_3 (broadcastInDim S16x2048x1x64 ![0, 1, 3] bcast_S16x2048x64_S16x2048x1x64_0_1_3
      (extractStridedSlice S16x2048x64 ![0, 0, 1024] p slices_S16x2048x8256_S16x2048x64_0_0_1024))⟩] concatenates_S16x2048x8x128_S16x2048x8x64_S16x2048x8x192_d3

/-- A head over the root of its mean square, times the weights. -/
def normedHead (x : FVec Ideal S16x2048x8x192 .f32) (g : FVec Ideal S192 .f32) : FVec Ideal S16x2048x8x192 .f32 :=
  mulf (mulf x (broadcastInDim S16x2048x8x192 ![0, 1, 2, 3] bcast_S16x2048x8x1_S16x2048x8x192_0_1_2_3 (Host.rsqrt (addf (Host.divf (broadcastInDim S16x2048x8x1 ![0, 1, 2] bcast_S16x2048x8_S16x2048x8x1_0_1_2 (Host.reduceAdd (mulf x x) (constant S_ .f32 0x00000000#32) reducesTo_S16x2048x8x192_S16x2048x8_d3 h_S_)) (broadcastInDim S16x2048x8x1 ![] bcast_S_S16x2048x8x1 (constant S_ .f32 0x43400000#32))) (broadcastInDim S16x2048x8x1 ![] bcast_S_S16x2048x8x1 (constant S_ .f32 0x358637BD#32))))))
    (broadcastInDim S16x2048x8x192 ![0, 1, 2, 3] bcast_S1x1x1x192_S16x2048x8x192_0_1_2_3 (broadcastInDim S1x1x1x192 ![3] bcast_S192_S1x1x1x192_3 g))

/-- A head's last 64 lanes, and their first and second halves. -/
def tail (y : FVec Ideal S16x2048x8x192 .f32) : FVec Ideal S16x2048x8x64 .f32 :=
  extractStridedSlice S16x2048x8x64 ![0, 0, 0, 128] y slices_S16x2048x8x192_S16x2048x8x64_0_0_0_128
@[inherit_doc tail] def half (y : FVec Ideal S16x2048x8x192 .f32) : FVec Ideal S16x2048x8x32 .f32 :=
  extractStridedSlice S16x2048x8x32 ![0, 0, 0, 0] (tail y) slices_S16x2048x8x64_S16x2048x8x32_0_0_0_0
@[inherit_doc tail] def other (y : FVec Ideal S16x2048x8x192 .f32) : FVec Ideal S16x2048x8x32 .f32 :=
  extractStridedSlice S16x2048x8x32 ![0, 0, 0, 32] (tail y) slices_S16x2048x8x64_S16x2048x8x32_0_0_0_32

/-- The positions' cosines or sines, for every head. -/
def spread (x : FVec Ideal S16x2048x32 .f32) : FVec Ideal S16x2048x8x32 .f32 :=
  broadcastInDim S16x2048x8x32 ![0, 1, 2, 3] bcast_S16x2048x1x32_S16x2048x8x32_0_1_2_3 (broadcastInDim S16x2048x1x32 ![0, 1, 3] bcast_S16x2048x32_S16x2048x1x32_0_1_3 x)

/-- The heads, turned and padded with zeros. -/
def turnedHead (y : FVec Ideal S16x2048x8x192 .f32) (cs sn : FVec Ideal S16x2048x32 .f32) : FVec Ideal S16x2048x8x256 .f32 :=
  concatenate S16x2048x8x256 3 [⟨S16x2048x8x128, extractStridedSlice S16x2048x8x128 ![0, 0, 0, 0] y slices_S16x2048x8x192_S16x2048x8x128_0_0_0_0⟩,
    ⟨S16x2048x8x64, concatenate S16x2048x8x64 3 [⟨S16x2048x8x32, subf (mulf (half y) (spread cs)) (mulf (other y) (spread sn))⟩,
      ⟨S16x2048x8x32, addf (mulf (half y) (spread sn)) (mulf (other y) (spread cs))⟩] concatenates_S16x2048x8x32_S16x2048x8x32_S16x2048x8x64_d3⟩,
    ⟨S16x2048x8x64, broadcastInDim S16x2048x8x64 ![] bcast_S_S16x2048x8x64 (constant S_ .f32 0x00000000#32)⟩]
    concatenates_S16x2048x8x128_S16x2048x8x64_S16x2048x8x64_S16x2048x8x256_d3

/-- The queries over their temperature. -/
def tempered (z : FVec Ideal S16x2048x8x256 .f32) : FVec Ideal S16x2048x8x256 .f32 :=
  Host.divf z (broadcastInDim S16x2048x8x256 ![] bcast_S_S16x2048x8x256 (mulf (Host.sqrt (constant S_ .f32 0x43400000#32)) (Host.log (constant S_ .f32 0x40000000#32))))

/-- The results' layouts. -/
def flatHidden (h : FVec Ideal S16x2048x2048 .f32) : FVec Ideal S32768x2048 .bf16 :=
  truncf .bf16 (shapeCast S32768x2048 h shapeCasts_S16x2048x2048_S32768x2048) bitsLt_bf16_f32
@[inherit_doc flatHidden] def flatHeads (z : FVec Ideal S16x2048x8x256 .f32) : FVec Ideal S32768x2048 .bf16 :=
  truncf .bf16 (shapeCast S32768x2048 z shapeCasts_S16x2048x8x256_S32768x2048) bitsLt_bf16_f32
@[inherit_doc flatHidden] def flatValues (k : FVec Ideal S16x2048x8x256 .f32) : FVec Ideal S32768x1024 .bf16 :=
  truncf .bf16 (shapeCast S32768x1024 (extractStridedSlice S16x2048x8x128 ![0, 0, 0, 128] k slices_S16x2048x8x256_S16x2048x8x128_0_0_0_128)
    shapeCasts_S16x2048x8x128_S32768x1024) bitsLt_bf16_f32

/-! ## Each at an entry -/

theorem shift_at (mod : FVec Ideal S16x12288 .f32) (b : Fin 16) (n : Fin 2048) : shift mod (ix2 b n) = mod (ix2 b (part 0 n)) := by
  pointwise [shift, part]

theorem gain_at (mod : FVec Ideal S16x12288 .f32) (b : Fin 16) (n : Fin 2048) : gain mod (ix2 b n) = mod (ix2 b (part 1 n)) := by
  pointwise [gain, part]

theorem hiddenRows_at (x : FVec Ideal S16x2048x2048 .f32) (mod : FVec Ideal S16x12288 .f32) (v : FVec Ideal S2048 .f32) (b : Fin 16) (i n : Fin 2048) :
    hiddenRows x mod v (ix3 b i n) = hid x mod v b i n := by
  refine (Cert.Outproj.Ref.modulated_at x v (gain mod) (shift mod) b i n).trans ?_
  rw [funext fun l => gain_at mod b l, funext fun l => shift_at mod b l]
  rfl

theorem projected_at (x : FVec Ideal S16x2048x2048 .f32) (mod : FVec Ideal S16x12288 .f32) (v : FVec Ideal S2048 .f32) (w : FVec Ideal S2048x8256 .f32)
    (b : Fin 16) (i : Fin 2048) (n : Fin 8256) : projected (hiddenRows x mod v) w (ix3 b i n) = proj x mod v w b i n := by
  unfold proj
  rw [← funext fun l => hiddenRows_at x mod v b i l]
  generalize hiddenRows x mod v = h
  pointwise [projected]

theorem queryLatent_at (p : FVec Ideal S16x2048x8256 .f32) (b : Fin 16) (i : Fin 2048) (e : Fin 512) :
    queryLatent p (ix3 b i e) = p (ix3 b i ⟨0 + e, by omega⟩) := by
  pointwise [queryLatent]

theorem sharedLatent_at (p : FVec Ideal S16x2048x8256 .f32) (b : Fin 16) (i : Fin 2048) (e : Fin 512) :
    sharedLatent p (ix3 b i e) = p (ix3 b i ⟨512 + e, by omega⟩) := by
  pointwise [sharedLatent]

theorem normedLatent_at (x : FVec Ideal S16x2048x512 .f32) (g : FVec Ideal S512 .f32) (b : Fin 16) (i : Fin 2048) (n : Fin 512) :
    normedLatent x g (ix3 b i n) = latent (fun e => x (ix3 b i e)) (fun e => g (ix1 e)) n := by
  pointwise [normedLatent]
  rfl

theorem queriesUp_at (x : FVec Ideal S16x2048x512 .f32) (w : FVec Ideal S512x1536 .f32) (b : Fin 16) (i : Fin 2048) (q : Fin 8) (d : Fin 192) :
    queriesUp x w (ix4 b i q d) = ∑ l : Fin 512, x (ix3 b i l) * w (ix2 l ⟨192 * q + d, by omega⟩) := by
  pointwise [queriesUp]
  simp only [Nat.mul_comm 192]

theorem sharedUp_at (x : FVec Ideal S16x2048x512 .f32) (w : FVec Ideal S512x2048 .f32) (b : Fin 16) (i : Fin 2048) (q : Fin 8) (d : Fin 256) :
    sharedUp x w (ix4 b i q d) = ∑ l : Fin 512, x (ix3 b i l) * w (ix2 l ⟨256 * q + d, by omega⟩) := by
  pointwise [sharedUp]
  simp only [Nat.mul_comm 256]

theorem joined_at (k : FVec Ideal S16x2048x8x256 .f32) (p : FVec Ideal S16x2048x8256 .f32) (b : Fin 16) (i : Fin 2048) (q : Fin 8) (d : Fin 192) :
    joined k p (ix4 b i q d) = (if h : (d : ℕ) < 128 then k (ix4 b i q ⟨d, by omega⟩) else p (ix3 b i ⟨1024 + (d - 128), by omega⟩) : EReal) := by
  pointwise [joined]

theorem normedHead_at (x : FVec Ideal S16x2048x8x192 .f32) (g : FVec Ideal S192 .f32) (b : Fin 16) (i : Fin 2048) (q : Fin 8) (d : Fin 192) :
    normedHead x g (ix4 b i q d) = unit (fun e => x (ix4 b i q e)) (fun e => g (ix1 e)) d := by
  pointwise [normedHead]
  rfl

theorem half_at (y : FVec Ideal S16x2048x8x192 .f32) (b : Fin 16) (i : Fin 2048) (q : Fin 8) (r : Fin 32) :
    half y (ix4 b i q r) = y (ix4 b i q ⟨128 + r, by omega⟩) := by
  pointwise [half, tail]

theorem other_at (y : FVec Ideal S16x2048x8x192 .f32) (b : Fin 16) (i : Fin 2048) (q : Fin 8) (r : Fin 32) :
    other y (ix4 b i q r) = y (ix4 b i q ⟨128 + (32 + r), by omega⟩) := by
  pointwise [other, tail]

theorem spread_at (x : FVec Ideal S16x2048x32 .f32) (b : Fin 16) (i : Fin 2048) (q : Fin 8) (r : Fin 32) : spread x (ix4 b i q r) = x (ix3 b i r) := by
  pointwise [spread]

theorem turnedHead_at (y : FVec Ideal S16x2048x8x192 .f32) (cs sn : FVec Ideal S16x2048x32 .f32) (b : Fin 16) (i : Fin 2048) (q : Fin 8) (l : Fin 256) :
    turnedHead y cs sn (ix4 b i q l)
      = turn (fun d => y (ix4 b i q d)) (fun r => cs (ix3 b i r)) (fun r => sn (ix3 b i r)) l := by
  unfold turn
  pointwise [turnedHead]
  simp only [half_at, other_at, spread_at]
  by_cases h : (l : ℕ) < 128
  · rw [dif_pos h, dif_pos h]
  · rw [dif_neg h, dif_neg h]
    by_cases h1 : (l : ℕ) < 160
    · have e0 : (⟨128 + ((l : ℕ) - 128), by omega⟩ : Fin 192) = ⟨l, by omega⟩ := Fin.ext (by simp only; omega)
      have e1 : (⟨128 + (32 + ((l : ℕ) - 128)), by omega⟩ : Fin 192) = ⟨l + 32, by omega⟩ := Fin.ext (by simp only; omega)
      rw [dif_pos (by omega), dif_pos (by omega), dif_pos h1, e0, e1]
    · rw [dif_neg h1]
      by_cases h2 : (l : ℕ) < 192
      · have e0 : (⟨128 + ((l : ℕ) - 128 - 32), by omega⟩ : Fin 192) = ⟨l - 32, by omega⟩ := Fin.ext (by simp only; omega)
        have e1 : (⟨128 + (32 + ((l : ℕ) - 128 - 32)), by omega⟩ : Fin 192) = ⟨l, h2⟩ := Fin.ext (by simp only; omega)
        have e2 : (⟨(l : ℕ) - 128 - 32, by omega⟩ : Fin 32) = ⟨l - 160, by omega⟩ := Fin.ext (by simp only; omega)
        rw [dif_pos (by omega), dif_neg (by omega), dif_pos h2, e0, e1, e2]
      · rw [dif_neg (by omega), dif_neg h2]

theorem tempered_at (z : FVec Ideal S16x2048x8x256 .f32) (b : Fin 16) (i : Fin 2048) (q : Fin 8) (l : Fin 256) :
    tempered z (ix4 b i q l) = Ideal.div (z (ix4 b i q l)) temper := by
  pointwise [tempered]

theorem flatHidden_at (h : FVec Ideal S16x2048x2048 .f32) (b : Fin 16) (i n : Fin 2048) (R : Fin 32768) (hR : (R : ℕ) = 2048 * b + i) :
    flatHidden h (ix2 R n) = h (ix3 b i n) := by
  rw [show R = (⟨2048 * b + i, by omega⟩ : Fin 32768) from Fin.ext hR]
  pointwise [flatHidden]

theorem flatHeads_at (z : FVec Ideal S16x2048x8x256 .f32) (b : Fin 16) (i n : Fin 2048) (R : Fin 32768) (hR : (R : ℕ) = 2048 * b + i) :
    flatHeads z (ix2 R n) = z (ix4 b i (headOf n) (laneOf n)) := by
  rw [show R = (⟨2048 * b + i, by omega⟩ : Fin 32768) from Fin.ext hR]
  pointwise [flatHeads, headOf, laneOf]

theorem flatValues_at (k : FVec Ideal S16x2048x8x256 .f32) (b : Fin 16) (i : Fin 2048) (q : Fin 8) (l : Fin 128) (R : Fin 32768) (hR : (R : ℕ) = 2048 * b + i) :
    flatValues k (ix2 R (col q l)) = k (ix4 b i q ⟨128 + l, by omega⟩) := by
  rw [show R = (⟨2048 * b + i, by omega⟩ : Fin 32768) from Fin.ext hR]
  pointwise [flatValues, col]

/-! ## The results -/

section Results
variable (x : FVec Ideal S16x2048x2048 .f32) (mod : FVec Ideal S16x12288 .f32) (v : FVec Ideal S2048 .f32) (w : FVec Ideal S2048x8256 .f32)
  (u : FVec Ideal S512 .f32) (wq : FVec Ideal S512x1536 .f32) (wk : FVec Ideal S512x2048 .f32) (g : FVec Ideal S192 .f32) (cs sn : FVec Ideal S16x2048x32 .f32)

/-- The queries by head, and the keys and the values by head, from the rows. -/
def queries : FVec Ideal S16x2048x8x192 .f32 := queriesUp (normedLatent (queryLatent (projected (hiddenRows x mod v) w)) u) wq
@[inherit_doc queries] def shared : FVec Ideal S16x2048x8x256 .f32 := sharedUp (normedLatent (sharedLatent (projected (hiddenRows x mod v) w)) u) wk
@[inherit_doc queries] def keys : FVec Ideal S16x2048x8x192 .f32 := joined (shared x mod v w u wk) (projected (hiddenRows x mod v) w)

variable (b : Fin 16) (i : Fin 2048)

theorem queries_at (q : Fin 8) (d : Fin 192) : queries x mod v w u wq (ix4 b i q d) = queryHead (proj x mod v w b i) u wq q d := by
  unfold queries
  rw [queriesUp_at]
  simp only [normedLatent_at, queryLatent_at, projected_at]
  rfl

theorem shared_at (q : Fin 8) (d : Fin 256) : shared x mod v w u wk (ix4 b i q d)
    = raise 512 (by omega) (proj x mod v w b i) u fun l => wk (ix2 l ⟨256 * q + d, by omega⟩) := by
  unfold shared
  rw [sharedUp_at]
  simp only [normedLatent_at, sharedLatent_at, projected_at]
  rfl

theorem keys_at (q : Fin 8) (d : Fin 192) : keys x mod v w u wk (ix4 b i q d) = keyHead (proj x mod v w b i) u wk q d := by
  unfold keys
  rw [joined_at]
  simp only [shared_at, projected_at]
  rfl

variable (R : Fin 32768) (hR : (R : ℕ) = 2048 * b + i)
include hR

theorem hidden_ref (n : Fin 2048) : flatHidden (hiddenRows x mod v) (ix2 R n) = hid x mod v b i n :=
  (flatHidden_at _ b i n R hR).trans (hiddenRows_at x mod v b i n)

theorem key_ref (n : Fin 2048) : flatHeads (turnedHead (normedHead (keys x mod v w u wk) g) cs sn) (ix2 R n)
    = key (keyHead (proj x mod v w b i) u wk) (fun d => g (ix1 d)) (fun e => cs (ix3 b i e)) (fun e => sn (ix3 b i e)) n := by
  rw [flatHeads_at _ b i n R hR, turnedHead_at]
  simp only [normedHead_at, keys_at]
  rfl

theorem query_ref (n : Fin 2048) : flatHeads (tempered (turnedHead (normedHead (queries x mod v w u wq) g) cs sn)) (ix2 R n)
    = query (queryHead (proj x mod v w b i) u wq) (fun d => g (ix1 d)) (fun e => cs (ix3 b i e)) (fun e => sn (ix3 b i e)) n := by
  rw [flatHeads_at _ b i n R hR, tempered_at, turnedHead_at]
  simp only [normedHead_at, queries_at]
  rfl

theorem value_ref (q : Fin 8) (l : Fin 128) : flatValues (shared x mod v w u wk) (ix2 R (col q l)) = valueHead (proj x mod v w b i) u wk q l :=
  (flatValues_at _ b i q l R hR).trans (shared_at x mod v w u wk b i q _)

end Results

end Cert.Lat.Ref

end
-- ==== Proof.Lat.Claims.lean ====
/-
  The claims about the latent attention's preparation: the frames, the named constants, and the equality with the reference.
-/
module

public import proofs.«01_k».proof.Defs
public import proofs.«01_k».proof.Proof.Gen.Kernel6.Frame
public import proofs.«01_k».proof.Proof.Lat.RefValue
public import proofs.«01_k».proof.Proof.Merge.Claims

@[expose] public section

noncomputable section

namespace Cert.Lat.Claims

open Idealize.ShloMosaic Idealize.ShloMosaic.TcCoe Idealize.SL.Sem

theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2.2.2.2, Idealize.ShloMosaic.sem_eq_zero_of_no_sems (by decide) r.2⟩)
    (Cert.Reference6Ideal.Value.run (F := Ideal) m ρ)

theorem preserves : Cert.preserves_Kernel6_Kernel6Ideal :=
  ⟨IdealRules.named_const.statement Cert.Kernel6Ideal.κ "mean" .f32 0x3BAAAAAB#32 _ rfl,
    IdealRules.named_const.statement Cert.Kernel6Ideal.κ "root" .f32 0x3DD53B95#32 _ rfl⟩

/-- Two arrays that agree at every batch, position, head and lane are equal. -/
theorem ext_heads {φ : FTy} {x y : FVec Ideal ⟨2, ![32768, 1024]⟩ φ}
    (h : ∀ (b : Fin 16) (i : Fin 2048) (q : Fin 8) (l : Fin 128) (R : Fin 32768), (R : ℕ) = 2048 * b + i → x (ix2 R (col q l)) = y (ix2 R (col q l))) : x = y := by
  funext j
  have h0 : (j 0 : ℕ) < 32768 := (j 0).isLt
  have h1 : (j 1 : ℕ) < 1024 := (j 1).isLt
  have e : (j 1 : Fin 1024) = col ⟨(j 1 : ℕ) / 128, by omega⟩ ⟨(j 1 : ℕ) % 128, by omega⟩ := Fin.ext (by simp only [col]; omega)
  rw [eq_ix2 j, e]
  exact h ⟨(j 0 : ℕ) / 2048, by omega⟩ ⟨(j 0 : ℕ) % 2048, by omega⟩ _ _ (j 0) (by simp only; omega)

theorem algebraic : Cert.algebraic_Kernel6Ideal_Reference6Ideal := by
  intro m g m' g' _ hagree
  refine ⟨_, _, _, _, Cert.Kernel6Ideal.Value.run_blocks (F := Ideal) m g, ?_⟩
  refine (θ_run Cert.Reference6Ideal.defs _ _).mono
    (fun _ h c => ⟨(h c).1.trans ?_, (h c).2.1.trans ?_, (h c).2.2.1.trans ?_, (h c).2.2.2.1.trans ?_, (h c).2.2.2.2⟩)
    (Cert.Reference6Ideal.Value.run (F := Ideal) m' g')
  all_goals obtain ⟨e0, e1, e2, e3, e4, e5, e6, e7, e8, e9, e10, e11⟩ := hagree c
  · refine Cert.Merge.Claims.ext_rows fun b i n R hR => ?_
    refine Eq.trans ?_ (hidden_result m c b i R hR n).symm
    rw [← e0, ← e1, ← e2]
    exact Ref.hidden_ref _ _ _ b i R hR n
  · refine Cert.Merge.Claims.ext_rows fun b i n R hR => ?_
    refine Eq.trans ?_ (query_result m c b i R hR n).symm
    unfold queries row
    rw [← e0, ← e1, ← e2, ← e3, ← e4, ← e5, ← e8, ← e10, ← e11]
    exact Ref.query_ref _ _ _ _ _ _ _ _ _ b i R hR n
  · refine Cert.Merge.Claims.ext_rows fun b i n R hR => ?_
    refine Eq.trans ?_ (key_result m c b i R hR n).symm
    unfold keys row
    rw [← e0, ← e1, ← e2, ← e3, ← e6, ← e7, ← e9, ← e10, ← e11]
    exact Ref.key_ref _ _ _ _ _ _ _ _ _ b i R hR n
  · refine ext_heads fun b i q l R hR => ?_
    refine Eq.trans ?_ (value_result m c b i R hR q l).symm
    unfold values row
    rw [← e0, ← e1, ← e2, ← e3, ← e6, ← e7]
    exact Ref.value_ref _ _ _ _ _ _ b i R hR q l

end Cert.Lat.Claims

end
-- ==== Proof.Diff.Rows.lean ====
/-
  A row of differential attention: the difference of two rows of causal attention, the second times a factor (`diffRow`), over the root
  of its mean square (`normed`); and that the two softmaxes over two ranges of keys compute it (`diff_row`, `diff_row_first`).
-/
module

public import proofs.«01_k».proof.Proof.Rows

@[expose] public section

noncomputable section

namespace Cert.Softmax

open Idealize.ShloMosaic

/-- The products of queries and keys are the scores `s` divided by `log 2`. -/
def Scores (P : Fin 2048 → Fin 2048 → EReal) (s : Fin 2048 → Fin 2048 → ℝ) : Prop :=
  ∀ i k : Fin 2048, P i k = ((s i k * (Real.log 2)⁻¹ : ℝ) : EReal)

/-- The difference, at lane `e`. -/
def diffRow (q : ℕ) (s s' : Fin 2048 → ℝ) (w : EReal) (v : Fin 2048 → Fin 128 → EReal) (e : Fin 128) : EReal :=
  att q s (fun k => v k e) - att q s' (fun k => v k e) * w

/-- A row over the root of its mean square, times a weight, at lane `d`. -/
def normed (o g : Fin 128 → EReal) (d : Fin 128) : EReal :=
  o d * Ideal.rsqrt (Ideal.div (∑ e, o e * o e) (Ideal.ofBits .f32 0x43000000#32) + Ideal.ofBits .f32 0x358637BD#32) * g d

theorem norm_of {A : EReal} {B Q o g : Fin 128 → EReal} {d : Fin 128} (key : ∀ e, B e = o e) (hA : A = B d) (hQ : ∀ e, Q e = B e * B e) :
    A * Ideal.rsqrt (Ideal.div (∑ e, Q e) (Ideal.ofBits .f32 0x43000000#32) + Ideal.ofBits .f32 0x358637BD#32) * g d = normed o g d := by
  obtain rfl : B = o := funext key
  rw [hA, Finset.sum_congr rfl fun e _ => hQ e]
  rfl

/-- A factor over the sum of the weights is the factor times the one over it. -/
theorem mul_div_row {l A B w : EReal} (hl : ∃ x : ℝ, x ≠ 0 ∧ l = x) (h : A * Ideal.div 1 l = B) : A * Ideal.div w l = B * w := by
  obtain ⟨x, hx, rfl⟩ := hl
  rw [Ideal.div_coe hx, one_mul] at h
  rw [Ideal.div_coe hx, ← h, mul_comm w, mul_assoc]

section
variable {P P' : Fin 2048 → Fin 2048 → EReal} {s s' : Fin 2048 → Fin 2048 → ℝ}

theorem Scores.diag (h : Scores P s) (n : ℕ) (hn : n + 256 ≤ 2048) (r : Fin 256) :
    Diag n hn (s ⟨n + r, by omega⟩) r fun j => if (j : ℕ) ≤ r then P ⟨n + r, by omega⟩ ⟨n + j, by omega⟩ else ⊥ :=
  fun j => by dsimp only; rw [h]

theorem Scores.past (h : Scores P s) (n : ℕ) (hn : n + 256 ≤ 2048) (r : Fin 256) :
    Past n hn (s ⟨n + r, by omega⟩) fun j => P ⟨n + r, by omega⟩ ⟨j, by omega⟩ :=
  fun j => by dsimp only; rw [h]

theorem Scores.first (h : Scores P s) (r : Fin 256) :
    Diag 0 (by omega) (s ⟨r, by omega⟩) r fun j => if (j : ℕ) ≤ r then P ⟨r, by omega⟩ ⟨j, by omega⟩ else ⊥ :=
  fun j => by simp only [Nat.zero_add]; rw [h]

/-- The sum of the weights is a positive number. -/
theorem weights_real {n : ℕ} {hn : n + 256 ≤ 2048} {t : Fin 2048 → ℝ} {r : Fin 256} {Z : Fin 256 → EReal} {Y : Fin n → EReal}
    (hZ : Diag n hn t r Z) (hY : Past n hn t Y) (M : EReal)
    (hM : M = max (Finset.univ.fold max (Ideal.ofBits FTy.f32 0xFF800000#32) Z)
      (Finset.univ.fold max (Ideal.ofBits FTy.f32 0xFF800000#32) Y)) :
    ∃ x : ℝ, x ≠ 0 ∧ (∑ j : Fin 256, Ideal.exp2 (Z j - M)) + ∑ j : Fin n, Ideal.exp2 (Y j - M) = (x : EReal) := by
  obtain ⟨μ, hμ⟩ := both_max_real hZ hY
  refine ⟨_, ?_, (hM.trans hμ) ▸ bottom_eq hZ hY μ⟩
  rw [← Finset.sum_mul]
  exact (mul_pos (kept_sum_pos _ (by omega) t) (factor_pos μ)).ne'

/-- The first block's sum of the weights. -/
theorem weights_first {hn : 0 + 256 ≤ 2048} {t : Fin 2048 → ℝ} {r : Fin 256} {Z : Fin 256 → EReal} (hZ : Diag 0 hn t r Z) (M : EReal)
    (hM : M = Finset.univ.fold max (Ideal.ofBits FTy.f32 0xFF800000#32) Z) :
    ∃ x : ℝ, x ≠ 0 ∧ (∑ j : Fin 256, Ideal.exp2 (Z j - M)) = (x : EReal) := by
  obtain ⟨μ, hμ⟩ := hZ.max_real
  have hY : Past 0 hn t (fun j : Fin 0 => j.elim0) := fun j => j.elim0
  have h := bottom_eq hZ hY μ
  simp only [Finset.univ_eq_empty, Finset.sum_empty, add_zero] at h
  refine ⟨_, ?_, (hM.trans hμ) ▸ h⟩
  rw [← Finset.sum_mul]
  exact (mul_pos (kept_sum_pos _ (by omega) t) (factor_pos μ)).ne'

/-- A row whose keys come in two ranges. -/
theorem diff_row {n : ℕ} (hn : n + 256 ≤ 2048) (h : Scores P s) (h' : Scores P' s') (r : Fin 256) (v : Fin 2048 → EReal) (w M M' : EReal)
    (hM : M = max (Finset.univ.fold max (Ideal.ofBits FTy.f32 0xFF800000#32)
        fun j : Fin 256 => if (j : ℕ) ≤ r then P ⟨n + r, by omega⟩ ⟨n + j, by omega⟩ else ⊥)
      (Finset.univ.fold max (Ideal.ofBits FTy.f32 0xFF800000#32) fun j : Fin n => P ⟨n + r, by omega⟩ ⟨j, by omega⟩))
    (hM' : M' = max (Finset.univ.fold max (Ideal.ofBits FTy.f32 0xFF800000#32)
        fun j : Fin 256 => if (j : ℕ) ≤ r then P' ⟨n + r, by omega⟩ ⟨n + j, by omega⟩ else ⊥)
      (Finset.univ.fold max (Ideal.ofBits FTy.f32 0xFF800000#32) fun j : Fin n => P' ⟨n + r, by omega⟩ ⟨j, by omega⟩)) :
    ((∑ j : Fin 256, Ideal.exp2 ((if (j : ℕ) ≤ r then P ⟨n + r, by omega⟩ ⟨n + j, by omega⟩ else ⊥) - M) * v ⟨n + j, by omega⟩)
        + ∑ j : Fin n, Ideal.exp2 (P ⟨n + r, by omega⟩ ⟨j, by omega⟩ - M) * v ⟨j, by omega⟩)
      * Ideal.div 1 ((∑ j : Fin 256, Ideal.exp2 ((if (j : ℕ) ≤ r then P ⟨n + r, by omega⟩ ⟨n + j, by omega⟩ else ⊥) - M))
        + ∑ j : Fin n, Ideal.exp2 (P ⟨n + r, by omega⟩ ⟨j, by omega⟩ - M))
    - ((∑ j : Fin 256, Ideal.exp2 ((if (j : ℕ) ≤ r then P' ⟨n + r, by omega⟩ ⟨n + j, by omega⟩ else ⊥) - M') * v ⟨n + j, by omega⟩)
        + ∑ j : Fin n, Ideal.exp2 (P' ⟨n + r, by omega⟩ ⟨j, by omega⟩ - M') * v ⟨j, by omega⟩)
      * Ideal.div w ((∑ j : Fin 256, Ideal.exp2 ((if (j : ℕ) ≤ r then P' ⟨n + r, by omega⟩ ⟨n + j, by omega⟩ else ⊥) - M'))
        + ∑ j : Fin n, Ideal.exp2 (P' ⟨n + r, by omega⟩ ⟨j, by omega⟩ - M'))
    = att (n + r) (s ⟨n + r, by omega⟩) v - att (n + r) (s' ⟨n + r, by omega⟩) v * w :=
  congrArg₂ (· - ·) (row (h.diag n hn r) (h.past n hn r) v M hM)
    (mul_div_row (weights_real (h'.diag n hn r) (h'.past n hn r) M' hM') (row (h'.diag n hn r) (h'.past n hn r) v M' hM'))

/-- A row of the first block. -/
theorem diff_row_first (h : Scores P s) (h' : Scores P' s') (r : Fin 256) (v : Fin 2048 → EReal) (w M M' : EReal)
    (hM : M = Finset.univ.fold max (Ideal.ofBits FTy.f32 0xFF800000#32)
        fun j : Fin 256 => if (j : ℕ) ≤ r then P ⟨r, by omega⟩ ⟨j, by omega⟩ else ⊥)
    (hM' : M' = Finset.univ.fold max (Ideal.ofBits FTy.f32 0xFF800000#32)
        fun j : Fin 256 => if (j : ℕ) ≤ r then P' ⟨r, by omega⟩ ⟨j, by omega⟩ else ⊥) :
    (∑ j : Fin 256, Ideal.exp2 ((if (j : ℕ) ≤ r then P ⟨r, by omega⟩ ⟨j, by omega⟩ else ⊥) - M) * v ⟨j, by omega⟩)
      * Ideal.div 1 (∑ j : Fin 256, Ideal.exp2 ((if (j : ℕ) ≤ r then P ⟨r, by omega⟩ ⟨j, by omega⟩ else ⊥) - M))
    - (∑ j : Fin 256, Ideal.exp2 ((if (j : ℕ) ≤ r then P' ⟨r, by omega⟩ ⟨j, by omega⟩ else ⊥) - M') * v ⟨j, by omega⟩)
      * Ideal.div w (∑ j : Fin 256, Ideal.exp2 ((if (j : ℕ) ≤ r then P' ⟨r, by omega⟩ ⟨j, by omega⟩ else ⊥) - M'))
    = att r (s ⟨r, by omega⟩) v - att r (s' ⟨r, by omega⟩) v * w :=
  congrArg₂ (· - ·) (row_first (hn := by omega) (h.first r) v M hM)
    (mul_div_row (weights_first (hn := by omega) (h'.first r) M' hM') (row_first (hn := by omega) (h'.first r) v M' hM'))

end

/-! ## The plain softmaxes -/

section
variable (q : Fin 2048) {s s' : Fin 2048 → ℝ} {X X' : Fin 2048 → EReal} (M M' : EReal)
  (hX : ∀ k, X k = if (k : ℕ) ≤ q then ((s k : ℝ) : EReal) else ⊥) (hX' : ∀ k, X' k = if (k : ℕ) ≤ q then ((s' k : ℝ) : EReal) else ⊥)
  (hM : M = Finset.univ.fold max (Ideal.ofBits FTy.f32 0xFF800000#32) X) (hM' : M' = Finset.univ.fold max (Ideal.ofBits FTy.f32 0xFF800000#32) X')

include hX hM in
/-- Each weight is a real number. -/
theorem plain_weight (k : Fin 2048) :
    Ideal.div (Ideal.exp (X k - M)) (∑ j, Ideal.exp (X j - M)) = ((kept q s k * (∑ j, kept q s j)⁻¹ : ℝ) : EReal) := by
  have h := plain_row q s (fun j => if j = k then 1 else 0) X hX M hM
  simpa [att, ite_mul, mul_ite] using h

include hX hX' hM hM' in
/-- The values weighted by the difference of two softmaxes, the second times a factor, all of them real. -/
theorem plain_diff {v : Fin 2048 → EReal} (hv : ∀ k, Finite (v k)) {w : EReal} (hw : Finite w) :
    ∑ k, v k * (Ideal.div (Ideal.exp (X k - M)) (∑ j, Ideal.exp (X j - M)) - w * Ideal.div (Ideal.exp (X' k - M')) (∑ j, Ideal.exp (X' j - M')))
      = att q s v - att q s' v * w := by
  rw [← plain_row q s v X hX M hM, ← plain_row q s' v X' hX' M' hM']
  simp only [plain_weight q M hX hM, plain_weight q M' hX' hM']
  obtain ⟨x, rfl⟩ : ∃ x : ℝ, w = x := ⟨_, hw.eq⟩
  obtain ⟨y, rfl⟩ : ∃ y : Fin 2048 → ℝ, v = fun k => ((y k : ℝ) : EReal) := ⟨fun k => (v k).toReal, funext fun k => (hv k).eq⟩
  simp only [← EReal.coe_mul, ← EReal.coe_sub, coe_sum]
  congr 1
  rw [Finset.sum_mul, ← Finset.sum_sub_distrib]
  exact Finset.sum_congr rfl fun k _ => by ring
end

/-! ## The whole mixer -/

/-- The two sub-heads of head `h`. -/
def lowHead (h : Fin 8) : Fin 16 := ⟨2 * h, by omega⟩
@[inherit_doc lowHead] def highHead (h : Fin 8) : Fin 16 := ⟨2 * h + 1, by omega⟩

/-- The score of query `i` and key `j` of batch `b`, sub-head `e`. -/
def subscore (q k : FVec Ideal ⟨4, ![16, 2048, 16, 64]⟩ .f32) (b e : Fin 16) (i j : Fin 2048) : ℝ :=
  dotRow (fun l : Fin 64 => q (ix4 b i e l)) (fun l => k (ix4 b j e l)) / 8

/-- A query's lane as the kernel takes it: scaled and over `log 2`. -/
def scaled (q : FVec Ideal ⟨4, ![16, 2048, 16, 64]⟩ .f32) (b : Fin 16) (i : Fin 2048) (e : Fin 16) (l : Fin 64) : EReal :=
  Ideal.div (q (ix4 b i e l) * Ideal.ofBits .f32 0x3E000000#32) (Ideal.log (Ideal.ofBits .f32 0x40000000#32))

/-- The norm's weight at lane `e`, times one less the second factor's constant. -/
def weightOf (w : FVec Ideal ⟨1, ![128]⟩ .f32) (e : Fin 128) : EReal := w (ix1 e) * Ideal.ofBits .f32 0x3F4CCCCD#32

/-- The factor of the second softmax. -/
def factorOf (x : FVec Ideal ⟨2, ![4, 64]⟩ .f32) : EReal :=
  Ideal.exp (∑ l : Fin 64, x (ix2 0 l) * x (ix2 1 l)) - Ideal.exp (∑ l : Fin 64, x (ix2 2 l) * x (ix2 3 l)) + Ideal.ofBits .f32 0x3E4CCCCD#32

theorem factor_finite {x : FVec Ideal ⟨2, ![4, 64]⟩ .f32} (hx : ∀ y, Finite (x y)) : Finite (factorOf x) := by
  have e : Ideal.ofBits .f32 0x3E4CCCCD#32 = ((13421773 / 67108864 : ℝ) : EReal) := by
    simp [Ideal.ofBits, Ideal.ieee, ← EReal.coe_mul]; norm_num
  unfold factorOf
  rw [dotRow_eq (a := fun l : Fin 64 => x (ix2 0 l)) (b := fun l => x (ix2 1 l)) (fun _ => hx _) (fun _ => hx _),
    dotRow_eq (a := fun l : Fin 64 => x (ix2 2 l)) (b := fun l => x (ix2 3 l)) (fun _ => hx _) (fun _ => hx _), e, Ideal.exp_coe, Ideal.exp_coe,
    ← EReal.coe_sub, ← EReal.coe_add]
  exact ⟨EReal.coe_ne_top _, EReal.coe_ne_bot _⟩

/-- Differential attention: the entry at batch `b`, head `h`, query `i`, lane `d`. -/
def diff (q k : FVec Ideal ⟨4, ![16, 2048, 16, 64]⟩ .f32) (v : FVec Ideal ⟨4, ![16, 2048, 8, 128]⟩ .f32) (x : FVec Ideal ⟨2, ![4, 64]⟩ .f32)
    (w : FVec Ideal ⟨1, ![128]⟩ .f32) (b : Fin 16) (h : Fin 8) (i : Fin 2048) (d : Fin 128) : EReal :=
  normed (diffRow i (subscore q k b (lowHead h) i) (subscore q k b (highHead h) i) (factorOf x) fun j e => v (ix4 b j h e))
    (weightOf w) d

theorem eighth : Ideal.ofBits .f32 0x3E000000#32 = ((1 / 8 : ℝ) : EReal) := by
  simp [Ideal.ofBits, Ideal.ieee, ← EReal.coe_mul]; norm_num

/-- The product of a scaled query and a key. -/
theorem subscore_scaled {q k : FVec Ideal ⟨4, ![16, 2048, 16, 64]⟩ .f32} (hq : ∀ y, Finite (q y)) (hk : ∀ y, Finite (k y)) (b e : Fin 16)
    (i j : Fin 2048) :
    ∑ l : Fin 64, scaled q b i e l * k (ix4 b j e l)
      = ((subscore q k b e i j * (Real.log 2)⁻¹ : ℝ) : EReal) := by
  have hc : (8 * Real.log 2 : ℝ) ≠ 0 := mul_ne_zero (by norm_num) log2_pos.ne'
  have e1 : ∀ x : EReal, Ideal.div (x * Ideal.ofBits .f32 0x3E000000#32) (Ideal.log (Ideal.ofBits .f32 0x40000000#32))
      = Ideal.div x ((8 * Real.log 2 : ℝ) : EReal) := fun x => by
    rw [eighth, log2_lit, Ideal.div_coe log2_pos.ne', Ideal.div_coe hc, mul_assoc, ← EReal.coe_mul]
    congr 2
    rw [one_div_mul_one_div]
  simp only [scaled, e1]
  refine (scaled_dot (a := fun l => q (ix4 b i e l)) (b := fun l => k (ix4 b j e l)) (fun _ => hq _) (fun _ => hk _) _ hc).trans ?_
  congr 1
  rw [subscore, div_mul_eq_div_div, div_eq_mul_inv _ (Real.log 2)]

end Cert.Softmax

end
-- ==== Proof.Diff.Block.lean ====
/-
  What one grid point of the differential attention stores: its eight query blocks of 256 rows, each the difference of two rows of causal
  attention (Proof/Softmax.lean `att`) over the root of its mean square, given the scores of the point's two sub-heads.
-/
module

public import proofs.«01_k».proof.Proof.Gen.Kernel4Ideal.Value
public import proofs.«01_k».proof.Proof.Diff.Rows

@[expose] public section

set_option maxRecDepth 16384

noncomputable section

namespace Cert.Diff

open Cert.Kernel4Ideal Cert.Kernel4Ideal.Gen Cert.Softmax Idealize.ShloMosaic Idealize.ShloMosaic.TcCoe Idealize.SL.Sem

/-- The mask's named value. -/
theorem mask_val : Named.named (F := Ideal) κ "mask" (φ := .f32) 0xFF7F0000#32 = (⊥ : EReal) :=
  IdealRules.named_const.ideal_named_scalar _ _ _ _ rfl

theorem select_le256 (a b : Fin 256) (x y : EReal) :
    Scalar.select (IntOp.cmpi .sle (BitVec.ofNat 32 (a : ℕ)) (BitVec.ofNat 32 (b : ℕ))) x y = if (a : ℕ) ≤ b then x else y :=
  select_le (by omega) (by omega) x y

theorem exp2_def (x : EReal) : FloatOps.exp2 (F := Ideal) (φ := .f32) x = Ideal.exp2 x := rfl

/-- The product of query `i` and key `k` over the lanes of the first sub-head: the query's other lanes are masked. -/
abbrev low (q k : Vec Ideal S1x2048x128 .bf16) (i j : Fin 2048) : EReal :=
  ∑ l : Fin 128, Scalar.select (IntOp.cmpi .slt (BitVec.ofNat 32 (l : ℕ)) 64#32) (q (ix3 0 i l) * k (ix3 0 j l)) 0

/-- The same over the lanes of the second sub-head. -/
abbrev high (q k : Vec Ideal S1x2048x128 .bf16) (i j : Fin 2048) : EReal :=
  ∑ l : Fin 128, Scalar.select (IntOp.cmpi .slt (BitVec.ofNat 32 (l : ℕ)) 64#32) 0 (q (ix3 0 i l) * k (ix3 0 j l))

section
variable (x0 : Vec Ideal S4x64 .f32) (x1 : Vec Ideal S1x128 .f32) (x2 x3 x4 : Vec Ideal S1x2048x128 .bf16) {s s' : Fin 2048 → Fin 2048 → ℝ}
  (h : Scores (low x2 x3) s) (h' : Scores (high x2 x3) s') (lam : FVec Ideal S1x1 .f32) (g : FVec Ideal S1x128 .f32)
include h h'

theorem piece0 (r : Fin 256) (d : Fin 128) :
    k0_pay10 g (k0_pay8 lam (k0_pay154 x0 x1 x2 x3 x4) (k0_pay155 x0 x1 x2 x3 x4) (k0_pay156 x0 x1 x2 x3 x4) (k0_pay157 x0 x1 x2 x3 x4) (View.ld x3 r0_2) (View.ld x4 r0_2) (View.ld x4 r0_2)) (k0_pay9 lam (k0_pay154 x0 x1 x2 x3 x4) (k0_pay155 x0 x1 x2 x3 x4) (k0_pay156 x0 x1 x2 x3 x4) (k0_pay157 x0 x1 x2 x3 x4) (View.ld x3 r0_2) (View.ld x4 r0_2) (View.ld x4 r0_2)) (ix3 0 r d)
      = normed (diffRow (r) (s ⟨r, by omega⟩) (s' ⟨r, by omega⟩) (lam (ix2 0 0)) fun k e => x4 (ix3 0 k e)) (fun e => g (ix2 0 e)) d := by
  unfold_payloads
  pointwise
  simp only [select_le256, mask_val, exp2_def]
  exact norm_of (g := fun e => g (ix2 0 e)) (fun e => diff_row_first h h' r (fun k => x4 (ix3 0 k e)) (lam (ix2 0 0)) _ _ rfl rfl) rfl fun _ => rfl

theorem piece1 (r : Fin 256) (d : Fin 128) :
    k0_pay31 lam g (k0_pay20 (k0_pay18 (k0_pay154 x0 x1 x2 x3 x4) (View.ld x2 r0_3) (View.ld x3 r0_3) (View.ld x3 r0_2)) (k0_pay160 x0 x1 x2 x3 x4)) (k0_pay25 (k0_pay154 x0 x1 x2 x3 x4) (k0_pay158 x0 x1 x2 x3 x4) (k0_pay159 x0 x1 x2 x3 x4) (View.ld x3 r0_3) (View.ld x3 r0_2)) (k0_pay26 (k0_pay154 x0 x1 x2 x3 x4) (k0_pay158 x0 x1 x2 x3 x4) (k0_pay159 x0 x1 x2 x3 x4) (View.ld x3 r0_3) (View.ld x3 r0_2)) (k0_pay27 (k0_pay154 x0 x1 x2 x3 x4) (k0_pay158 x0 x1 x2 x3 x4) (k0_pay159 x0 x1 x2 x3 x4) (View.ld x3 r0_3) (View.ld x3 r0_2)) (k0_pay28 (k0_pay17 (k0_pay154 x0 x1 x2 x3 x4) (View.ld x2 r0_3) (View.ld x3 r0_3) (View.ld x3 r0_2)) (View.ld x4 r0_3)) (k0_pay29 (k0_pay160 x0 x1 x2 x3 x4)) (k0_pay30 (View.ld x4 r0_2)) (constant S256x128 .f32 0x00000000#32) (View.ld x4 r0_3) (View.ld x4 r0_2) (ix3 0 r d)
      = normed (diffRow (256 + r) (s ⟨256 + r, by omega⟩) (s' ⟨256 + r, by omega⟩) (lam (ix2 0 0)) fun k e => x4 (ix3 0 k e)) (fun e => g (ix2 0 e)) d := by
  unfold_payloads
  pointwise
  simp only [select_le256, mask_val, exp2_def]
  exact norm_of (g := fun e => g (ix2 0 e)) (fun e => diff_row (n := 256) (by omega) h h' r (fun k => x4 (ix3 0 k e)) (lam (ix2 0 0)) _ _ rfl rfl) rfl fun _ => rfl

theorem piece2 (r : Fin 256) (d : Fin 128) :
    k0_pay51 lam g (k0_pay48 (k0_pay164 x0 x1 x2 x3 x4) (k0_pay165 x0 x1 x2 x3 x4) (k0_pay166 x0 x1 x2 x3 x4) (View.ld x3 r0_5)) (k0_pay49 (k0_pay38 (k0_pay163 x0 x1 x2 x3 x4) (View.ld x3 r0_4) (View.ld x3 r0_5)) (k0_pay39 (k0_pay163 x0 x1 x2 x3 x4) (View.ld x3 r0_4) (View.ld x3 r0_5)) (k0_pay40 (k0_pay163 x0 x1 x2 x3 x4) (View.ld x3 r0_4) (View.ld x3 r0_5)) (View.ld x4 r0_4) (View.ld x4 r0_5)) (k0_pay50 (k0_pay164 x0 x1 x2 x3 x4) (k0_pay165 x0 x1 x2 x3 x4) (k0_pay166 x0 x1 x2 x3 x4) (View.ld x3 r0_5) (View.ld x4 r0_4) (View.ld x4 r0_5)) (ix3 0 r d)
      = normed (diffRow (512 + r) (s ⟨512 + r, by omega⟩) (s' ⟨512 + r, by omega⟩) (lam (ix2 0 0)) fun k e => x4 (ix3 0 k e)) (fun e => g (ix2 0 e)) d := by
  unfold_payloads
  pointwise
  simp only [select_le256, mask_val, exp2_def]
  exact norm_of (g := fun e => g (ix2 0 e)) (fun e => diff_row (n := 512) (by omega) h h' r (fun k => x4 (ix3 0 k e)) (lam (ix2 0 0)) _ _ rfl rfl) rfl fun _ => rfl

theorem piece3 (r : Fin 256) (d : Fin 128) :
    k0_pay71 (k0_pay70 lam g (k0_pay60 (k0_pay170 x0 x1 x2 x3 x4) (k0_pay171 x0 x1 x2 x3 x4)) (k0_pay61 (k0_pay169 x0 x1 x2 x3 x4) (k0_pay170 x0 x1 x2 x3 x4) (k0_pay171 x0 x1 x2 x3 x4)) (k0_pay66 (k0_pay154 x0 x1 x2 x3 x4) (k0_pay167 x0 x1 x2 x3 x4) (k0_pay168 x0 x1 x2 x3 x4) (View.ld x3 r0_6) (View.ld x3 r0_7)) (k0_pay67 (k0_pay154 x0 x1 x2 x3 x4) (k0_pay167 x0 x1 x2 x3 x4) (k0_pay168 x0 x1 x2 x3 x4) (View.ld x3 r0_6) (View.ld x3 r0_7)) (k0_pay68 (k0_pay154 x0 x1 x2 x3 x4) (k0_pay167 x0 x1 x2 x3 x4) (k0_pay168 x0 x1 x2 x3 x4) (View.ld x3 r0_6) (View.ld x3 r0_7)) (k0_pay69 (k0_pay169 x0 x1 x2 x3 x4) (k0_pay170 x0 x1 x2 x3 x4) (k0_pay171 x0 x1 x2 x3 x4)) (View.ld x4 r0_6) (View.ld x4 r0_7) (View.ld x4 r0_6) (View.ld x4 r0_7)) (ix3 0 r d)
      = normed (diffRow (768 + r) (s ⟨768 + r, by omega⟩) (s' ⟨768 + r, by omega⟩) (lam (ix2 0 0)) fun k e => x4 (ix3 0 k e)) (fun e => g (ix2 0 e)) d := by
  unfold_payloads
  pointwise
  simp only [select_le256, mask_val, exp2_def]
  exact norm_of (g := fun e => g (ix2 0 e)) (fun e => diff_row (n := 768) (by omega) h h' r (fun k => x4 (ix3 0 k e)) (lam (ix2 0 0)) _ _ rfl rfl) rfl fun _ => rfl

theorem piece4 (r : Fin 256) (d : Fin 128) :
    k0_pay91 lam g (k0_pay87 (k0_pay172 x0 x1 x2 x3 x4) (k0_pay173 x0 x1 x2 x3 x4) (View.ld x3 r0_9)) (k0_pay88 (k0_pay172 x0 x1 x2 x3 x4) (k0_pay173 x0 x1 x2 x3 x4) (View.ld x3 r0_9)) (k0_pay89 (k0_pay78 (k0_pay154 x0 x1 x2 x3 x4) (View.ld x2 r0_8) (View.ld x3 r0_8) (View.ld x3 r0_9)) (k0_pay79 (k0_pay154 x0 x1 x2 x3 x4) (View.ld x2 r0_8) (View.ld x3 r0_8) (View.ld x3 r0_9)) (k0_pay80 (k0_pay154 x0 x1 x2 x3 x4) (View.ld x2 r0_8) (View.ld x3 r0_8) (View.ld x3 r0_9)) (View.ld x4 r0_8) (View.ld x4 r0_9)) (k0_pay90 (k0_pay172 x0 x1 x2 x3 x4) (k0_pay173 x0 x1 x2 x3 x4) (View.ld x3 r0_9)) (View.ld x4 r0_8) (View.ld x4 r0_9) (ix3 0 r d)
      = normed (diffRow (1024 + r) (s ⟨1024 + r, by omega⟩) (s' ⟨1024 + r, by omega⟩) (lam (ix2 0 0)) fun k e => x4 (ix3 0 k e)) (fun e => g (ix2 0 e)) d := by
  unfold_payloads
  pointwise
  simp only [select_le256, mask_val, exp2_def]
  exact norm_of (g := fun e => g (ix2 0 e)) (fun e => diff_row (n := 1024) (by omega) h h' r (fun k => x4 (ix3 0 k e)) (lam (ix2 0 0)) _ _ rfl rfl) rfl fun _ => rfl

theorem piece5 (r : Fin 256) (d : Fin 128) :
    k0_pay111 g (k0_pay109 lam (k0_pay180 x0 x1 x2 x3 x4) (k0_pay181 x0 x1 x2 x3 x4) (k0_pay182 x0 x1 x2 x3 x4) (k0_pay183 x0 x1 x2 x3 x4) (k0_pay184 x0 x1 x2 x3 x4) (k0_pay185 x0 x1 x2 x3 x4) (View.ld x4 r0_10) (View.ld x4 r0_11) (View.ld x4 r0_10) (View.ld x4 r0_11)) (k0_pay110 lam (k0_pay180 x0 x1 x2 x3 x4) (k0_pay181 x0 x1 x2 x3 x4) (k0_pay182 x0 x1 x2 x3 x4) (k0_pay183 x0 x1 x2 x3 x4) (k0_pay184 x0 x1 x2 x3 x4) (k0_pay185 x0 x1 x2 x3 x4) (View.ld x4 r0_10) (View.ld x4 r0_11) (View.ld x4 r0_10) (View.ld x4 r0_11)) (ix3 0 r d)
      = normed (diffRow (1280 + r) (s ⟨1280 + r, by omega⟩) (s' ⟨1280 + r, by omega⟩) (lam (ix2 0 0)) fun k e => x4 (ix3 0 k e)) (fun e => g (ix2 0 e)) d := by
  unfold_payloads
  pointwise
  simp only [select_le256, mask_val, exp2_def]
  exact norm_of (g := fun e => g (ix2 0 e)) (fun e => diff_row (n := 1280) (by omega) h h' r (fun k => x4 (ix3 0 k e)) (lam (ix2 0 0)) _ _ rfl rfl) rfl fun _ => rfl

theorem piece6 (r : Fin 256) (d : Fin 128) :
    k0_pay132 lam g (k0_pay121 (k0_pay119 (k0_pay154 x0 x1 x2 x3 x4) (View.ld x2 r0_12) (View.ld x3 r0_12) (View.ld x3 r0_13)) (k0_pay188 x0 x1 x2 x3 x4)) (k0_pay126 (k0_pay154 x0 x1 x2 x3 x4) (k0_pay186 x0 x1 x2 x3 x4) (k0_pay187 x0 x1 x2 x3 x4) (View.ld x3 r0_12) (View.ld x3 r0_13)) (k0_pay127 (k0_pay154 x0 x1 x2 x3 x4) (k0_pay186 x0 x1 x2 x3 x4) (k0_pay187 x0 x1 x2 x3 x4) (View.ld x3 r0_12) (View.ld x3 r0_13)) (k0_pay128 (k0_pay154 x0 x1 x2 x3 x4) (k0_pay186 x0 x1 x2 x3 x4) (k0_pay187 x0 x1 x2 x3 x4) (View.ld x3 r0_12) (View.ld x3 r0_13)) (k0_pay129 (k0_pay118 (k0_pay154 x0 x1 x2 x3 x4) (View.ld x2 r0_12) (View.ld x3 r0_12) (View.ld x3 r0_13)) (View.ld x4 r0_12)) (k0_pay130 (k0_pay188 x0 x1 x2 x3 x4)) (k0_pay131 (View.ld x4 r0_13)) (constant S256x128 .f32 0x00000000#32) (View.ld x4 r0_12) (View.ld x4 r0_13) (ix3 0 r d)
      = normed (diffRow (1536 + r) (s ⟨1536 + r, by omega⟩) (s' ⟨1536 + r, by omega⟩) (lam (ix2 0 0)) fun k e => x4 (ix3 0 k e)) (fun e => g (ix2 0 e)) d := by
  unfold_payloads
  pointwise
  simp only [select_le256, mask_val, exp2_def]
  exact norm_of (g := fun e => g (ix2 0 e)) (fun e => diff_row (n := 1536) (by omega) h h' r (fun k => x4 (ix3 0 k e)) (lam (ix2 0 0)) _ _ rfl rfl) rfl fun _ => rfl

theorem piece7 (r : Fin 256) (d : Fin 128) :
    k0_pay1 lam g (k0_pay149 (k0_pay192 x0 x1 x2 x3 x4) (k0_pay193 x0 x1 x2 x3 x4) (k0_pay194 x0 x1 x2 x3 x4) (View.ld x3 r0_15)) (k0_pay150 (k0_pay139 (k0_pay191 x0 x1 x2 x3 x4) (View.ld x3 r0_14) (View.ld x3 r0_15)) (k0_pay140 (k0_pay191 x0 x1 x2 x3 x4) (View.ld x3 r0_14) (View.ld x3 r0_15)) (k0_pay141 (k0_pay191 x0 x1 x2 x3 x4) (View.ld x3 r0_14) (View.ld x3 r0_15)) (View.ld x4 r0_14) (View.ld x4 r0_15)) (k0_pay151 (k0_pay192 x0 x1 x2 x3 x4) (k0_pay193 x0 x1 x2 x3 x4) (k0_pay194 x0 x1 x2 x3 x4) (View.ld x3 r0_15) (View.ld x4 r0_14) (View.ld x4 r0_15)) (ix3 0 r d)
      = normed (diffRow (1792 + r) (s ⟨1792 + r, by omega⟩) (s' ⟨1792 + r, by omega⟩) (lam (ix2 0 0)) fun k e => x4 (ix3 0 k e)) (fun e => g (ix2 0 e)) d := by
  unfold_payloads
  pointwise
  simp only [select_le256, mask_val, exp2_def]
  exact norm_of (g := fun e => g (ix2 0 e)) (fun e => diff_row (n := 1792) (by omega) h h' r (fun k => x4 (ix3 0 k e)) (lam (ix2 0 0)) _ _ rfl rfl) rfl fun _ => rfl

omit h h' in
/-- A query block's rows, at an index of the point's whole block. -/
theorem at_offset (n : ℕ) (hn : n + 256 ≤ 2048) (p : Vec Ideal S1x256x128 .bf16) (w : EReal)
    (hp : ∀ (r : Fin 256) (d : Fin 128), p (ix3 0 r d)
      = normed (diffRow (n + r) (s ⟨n + r, by omega⟩) (s' ⟨n + r, by omega⟩) w fun k e => x4 (ix3 0 k e)) (fun e => g (ix2 0 e)) d)
    (x : S1x256x128.Idx) (y : S1x2048x128.Idx) (h1 : (y 1 : ℕ) = n + (x 1 : ℕ)) (h2 : (y 2 : ℕ) = (x 2 : ℕ)) :
    p x = normed (diffRow (y 1) (s (y 1)) (s' (y 1)) w fun k e => x4 (ix3 0 k e)) (fun e => g (ix2 0 e)) (y 2) := by
  have e1 : y 1 = (⟨n + (x 1 : ℕ), by have : (x 1 : ℕ) < 256 := (x 1).isLt; omega⟩ : Fin 2048) := Fin.ext h1
  have e2 : y 2 = x 2 := Fin.ext h2
  have ex : x = ix3 0 (x 1) (x 2) := (eq_ix3 x).trans (by congr 1; exact Subsingleton.elim _ _)
  exact (congrArg p ex).trans ((hp (x 1) (x 2)).trans (by rw [e1, e2]))

/-- One grid point's stored block. -/
theorem block_at (y : S1x2048x128.Idx) :
    out0_5 x0 x1 x2 x3 x4 y
      = normed (diffRow (y 1) (s (y 1)) (s' (y 1)) (k0_pay2 x0 (ix2 0 0)) fun k e => x4 (ix3 0 k e)) (fun e => k0_pay3 x1 (ix2 0 e)) (y 2) := by
  have elam : k0_pay152 x0 x1 x2 x3 x4 = k0_pay2 x0 := by
    unfold k0_pay152
    exact congrArg k0_pay2 (funext fun y => by rw [eq_ix2 y]; pointwise)
  have eg : k0_pay153 x0 x1 x2 x3 x4 = k0_pay3 x1 := by
    unfold k0_pay153
    exact congrArg k0_pay3 (funext fun y => by rw [eq_ix2 y, Fin.eq_zero (y 0)]; pointwise)
  rw [← elam, ← eg]
  unfold out0_5
  canon_tiles x t
  case piece0 => exact at_offset x4 (k0_pay153 x0 x1 x2 x3 x4) 1792 (by omega) _ _ (piece7 x0 x1 x2 x3 x4 h h' _ _) x y t1 t2
  case piece1 => exact at_offset x4 (k0_pay153 x0 x1 x2 x3 x4) 1536 (by omega) _ _ (piece6 x0 x1 x2 x3 x4 h h' _ _) x y t1 t2
  case piece2 => exact at_offset x4 (k0_pay153 x0 x1 x2 x3 x4) 1280 (by omega) _ _ (piece5 x0 x1 x2 x3 x4 h h' _ _) x y t1 t2
  case piece3 => exact at_offset x4 (k0_pay153 x0 x1 x2 x3 x4) 1024 (by omega) _ _ (piece4 x0 x1 x2 x3 x4 h h' _ _) x y t1 t2
  case piece4 => exact at_offset x4 (k0_pay153 x0 x1 x2 x3 x4) 768 (by omega) _ _ (piece3 x0 x1 x2 x3 x4 h h' _ _) x y t1 t2
  case piece5 => exact at_offset x4 (k0_pay153 x0 x1 x2 x3 x4) 512 (by omega) _ _ (piece2 x0 x1 x2 x3 x4 h h' _ _) x y t1 t2
  case piece6 => exact at_offset x4 (k0_pay153 x0 x1 x2 x3 x4) 256 (by omega) _ _ (piece1 x0 x1 x2 x3 x4 h h' _ _) x y t1 t2
  case piece7 => exact at_offset x4 (k0_pay153 x0 x1 x2 x3 x4) 0 (by omega) _ _ (fun r d => (piece0 x0 x1 x2 x3 x4 h h' _ _ r d).trans (by simp only [Nat.zero_add])) x y (by omega) t2

end

end Cert.Diff

end
-- ==== Proof.Diff.Point.lean ====
/-
  The differential attention's result, entry by entry: grid point `8 b + h` holds batch `b`, head `h`; its blocks are the head's scaled
  queries, its keys and its values, out of the one packed operand, and its stored block is the head's block of the result.
-/
module

public import proofs.«01_k».proof.Proof.Diff.Block
public import Idealize.ShloMosaic.Lib.Claim

@[expose] public section

set_option maxRecDepth 16384

noncomputable section

namespace Cert.Diff

open Cert.Kernel4Ideal Cert.Kernel4Ideal.Gen Cert.Softmax Idealize.ShloMosaic Idealize.ShloMosaic.TcCoe Idealize.SL.Sem
open Idealize.ShloMosaic.Pipeline (Dat)

/-! ## The operands on the host -/

/-- Queries, scaled and over `log 2`, keys and values, side by side. -/
def packed (q k : FVec Ideal S16x2048x16x64 .f32) (v : FVec Ideal S16x2048x8x128 .f32) : FVec Ideal S16x2048x3072 .bf16 :=
  truncf FTy.bf16
    (concatenate S16x2048x3072 2
      [⟨S16x2048x1024, shapeCast S16x2048x1024
          (Host.divf (mulf q (broadcastInDim S16x2048x16x64 ![] bcast_S_S16x2048x16x64 (constant S_ FTy.f32 0x3E000000#32)))
            (broadcastInDim S16x2048x16x64 ![] bcast_S_S16x2048x16x64 (Host.log (constant S_ FTy.f32 0x40000000#32))))
          shapeCasts_S16x2048x16x64_S16x2048x1024⟩,
        ⟨S16x2048x1024, shapeCast S16x2048x1024 k shapeCasts_S16x2048x16x64_S16x2048x1024⟩,
        ⟨S16x2048x1024, shapeCast S16x2048x1024 v shapeCasts_S16x2048x8x128_S16x2048x1024⟩]
      concatenates_S16x2048x1024_S16x2048x1024_S16x2048x1024_S16x2048x3072_d2)
    bitsLt_bf16_f32

/-- The norm's weights. -/
def subln (w : FVec Ideal S128 .f32) : FVec Ideal S1x128 .f32 := shapeCast S1x128 w shapeCasts_S128_S1x128

section
variable (q k : FVec Ideal S16x2048x16x64 .f32) (v : FVec Ideal S16x2048x8x128 .f32) (b : Fin 16) (i : Fin 2048)

theorem packed_q (e : Fin 16) (l : Fin 64) : packed q k v (ix3 b i ⟨64 * e + l, by omega⟩)
    = scaled q b i e l := by
  pointwise [packed]
  exact dif_pos (by omega)

theorem packed_k (e : Fin 16) (l : Fin 64) : packed q k v (ix3 b i ⟨1024 + (64 * e + l), by omega⟩) = k (ix4 b i e l) := by
  pointwise [packed]
  exact dif_pos (by omega)

theorem packed_v (h : Fin 8) (d : Fin 128) : packed q k v (ix3 b i ⟨2048 + (128 * h + d), by omega⟩) = v (ix4 b i h d) := by
  pointwise [packed]
  rw [dif_neg (by omega), dif_neg (by omega)]
  exact congrArg₂ (fun h d => v (ix4 b i h d)) (Fin.ext (by simp only; omega)) (Fin.ext (by simp only; omega))

theorem subln_at (w : FVec Ideal S128 .f32) (d : Fin 128) : subln w (ix2 0 d) = w (ix1 d) := by
  pointwise [subln]
end

/-- The factor a grid point computes. -/
theorem factor_at (x : FVec Ideal S4x64 .f32) : (k0_pay2 (F := Ideal) x (ix2 0 0) : EReal) = factorOf x := by
  unfold_payloads
  pointwise
  rfl

theorem weight_at (x : FVec Ideal S1x128 .f32) (e : Fin 128) : (k0_pay3 (F := Ideal) x (ix2 0 e) : EReal) = x (ix2 0 e) * Ideal.ofBits .f32 0x3F4CCCCD#32 := by
  unfold_payloads
  pointwise

/-! ## The windows' blocks -/

/-- Every window's block at grid point `t` is batch `t / 8`, head `t % 8`. -/
theorem idx : ∀ t : Fin cfg0.N,
    win0_0.index t = ![0, 0] ∧ win0_1.index t = ![0, 0] ∧ win0_2.index t = ![t.val / 8, 0, t.val % 8]
    ∧ win0_3.index t = ![t.val / 8, 0, 8 + t.val % 8] ∧ win0_4.index t = ![t.val / 8, 0, 16 + t.val % 8]
    ∧ win0_5.index t = ![t.val / 8, 0, t.val % 8] :=
  (by decide +kernel : ∀ t : Fin grid0.N, _)

section Blocks
variable (c : Dev nD) (t : Fin cfg0.N) (b : Fin 16) (hb : t.val / 8 = b) (i : Fin 2048) (l : Fin 128)

theorem read_0 (A : Buf (Elt Ideal) ((c : Thread nD τ).loc (Pipeline.arrRef spec0 0))) :
    (((cfg0.win 0).blk t).view.read (Elt Ideal) A : Vec Ideal S4x64 .f32) = (A : FVec Ideal S4x64 .f32) := by
  funext y
  have e : (((cfg0.win 0).blk t).view.emb y : S4x64.Idx) = y := by
    blk_simp
    blk_ext [idx t]
  exact congrArg A e

theorem read_1 (A : Buf (Elt Ideal) ((c : Thread nD τ).loc (Pipeline.arrRef spec0 1))) :
    (((cfg0.win 1).blk t).view.read (Elt Ideal) A : Vec Ideal S1x128 .f32) = (A : FVec Ideal S1x128 .f32) := by
  funext y
  have e : (((cfg0.win 1).blk t).view.emb y : S1x128.Idx) = y := by
    blk_simp
    blk_ext [idx t]
  exact congrArg A e

include hb
theorem read_2 (A : Buf (Elt Ideal) ((c : Thread nD τ).loc (Pipeline.arrRef spec0 2))) (n : Fin 3072) (hn : (n : ℕ) = 128 * (t.val % 8) + l) :
    (((cfg0.win 2).blk t).view.read (Elt Ideal) A : Vec Ideal S1x2048x128 .bf16) (ix3 0 i l) = (A : FVec Ideal S16x2048x3072 .bf16) (ix3 b i n) := by
  have e : (((cfg0.win 2).blk t).view.emb (ix3 0 i l) : S16x2048x3072.Idx) = ix3 b i n := by
    blk_simp
    blk_ext [idx t, hb, hn]
  exact congrArg A e

theorem read_3 (A : Buf (Elt Ideal) ((c : Thread nD τ).loc (Pipeline.arrRef spec0 3))) (n : Fin 3072) (hn : (n : ℕ) = 128 * (8 + t.val % 8) + l) :
    (((cfg0.win 3).blk t).view.read (Elt Ideal) A : Vec Ideal S1x2048x128 .bf16) (ix3 0 i l) = (A : FVec Ideal S16x2048x3072 .bf16) (ix3 b i n) := by
  have e : (((cfg0.win 3).blk t).view.emb (ix3 0 i l) : S16x2048x3072.Idx) = ix3 b i n := by
    blk_simp
    blk_ext [idx t, hb, hn]
  exact congrArg A e

theorem read_4 (A : Buf (Elt Ideal) ((c : Thread nD τ).loc (Pipeline.arrRef spec0 4))) (n : Fin 3072) (hn : (n : ℕ) = 128 * (16 + t.val % 8) + l) :
    (((cfg0.win 4).blk t).view.read (Elt Ideal) A : Vec Ideal S1x2048x128 .bf16) (ix3 0 i l) = (A : FVec Ideal S16x2048x3072 .bf16) (ix3 b i n) := by
  have e : (((cfg0.win 4).blk t).view.emb (ix3 0 i l) : S16x2048x3072.Idx) = ix3 b i n := by
    blk_simp
    blk_ext [idx t, hb, hn]
  exact congrArg A e

theorem read_5 (A : Buf (Elt Ideal) ((c : Thread nD τ).loc (Pipeline.arrRef spec0 5))) (n : Fin 1024) (hn : (n : ℕ) = 128 * (t.val % 8) + l) :
    (((cfg0.win 5).blk t).view.read (Elt Ideal) A : Vec Ideal S1x2048x128 .bf16) (ix3 0 i l) = (A : FVec Ideal S16x2048x1024 .bf16) (ix3 b i n) := by
  have e : (((cfg0.win 5).blk t).view.emb (ix3 0 i l) : S16x2048x1024.Idx) = ix3 b i n := by
    blk_simp
    blk_ext [idx t, hb, hn]
  exact congrArg A e

end Blocks

/-! ## The two sub-heads' products -/

theorem select_lt (l : Fin 128) (x y : EReal) :
    Scalar.select (IntOp.cmpi .slt (BitVec.ofNat 32 (l : ℕ)) 64#32) x y = if (l : ℕ) < 64 then x else y := by
  rw [show (64#32 : BitVec 32) = BitVec.ofNat 32 64 from rfl, WordCmp.cmpi_slt_ofNat (by omega) (by omega), Scalar.select_ofBool]; simp

/-- The masked product is over the first sub-head's lanes. -/
theorem low_eq (q k : Vec Ideal S1x2048x128 .bf16) (i j : Fin 2048) :
    low q k i j = ∑ l : Fin 64, q (ix3 0 i ⟨l, by omega⟩) * k (ix3 0 j ⟨l, by omega⟩) := by
  unfold low
  simp only [select_lt]
  refine (Fin.sum_univ_add (a := 64) (b := 64) _).trans ?_
  simp only [Fin.val_castAdd, Fin.val_natAdd, Fin.is_lt, if_true, Nat.not_lt.mpr (Nat.le_add_right _ _), if_false, Finset.sum_const_zero, add_zero, zero_add]
  rfl

theorem high_eq (q k : Vec Ideal S1x2048x128 .bf16) (i j : Fin 2048) :
    high q k i j = ∑ l : Fin 64, q (ix3 0 i ⟨64 + l, by omega⟩) * k (ix3 0 j ⟨64 + l, by omega⟩) := by
  unfold high
  simp only [select_lt]
  refine (Fin.sum_univ_add (a := 64) (b := 64) _).trans ?_
  simp only [Fin.val_castAdd, Fin.val_natAdd, Fin.is_lt, if_true, Nat.not_lt.mpr (Nat.le_add_right _ _), if_false, Finset.sum_const_zero, add_zero, zero_add]
  rfl

/-! ## The result -/

section Result
variable (m : (ℓ : Loc nD τ sig) → Buf (Elt Ideal) ℓ) (c : Dev nD)

theorem entry_0 : V m c (Pipeline.arrRef spec0 0) = m ((c : Thread nD τ).loc main_arg3) := by
  show V m c main_arg3 = _
  entry_read; rfl

theorem entry_1 : V m c (Pipeline.arrRef spec0 1) = subln (m ((c : Thread nD τ).loc main_arg4)) := by
  show V m c main_v10 = _
  entry_read; rfl

/-- The operand that windows 2, 3 and 4 share. -/
theorem entry_packed : V m c main_v9 = packed (m ((c : Thread nD τ).loc main_arg0)) (m ((c : Thread nD τ).loc main_arg1)) (m ((c : Thread nD τ).loc main_arg2)) := by
  show StableHlo.after hostOps0 _ _ = _
  simp only [StableHlo.after_cons, StableHlo.after_nil]
  after_results_simp
  rfl

variable (t : Fin cfg0.N)

theorem iblk_0 : iblk m c 0 t = ((cfg0.win 0).blk t).view.read (Elt Ideal) (m ((c : Thread nD τ).loc main_arg3)) := by
  unfold iblk; rw [entry_0]

theorem iblk_1 : iblk m c 1 t = ((cfg0.win 1).blk t).view.read (Elt Ideal) (subln (m ((c : Thread nD τ).loc main_arg4))) := by
  unfold iblk; rw [entry_1]

theorem iblk_2 : iblk m c 2 t = ((cfg0.win 2).blk t).view.read (Elt Ideal)
    (packed (m ((c : Thread nD τ).loc main_arg0)) (m ((c : Thread nD τ).loc main_arg1)) (m ((c : Thread nD τ).loc main_arg2))) := by
  unfold iblk; rw [show V m c (Pipeline.arrRef spec0 2) = _ from entry_packed m c]

theorem iblk_3 : iblk m c 3 t = ((cfg0.win 3).blk t).view.read (Elt Ideal)
    (packed (m ((c : Thread nD τ).loc main_arg0)) (m ((c : Thread nD τ).loc main_arg1)) (m ((c : Thread nD τ).loc main_arg2))) := by
  unfold iblk; rw [show V m c (Pipeline.arrRef spec0 3) = _ from entry_packed m c]

theorem iblk_4 : iblk m c 4 t = ((cfg0.win 4).blk t).view.read (Elt Ideal)
    (packed (m ((c : Thread nD τ).loc main_arg0)) (m ((c : Thread nD τ).loc main_arg1)) (m ((c : Thread nD τ).loc main_arg2))) := by
  unfold iblk; rw [show V m c (Pipeline.arrRef spec0 4) = _ from entry_packed m c]

variable (b : Fin 16) (hb : t.val / 8 = b) (h : Fin 8) (hh : t.val % 8 = h)
include hb hh

theorem blk_q (i : Fin 2048) (l : Fin 128) (e : Fin 16) (l' : Fin 64) (hl : 128 * (h : ℕ) + l = 64 * e + l') :
    (iblk m c 2 t : Vec Ideal S1x2048x128 .bf16) (ix3 0 i l)
      = scaled (m ((c : Thread nD τ).loc main_arg0)) b i e l' := by
  rw [iblk_2]
  exact (read_2 c t b hb i l _ ⟨64 * e + l', by omega⟩ (by simp only [hh]; omega)).trans (packed_q _ _ _ b i e l')

theorem blk_k (i : Fin 2048) (l : Fin 128) (e : Fin 16) (l' : Fin 64) (hl : 128 * (h : ℕ) + l = 64 * e + l') :
    (iblk m c 3 t : Vec Ideal S1x2048x128 .bf16) (ix3 0 i l) = (m ((c : Thread nD τ).loc main_arg1) : FVec Ideal S16x2048x16x64 .f32) (ix4 b i e l') := by
  rw [iblk_3]
  exact (read_3 c t b hb i l _ ⟨1024 + (64 * e + l'), by omega⟩ (by simp only [hh]; omega)).trans (packed_k _ _ _ b i e l')

theorem blk_v (i : Fin 2048) (d : Fin 128) :
    (iblk m c 4 t : Vec Ideal S1x2048x128 .bf16) (ix3 0 i d) = (m ((c : Thread nD τ).loc main_arg2) : FVec Ideal S16x2048x8x128 .f32) (ix4 b i h d) := by
  rw [iblk_4]
  exact (read_4 c t b hb i d _ ⟨2048 + (128 * h + d), by omega⟩ (by simp only [hh]; omega)).trans (packed_v _ _ _ b i h d)

section Finite
variable (hq : ∀ y, Finite (m ((c : Thread nD τ).loc main_arg0) y)) (hk : ∀ y, Finite (m ((c : Thread nD τ).loc main_arg1) y))
include hq hk

theorem scores_low : Scores (low (iblk m c 2 t) (iblk m c 3 t))
    (subscore (m ((c : Thread nD τ).loc main_arg0)) (m ((c : Thread nD τ).loc main_arg1)) b (lowHead h)) := by
  intro i j
  refine (low_eq _ _ i j).trans (Eq.trans (Finset.sum_congr rfl fun l _ => ?_) (subscore_scaled hq hk b (lowHead h) i j))
  exact congrArg₂ (· * ·) (blk_q m c t b hb h hh i ⟨l, by omega⟩ (lowHead h) l (by simp only [lowHead]; omega))
    (blk_k m c t b hb h hh j ⟨l, by omega⟩ (lowHead h) l (by simp only [lowHead]; omega))

theorem scores_high : Scores (high (iblk m c 2 t) (iblk m c 3 t))
    (subscore (m ((c : Thread nD τ).loc main_arg0)) (m ((c : Thread nD τ).loc main_arg1)) b (highHead h)) := by
  intro i j
  refine (high_eq _ _ i j).trans (Eq.trans (Finset.sum_congr rfl fun l _ => ?_) (subscore_scaled hq hk b (highHead h) i j))
  exact congrArg₂ (· * ·) (blk_q m c t b hb h hh i ⟨64 + l, by omega⟩ (highHead h) l (by simp only [highHead]; omega))
    (blk_k m c t b hb h hh j ⟨64 + l, by omega⟩ (highHead h) l (by simp only [highHead]; omega))

/-- A grid point's stored block, at an entry. -/
theorem point_at (i : Fin 2048) (d : Fin 128) :
    out0_5 (iblk m c 0 t) (iblk m c 1 t) (iblk m c 2 t) (iblk m c 3 t) (iblk m c 4 t) (ix3 0 i d)
      = diff (m ((c : Thread nD τ).loc main_arg0)) (m ((c : Thread nD τ).loc main_arg1)) (m ((c : Thread nD τ).loc main_arg2))
          (m ((c : Thread nD τ).loc main_arg3)) (m ((c : Thread nD τ).loc main_arg4)) b h i d := by
  refine (block_at _ _ _ _ _ (scores_low m c t b hb h hh hq hk) (scores_high m c t b hb h hh hq hk) (ix3 0 i d)).trans ?_
  unfold diff
  have e0 : k0_pay2 (F := Ideal) (iblk m c 0 t) (ix2 0 0) = factorOf (m ((c : Thread nD τ).loc main_arg3)) := by
    rw [iblk_0]
    exact (factor_at _).trans (congrArg factorOf (read_0 c t _))
  have e1 : (fun e : Fin 128 => k0_pay3 (F := Ideal) (iblk m c 1 t) (ix2 0 e))
      = weightOf (m ((c : Thread nD τ).loc main_arg4)) := by
    rw [iblk_1]
    funext e
    exact (weight_at _ e).trans (congrArg (· * _) ((congrFun (read_1 c t _) (ix2 0 e)).trans (subln_at _ e)))
  have e2 : (fun (k : Fin 2048) (e : Fin 128) => (iblk m c 4 t : Vec Ideal S1x2048x128 .bf16) (ix3 0 k e))
      = fun k e => (m ((c : Thread nD τ).loc main_arg2) : FVec Ideal S16x2048x8x128 .f32) (ix4 b k h e) :=
    funext fun k => funext fun e => blk_v m c t b hb h hh k e
  exact congrArg₂ (fun o g => normed o g d) (congrArg₂ (fun x v => diffRow i _ _ x v) e0 e2) e1

end Finite
end Result

/-- Every grid point writes its block back. -/
theorem flush : ∀ t : Fin cfg0.N, (cfg0.win 5).flush t = true := (by decide +kernel : ∀ t : Fin grid0.N, win0_5.flush t = true)

/-- The result, at an entry. -/
theorem result_at (m : (ℓ : Loc nD τ sig) → Buf (Elt Ideal) ℓ) (c : Dev nD)
    (hq : ∀ y, Finite (m ((c : Thread nD τ).loc main_arg0) y)) (hk : ∀ y, Finite (m ((c : Thread nD τ).loc main_arg1) y))
    (b : Fin 16) (h : Fin 8) (i : Fin 2048) (d : Fin 128) :
    ((dats m 0 c).arrAt 5 cfg0.N : FVec Ideal S16x2048x1024 .bf16) (ix3 b i ⟨128 * h + d, by omega⟩)
      = diff (m ((c : Thread nD τ).loc main_arg0)) (m ((c : Thread nD τ).loc main_arg1)) (m ((c : Thread nD τ).loc main_arg2))
          (m ((c : Thread nD τ).loc main_arg3)) (m ((c : Thread nD τ).loc main_arg4)) b h i d := by
  obtain ⟨t, hb, hh⟩ : ∃ t : Fin cfg0.N, t.val / 8 = b ∧ t.val % 8 = h :=
    ⟨⟨8 * b + h, by show _ < 128; omega⟩, by simp only; omega, by simp only; omega⟩
  refine (read_5 c t b hb i d ((dats m 0 c).arrAt 5 cfg0.N) _ (by simp only [hh])).symm.trans ?_
  rw [Value.blocks5 m c t (flush t), Value.flushed5]
  exact point_at m c t b hb h hh hq hk i d

end Cert.Diff

end
-- ==== Proof.Diff.RefValue.lean ====
/-
  The differential attention's reference, operation by operation: the masked scores, the softmax of each sub-head, the difference of a
  head's two, the weighted sums and their norm, each read at an entry; composed, they are Proof/Diff/Rows.lean `diff`.
-/
module

public import proofs.«01_k».proof.Proof.Gen.Reference4Ideal.Run
public import Idealize.ShloMosaic.Lib.Pipeline.ValueKit
public import Idealize.ShloMosaic.Lib.Pointwise
public import Idealize.ShloMosaic.Lib.Tactic.CleanTypes
public import proofs.«01_k».proof.Proof.Diff.Rows
public import proofs.«01_k».proof.Proof.Mla.RefValue

@[expose] public section

set_option maxRecDepth 16384

noncomputable section

namespace Cert.Diff.Ref

open Cert.Softmax Cert.Reference4Ideal Cert.Reference4Ideal.Gen Cert.Reference4Ideal.Value Idealize.ShloMosaic Idealize.ShloMosaic.TcCoe Idealize.SL.Sem Idealize.ShloMosaic.StableHlo

/-- The scores over 8, keys after the query masked. -/
def masked (q k : FVec Ideal S16x2048x16x64 .f32) : FVec Ideal S16x16x2048x2048 .f32 :=
  select (broadcastInDim S16x16x2048x2048 ![2, 3] bcast_S2048x2048_S16x16x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))
    (mulf (Host.dotGeneral dot_S16x2048x16x64_S16x2048x16x64_S16x16x2048x2048_3_3_1_1_02_02 none q k) (broadcastInDim S16x16x2048x2048 ![] bcast_S_S16x16x2048x2048 (constant S_ .f32 0x3E000000#32)))
    (broadcastInDim S16x16x2048x2048 ![] bcast_S_S16x16x2048x2048 (constant S_ .f32 0xFF800000#32))

/-- A row's maximum. -/
def rowMax (x : FVec Ideal S16x16x2048x2048 .f32) : FVec Ideal S16x16x2048 .f32 :=
  Host.reduce FloatOps.maximumf x (constant S_ .f32 0xFF800000#32) reducesTo_S16x16x2048x2048_S16x16x2048_d3 h_S_

/-- The exponentials of a row less its maximum `y`. -/
def weights (x : FVec Ideal S16x16x2048x2048 .f32) (y : FVec Ideal S16x16x2048 .f32) : FVec Ideal S16x16x2048x2048 .f32 :=
  Host.exp (subf x (broadcastInDim S16x16x2048x2048 ![0, 1, 2, 3] bcast_S16x16x2048x1_S16x16x2048x2048_0_1_2_3 (broadcastInDim S16x16x2048x1 ![0, 1, 2] bcast_S16x16x2048_S16x16x2048x1_0_1_2 (maximumf (broadcastInDim S16x16x2048 ![] bcast_S_S16x16x2048 (constant S_ .f32 0xFF800000#32)) y))))

/-- A row over its sum. -/
def softmaxed (e : FVec Ideal S16x16x2048x2048 .f32) : FVec Ideal S16x16x2048x2048 .f32 :=
  Host.divf e (broadcastInDim S16x16x2048x2048 ![0, 1, 2, 3] bcast_S16x16x2048x1_S16x16x2048x2048_0_1_2_3 (broadcastInDim S16x16x2048x1 ![0, 1, 2] bcast_S16x16x2048_S16x16x2048x1_0_1_2 (Host.reduceAdd e (constant S_ .f32 0x00000000#32) reducesTo_S16x16x2048x2048_S16x16x2048_d3 h_S_)))

/-- The factor of the second softmax. -/
def factor (x : FVec Ideal S4x64 .f32) : FVec Ideal S_ .f32 :=
  addf (subf (Host.exp (Host.reduceAdd (mulf (shapeCast _ (extractStridedSlice S1x64 ![0, 0] x slices_S4x64_S1x64_0_0) shapeCasts_S1x64_S64) (shapeCast _ (extractStridedSlice S1x64 ![1, 0] x slices_S4x64_S1x64_1_0) shapeCasts_S1x64_S64)) (constant S_ .f32 0x00000000#32) reducesTo_S64_S_d0 h_S_))
    (Host.exp (Host.reduceAdd (mulf (shapeCast _ (extractStridedSlice S1x64 ![2, 0] x slices_S4x64_S1x64_2_0) shapeCasts_S1x64_S64) (shapeCast _ (extractStridedSlice S1x64 ![3, 0] x slices_S4x64_S1x64_3_0) shapeCasts_S1x64_S64)) (constant S_ .f32 0x00000000#32) reducesTo_S64_S_d0 h_S_)))
    (constant S_ .f32 0x3E4CCCCD#32)

/-- The difference of a head's two softmaxes. -/
def minus (p : FVec Ideal S16x16x2048x2048 .f32) (w : FVec Ideal S_ .f32) : FVec Ideal S16x8x2048x2048 .f32 :=
  subf (shapeCast _ (extractStridedSlice S16x8x1x2048x2048 ![0, 0, 0, 0, 0] (shapeCast _ p shapeCasts_S16x16x2048x2048_S16x8x2x2048x2048) slices_S16x8x2x2048x2048_S16x8x1x2048x2048_0_0_0_0_0) shapeCasts_S16x8x1x2048x2048_S16x8x2048x2048)
    (mulf (broadcastInDim S16x8x2048x2048 ![] bcast_S_S16x8x2048x2048 w) (shapeCast _ (extractStridedSlice S16x8x1x2048x2048 ![0, 0, 1, 0, 0] (shapeCast _ p shapeCasts_S16x16x2048x2048_S16x8x2x2048x2048) slices_S16x8x2x2048x2048_S16x8x1x2048x2048_0_0_1_0_0) shapeCasts_S16x8x1x2048x2048_S16x8x2048x2048))

/-- The weighted sums of the values. -/
def mixed (v : FVec Ideal S16x2048x8x128 .f32) (p : FVec Ideal S16x8x2048x2048 .f32) : FVec Ideal S16x2048x8x128 .f32 :=
  transpose S16x2048x8x128 [0, 3, 1, 2] (Host.dotGeneral dot_S16x2048x8x128_S16x8x2048x2048_S16x8x128x2048_1_3_3_2_02_01 none v p) transposes_S16x8x128x2048_S16x2048x8x128_0_3_1_2

/-- The rows over the roots of their mean squares, times the weights, heads side by side. -/
def finished (o : FVec Ideal S16x2048x8x128 .f32) (w : FVec Ideal S128 .f32) : FVec Ideal S16x2048x1024 .bf16 :=
  truncf .bf16 (shapeCast _ (mulf (mulf
    (mulf o (broadcastInDim S16x2048x8x128 ![0, 1, 2, 3] bcast_S16x2048x8x1_S16x2048x8x128_0_1_2_3 (Host.rsqrt (addf (Host.divf (broadcastInDim S16x2048x8x1 ![0, 1, 2] bcast_S16x2048x8_S16x2048x8x1_0_1_2 (Host.reduceAdd (mulf o o) (constant S_ .f32 0x00000000#32) reducesTo_S16x2048x8x128_S16x2048x8_d3 h_S_)) (broadcastInDim S16x2048x8x1 ![] bcast_S_S16x2048x8x1 (constant S_ .f32 0x43000000#32))) (broadcastInDim S16x2048x8x1 ![] bcast_S_S16x2048x8x1 (constant S_ .f32 0x358637BD#32))))))
    (broadcastInDim S16x2048x8x128 ![0, 1, 2, 3] bcast_S1x1x1x128_S16x2048x8x128_0_1_2_3 (broadcastInDim S1x1x1x128 ![3] bcast_S128_S1x1x1x128_3 w)))
    (broadcastInDim S16x2048x8x128 ![] bcast_S_S16x2048x8x128 (constant S_ .f32 0x3F4CCCCD#32))) shapeCasts_S16x2048x8x128_S16x2048x1024) bitsLt_bf16_f32

theorem rowMax_at (x : FVec Ideal S16x16x2048x2048 .f32) (b h : Fin 16) (i : Fin 2048) :
    rowMax x (ix3 b h i) = Finset.univ.fold max (Ideal.ofBits FTy.f32 0xFF800000#32) (fun k => x (ix4 b h i k)) :=
  Cert.Mla.Ref.reduceMax_at x _ _ _ b h i

theorem masked_at (q k : FVec Ideal S16x2048x16x64 .f32) (b h : Fin 16) (i j : Fin 2048) :
    masked q k (ix4 b h i j) = Scalar.select (IntOp.cmpi .sle (BitVec.ofNat 32 (j : ℕ)) (BitVec.ofNat 32 (i : ℕ)))
      ((∑ x, q (ix4 b i h x) * k (ix4 b j h x)) * Ideal.ofBits .f32 0x3E000000#32) (Ideal.ofBits .f32 0xFF800000#32) := by
  pointwise [masked]

theorem weights_at (x : FVec Ideal S16x16x2048x2048 .f32) (y : FVec Ideal S16x16x2048 .f32) (b h : Fin 16) (i j : Fin 2048) :
    weights x y (ix4 b h i j) = Ideal.exp (x (ix4 b h i j) - max (Ideal.ofBits .f32 0xFF800000#32) (y (ix3 b h i))) := by
  pointwise [weights]

theorem softmaxed_at (x : FVec Ideal S16x16x2048x2048 .f32) (b h : Fin 16) (i j : Fin 2048) :
    softmaxed x (ix4 b h i j) = Ideal.div (x (ix4 b h i j)) (∑ k, x (ix4 b h i k)) := by
  pointwise [softmaxed]

theorem factor_at (x : FVec Ideal S4x64 .f32) (y : S_.Idx) : factor x y = factorOf x := by
  pointwise [factor]
  rfl

theorem minus_at (p : FVec Ideal S16x16x2048x2048 .f32) (w : FVec Ideal S_ .f32) (z : EReal) (hw : ∀ y, w y = z) (b : Fin 16) (h : Fin 8) (i j : Fin 2048) :
    minus p w (ix4 b h i j) = p (ix4 b (lowHead h) i j) - z * p (ix4 b (highHead h) i j) := by
  obtain rfl : w = fun _ => z := funext hw
  pointwise [minus]
  simp only [lowHead, highHead, Nat.mul_comm 2]

theorem mixed_at (v : FVec Ideal S16x2048x8x128 .f32) (p : FVec Ideal S16x8x2048x2048 .f32) (b : Fin 16) (h : Fin 8) (i : Fin 2048) (d : Fin 128) :
    mixed v p (ix4 b i h d) = ∑ k, v (ix4 b k h d) * p (ix4 b h i k) := by
  pointwise [mixed]

theorem finished_at (o : FVec Ideal S16x2048x8x128 .f32) (w : FVec Ideal S128 .f32) (b : Fin 16) (h : Fin 8) (i : Fin 2048) (d : Fin 128) :
    finished o w (ix3 b i ⟨128 * h + d, by omega⟩) = normed (fun e => o (ix4 b i h e)) (weightOf w) d := by
  pointwise [finished]
  rw [mul_assoc]
  rfl

/-- A score, masked. -/
theorem score_at {q k : FVec Ideal S16x2048x16x64 .f32} (hq : ∀ y, Finite (q y)) (hk : ∀ y, Finite (k y)) (b h : Fin 16) (i j : Fin 2048) :
    masked q k (ix4 b h i j) = if (j : ℕ) ≤ i then ((subscore q k b h i j : ℝ) : EReal) else ⊥ := by
  rw [masked_at, select_le j.isLt i.isLt, negInf, eighth]
  congr 1
  rw [dotRow_eq (a := fun l => q (ix4 b i h l)) (b := fun l => k (ix4 b j h l)) (fun _ => hq _) (fun _ => hk _), ← EReal.coe_mul, subscore, mul_one_div]

/-- The weights, at an entry. -/
theorem weight_at {X : FVec Ideal S16x16x2048x2048 .f32} (b h : Fin 16) (i j : Fin 2048) :
    softmaxed (weights X (rowMax X)) (ix4 b h i j)
      = Ideal.div (Ideal.exp (X (ix4 b h i j) - Finset.univ.fold max (Ideal.ofBits FTy.f32 0xFF800000#32) fun k => X (ix4 b h i k)))
          (∑ l, Ideal.exp (X (ix4 b h i l) - Finset.univ.fold max (Ideal.ofBits FTy.f32 0xFF800000#32) fun k => X (ix4 b h i k))) := by
  have hm : ∀ y : EReal, max (Ideal.ofBits .f32 0xFF800000#32) y = y := fun y => by rw [max_eq_right]; exact negInf ▸ bot_le
  rw [softmaxed_at]
  simp only [weights_at, rowMax_at, hm]

/-- The composed operations, at an entry. -/
theorem composed_at {q k : FVec Ideal S16x2048x16x64 .f32} {v : FVec Ideal S16x2048x8x128 .f32} {x : FVec Ideal S4x64 .f32} (w : FVec Ideal S128 .f32)
    (hq : ∀ y, Finite (q y)) (hk : ∀ y, Finite (k y)) (hv : ∀ y, Finite (v y)) (hx : ∀ y, Finite (x y)) (b : Fin 16) (h : Fin 8) (i : Fin 2048) (d : Fin 128) :
    finished (mixed v (minus (softmaxed (weights (masked q k) (rowMax (masked q k)))) (factor x))) w (ix3 b i ⟨128 * h + d, by omega⟩)
      = diff q k v x w b h i d := by
  rw [finished_at, diff]
  congr 1
  funext e
  rw [mixed_at, diffRow]
  have hX : ∀ (h : Fin 16) (j : Fin 2048), masked q k (ix4 b h i j) = if (j : ℕ) ≤ i then ((subscore q k b h i j : ℝ) : EReal) else ⊥ :=
    fun h j => score_at hq hk b h i j
  generalize masked q k = X at hX
  refine (Finset.sum_congr rfl fun j _ => ?_).trans
    (plain_diff i _ _ (hX (lowHead h)) (hX (highHead h)) rfl rfl (v := fun j => v (ix4 b j h e)) (fun _ => hv _) (factor_finite hx))
  rw [minus_at _ _ _ (factor_at x), weight_at, weight_at]

/-- The reference's result, at an entry. -/
theorem result_at (m : (ℓ : Loc nD τ sig) → Buf (Elt Ideal) ℓ) (c : Dev nD)
    (hq : ∀ y, Finite (m ((c.tc : Thread nD τ).loc main_arg0) y)) (hk : ∀ y, Finite (m ((c.tc : Thread nD τ).loc main_arg1) y))
    (hv : ∀ y, Finite (m ((c.tc : Thread nD τ).loc main_arg2) y)) (hx : ∀ y, Finite (m ((c.tc : Thread nD τ).loc main_arg3) y))
    (b : Fin 16) (h : Fin 8) (i : Fin 2048) (d : Fin 128) :
    (res_out0 m c : FVec Ideal S16x2048x1024 .bf16) (ix3 b i ⟨128 * h + d, by omega⟩)
      = diff (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) b h i d :=
  composed_at _ hq hk hv hx b h i d

end Cert.Diff.Ref

end
-- ==== Proof.Diff.Claims.lean ====
/-
  The claims about the differential attention kernel: the frames, the mask's named value, and the equality with the reference on finite
  queries, keys, values and factors.
-/
module

public import proofs.«01_k».proof.Defs
public import proofs.«01_k».proof.Proof.Gen.Kernel4.Frame
public import proofs.«01_k».proof.Proof.Diff.Point
public import proofs.«01_k».proof.Proof.Diff.RefValue
public import proofs.«01_k».proof.Proof.Mla.Claims
public import Idealize.ShloMosaic.Lib.Quiescent

@[expose] public section

noncomputable section

namespace Cert.Diff.Claims

open Cert.Softmax Idealize.ShloMosaic Idealize.ShloMosaic.TcCoe Idealize.SL.Sem

instance facts_pre : Cert.Pre_finite4.Facts := ⟨by decide, by decide, by decide⟩

theorem frame_p : Cert.quiescent_Kernel4 := fun m ρ _ => Cert.Kernel4.Gen.frame m ρ
theorem frame_pi : Cert.quiescent_Kernel4Ideal := fun m ρ _ => Cert.Kernel4Ideal.Gen.frame m ρ
theorem frame_pi_pre : Cert.quiescent_Kernel4Ideal_pre_finite4 := fun m ρ _ => Cert.Kernel4Ideal.Gen.frame m ρ
theorem frame_ri : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)
theorem frame_ri_pre : Cert.quiescent_Reference4Ideal_pre_finite4 := fun m ρ _ => frame_ri m ρ trivial

theorem preserves : Cert.preserves_Kernel4_Kernel4Ideal :=
  IdealRules.named_const.statement Cert.Kernel4Ideal.κ "mask" .f32 0xFF7F0000#32 ⊥ rfl

/-- The precondition: finite queries, keys, values and factors. -/
theorem finite_of_pre {q k : FVec Ideal Cert.Pre_finite4.S16x2048x16x64 .f32} {v : FVec Ideal Cert.Pre_finite4.S16x2048x8x128 .f32}
    {x : FVec Ideal Cert.Pre_finite4.S4x64 .f32} {w : FVec Ideal Cert.Pre_finite4.S128 .f32}
    (h : (Cert.Pre_finite4.fn (F := Ideal) q k v x w).1 = (fun _ => 1#1) ∧ (Cert.Pre_finite4.fn (F := Ideal) q k v x w).2.1 = (fun _ => 1#1)
      ∧ (Cert.Pre_finite4.fn (F := Ideal) q k v x w).2.2.1 = (fun _ => 1#1) ∧ (Cert.Pre_finite4.fn (F := Ideal) q k v x w).2.2.2 = (fun _ => 1#1)) :
    (∀ y, Finite (q y)) ∧ (∀ y, Finite (k y)) ∧ (∀ y, Finite (v y)) ∧ ∀ y, Finite (x y) :=
  ⟨fun y => finite_of_abs (congrFun h.1 y), fun y => finite_of_abs (congrFun h.2.1 y),
    fun y => finite_of_abs (congrFun h.2.2.1 y), fun y => finite_of_abs (congrFun h.2.2.2 y)⟩

theorem algebraic : Cert.algebraic_Kernel4Ideal_Reference4Ideal_pre_finite4 := by
  intro m g m' g' hpre hagree
  refine ⟨_, Cert.Kernel4Ideal.Value.run_blocks (F := Ideal) m g, ?_⟩
  refine (θ_run Cert.Reference4Ideal.defs _ _).mono (fun _ h c => ⟨(h c).1.trans ?_, (h c).2⟩) (Cert.Reference4Ideal.Value.run (F := Ideal) m' g')
  obtain ⟨hq, hk, hv, hx⟩ := finite_of_pre (hpre c)
  obtain ⟨e0, e1, e2, e3, e4⟩ := hagree c
  refine Mla.Claims.ext_heads fun b h i d => ?_
  refine (Ref.result_at m' c (by rw [e0]; exact hq) (by rw [e1]; exact hk) (by rw [e2]; exact hv) (by rw [e3]; exact hx) b h i d).trans ?_
  rw [e0, e1, e2, e3, e4]
  exact (result_at m c hq hk b h i d).symm

end Cert.Diff.Claims

end
-- ==== Proof.lean ====
/-
  The certificate: the claims about the two attentions, the gated merge, the output projection and the differential layer's
  preparation.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Mla.Claims
public import proofs.«01_k».proof.Proof.Merge.Claims
public import proofs.«01_k».proof.Proof.Outproj.Claims
public import proofs.«01_k».proof.Proof.Prep.Claims
public import proofs.«01_k».proof.Proof.Lat.Claims
public import proofs.«01_k».proof.Proof.Diff.Claims
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Mla.Claims.facts_pre, Diff.Claims.facts_pre,
  Mla.Claims.frame_p, Mla.Claims.frame_pi, Mla.Claims.frame_pi_pre, Mla.Claims.frame_ri, Mla.Claims.frame_ri_pre,
  Merge.Claims.frame_p, Merge.Claims.frame_pi, Merge.Claims.frame_ri,
  Outproj.Claims.frame_p, Outproj.Claims.frame_pi, Outproj.Claims.frame_ri,
  Diff.Claims.frame_p, Diff.Claims.frame_pi, Diff.Claims.frame_pi_pre, Diff.Claims.frame_ri, Diff.Claims.frame_ri_pre,
  Prep.Claims.frame_p, Prep.Claims.frame_pi, Prep.Claims.frame_ri,
  Lat.Claims.frame_p, Lat.Claims.frame_pi, Lat.Claims.frame_ri,
  Mla.Claims.preserves, Mla.Claims.algebraic, Merge.Claims.preserves, Merge.Claims.algebraic,
  Outproj.Claims.preserves, Outproj.Claims.algebraic, Diff.Claims.preserves, Diff.Claims.algebraic,
  Prep.Claims.preserves, Prep.Claims.algebraic, Lat.Claims.preserves, Lat.Claims.algebraic⟩

end Cert.Proof

end
